-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "third" .f32 0x3EAAAAAB#32 ((1 / 3 : ℝ) : EReal)
  ∧ IdealRules.named_const.Statement Cert.KernelIdeal.κ "eps3" .f32 0x2FB7407F#32 ((9007199 / 27021597764222976 : ℝ) : EReal)

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S20000x4 : Shape := ⟨2, ![20000, 4]⟩
abbrev S20000 : Shape := ⟨1, ![20000]⟩
abbrev S_ : Shape := ⟨0, ![]⟩
abbrev S20000x1 : Shape := ⟨2, ![20000, 1]⟩
abbrev S1 : Shape := ⟨1, ![1]⟩
abbrev S1x4 : Shape := ⟨2, ![1, 4]⟩
abbrev S4 : Shape := ⟨1, ![4]⟩
abbrev S2 : Shape := ⟨1, ![2]⟩
abbrev S20000x2 : Shape := ⟨2, ![20000, 2]⟩
abbrev S1x2 : Shape := ⟨2, ![1, 2]⟩
abbrev S125x160 : Shape := ⟨2, ![125, 160]⟩
abbrev S125x160x1 : Shape := ⟨3, ![125, 160, 1]⟩
abbrev S125x1x160 : Shape := ⟨3, ![125, 1, 160]⟩
abbrev S160 : Shape := ⟨1, ![160]⟩
abbrev S125x160x160 : Shape := ⟨3, ![125, 160, 160]⟩
abbrev S1x1x160 : Shape := ⟨3, ![1, 1, 160]⟩
abbrev S1x160x1 : Shape := ⟨3, ![1, 160, 1]⟩
abbrev S1x160x160 : Shape := ⟨3, ![1, 160, 160]⟩

class Facts : Prop where
  bcast_S_S20000x4 : S_.BroadcastsInDim S20000x4 (![] : Fin 0 → Fin S20000x4.rank)
  reducesTo_S20000x4_S_d0_1 : S20000x4.ReducesTo [0, 1] S_
  h_S_ : 0 < S_.numel
  bcast_S_S20000 : S_.BroadcastsInDim S20000 (![] : Fin 0 → Fin S20000.rank)
  reducesTo_S20000_S_d0 : S20000.ReducesTo [0] S_
  slices_S20000x4_S20000x1_0_0 : S20000x4.Slices ![0, 0] S20000x1
  shapeCasts_S20000x1_S20000 : S20000x1.ShapeCasts S20000
  slices_S20000x4_S20000x1_0_1 : S20000x4.Slices ![0, 1] S20000x1
  slices_S20000x4_S20000x1_0_2 : S20000x4.Slices ![0, 2] S20000x1
  slices_S20000x4_S20000x1_0_3 : S20000x4.Slices ![0, 3] S20000x1
  sliceFits_S20000_S1 : S20000.Slices (fun _ => 0) S1
  shapeCasts_S1_S_ : S1.ShapeCasts S_
  sliceFits_S20000x4_S1x4 : S20000x4.Slices (fun _ => 0) S1x4
  shapeCasts_S1x4_S4 : S1x4.ShapeCasts S4
  slices_S4_S1_2 : S4.Slices ![2] S1
  slices_S4_S1_0 : S4.Slices ![0] S1
  slices_S4_S1_3 : S4.Slices ![3] S1
  slices_S4_S1_1 : S4.Slices ![1] S1
  slices_S4_S2_0 : S4.Slices ![0] S2
  slices_S20000x4_S20000x2_0_0 : S20000x4.Slices ![0, 0] S20000x2
  bcast_S2_S1x2_1 : S2.BroadcastsInDim S1x2 (![1] : Fin 1 → Fin S1x2.rank)
  bcast_S1x2_S20000x2_0_1 : S1x2.BroadcastsInDim S20000x2 (![0, 1] : Fin 2 → Fin S20000x2.rank)
  slices_S4_S2_2 : S4.Slices ![2] S2
  slices_S20000x4_S20000x2_0_2 : S20000x4.Slices ![0, 2] S20000x2
  bcast_S_S20000x2 : S_.BroadcastsInDim S20000x2 (![] : Fin 0 → Fin S20000x2.rank)
  slices_S20000x2_S20000x1_0_0 : S20000x2.Slices ![0, 0] S20000x1
  slices_S20000x2_S20000x1_0_1 : S20000x2.Slices ![0, 1] S20000x1
  shapeCasts_S20000_S125x160 : S20000.ShapeCasts S125x160
  bcast_S125x160_S125x160x1_0_1 : S125x160.BroadcastsInDim S125x160x1 (![0, 1] : Fin 2 → Fin S125x160x1.rank)
  bcast_S125x160_S125x1x160_0_2 : S125x160.BroadcastsInDim S125x1x160 (![0, 2] : Fin 2 → Fin S125x1x160.rank)
  bcast_S125x1x160_S125x160x160_0_1_2 : S125x1x160.BroadcastsInDim S125x160x160 (![0, 1, 2] : Fin 3 → Fin S125x160x160.rank)
  bcast_S125x160x1_S125x160x160_0_1_2 : S125x160x1.BroadcastsInDim S125x160x160 (![0, 1, 2] : Fin 3 → Fin S125x160x160.rank)
  bcast_S160_S1x1x160_2 : S160.BroadcastsInDim S1x1x160 (![2] : Fin 1 → Fin S1x1x160.rank)
  bcast_S160_S1x160x1_1 : S160.BroadcastsInDim S1x160x1 (![1] : Fin 1 → Fin S1x160x1.rank)
  bcast_S1x1x160_S1x160x160_0_1_2 : S1x1x160.BroadcastsInDim S1x160x160 (![0, 1, 2] : Fin 3 → Fin S1x160x160.rank)
  bcast_S1x160x1_S1x160x160_0_1_2 : S1x160x1.BroadcastsInDim S1x160x160 (![0, 1, 2] : Fin 3 → Fin S1x160x160.rank)
  bcast_S1x160x160_S125x160x160_0_1_2 : S1x160x160.BroadcastsInDim S125x160x160 (![0, 1, 2] : Fin 3 → Fin S125x160x160.rank)
  natLt_1_32 : 1 < 32
  reducesTo_S125x160x160_S125x160_d2 : S125x160x160.ReducesTo [2] S125x160
  bcast_S_S125x160 : S_.BroadcastsInDim S125x160 (![] : Fin 0 → Fin S125x160.rank)
  shapeCasts_S125x160_S20000 : S125x160.ShapeCasts S20000

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_where {F : FTy → Type} [FloatOps F] (arg0 : IVec S20000 1) (arg1 : FVec F S20000 .f32) (arg2 : FVec F S_ .f32) : FVec F S20000 .f32 :=
  let v0 : FVec F S_ .f32 := id arg2
  let v1 : FVec F S20000 .f32 := broadcastInDim S20000 ![] bcast_S_S20000 v0
  let v2 : FVec F S20000 .f32 := select arg0 arg1 v1
  v2

def fn_argmax {F : FTy → Type} [FloatOps F] (arg0 : FVec F S20000 .f32) : IVec S_ 32 :=
  let v0 : IVec S20000 32 := iotaInDim S20000 32 0
  let cst : FVec F S_ .f32 := constant S_ .f32 0xFF800000#32
  let c : IVec S_ 32 := constantI S_ 32 0#32
  let v1_0 : FVec F S_ .f32 := (fun x y u v j => (Host.argReduce reducer_argmax_f32_i32 x y u v reducesTo_S20000_S_d0 h_S_ j).1) arg0 v0 cst c
  let v1_1 : IVec S_ 32 := (fun x y u v j => (Host.argReduce reducer_argmax_f32_i32 x y u v reducesTo_S20000_S_d0 h_S_ j).2) arg0 v0 cst c
  v1_1

def fn_clip {F : FTy → Type} [FloatOps F] (arg0 : FVec F S20000x2 .f32) (arg1 : FVec F S_ .f32) : FVec F S20000x2 .f32 :=
  let v0 : FVec F S_ .f32 := id arg1
  let v1 : FVec F S20000x2 .f32 := broadcastInDim S20000x2 ![] bcast_S_S20000x2 v0
  let v2 : FVec F S20000x2 .f32 := maximumf v1 arg0
  v2

def fn_where_0 {F : FTy → Type} [FloatOps F] (arg0 : IVec S20000 1) (arg1 : FVec F S_ .f32) (arg2 : FVec F S20000 .f32) : FVec F S20000 .f32 :=
  let v0 : FVec F S_ .f32 := id arg1
  let v1 : FVec F S20000 .f32 := broadcastInDim S20000 ![] bcast_S_S20000 v0
  let v2 : FVec F S20000 .f32 := select arg0 v1 arg2
  v2

def fn_step_part3 {F : FTy → Type} [FloatOps F] (arg1 : FVec F S20000 .f32) (v3 : IVec S20000 1) (v14 : IVec S_ 1) (v33 : FVec F S_ .f32) (v44 : FVec F S20000 .f32) (v58 : FVec F S20000 .f32) (v60 : FVec F S20000 .f32) : FVec F S20000 .f32 × IVec S_ 1 :=
  let v61 : FVec F S20000 .f32 := mulf v58 v60
  let v62 : FVec F S20000 .f32 := broadcastInDim S20000 ![] bcast_S_S20000 v33
  let v63 : FVec F S20000 .f32 := addf v62 v44
  let v64 : FVec F S20000 .f32 := subf v63 v61
  let cst_9 : FVec F S_ .f32 := constant S_ .f32 0x3089705F#32
  let v65 : FVec F S20000 .f32 := broadcastInDim S20000 ![] bcast_S_S20000 cst_9
  let v66 : FVec F S20000 .f32 := addf v64 v65
  let v67 : FVec F S20000 .f32 := Host.divf v61 v66
  let cst_10 : FVec F S_ .f32 := constant S_ .f32 0x3F000000#32
  let v68 : FVec F S20000 .f32 := broadcastInDim S20000 ![] bcast_S_S20000 cst_10
  let v69 : IVec S20000 1 := cmpf .ogt v67 v68
  let v70 : IVec S20000 1 := noti v3
  let v71 : IVec S20000 1 := ori v69 v70
  let cst_11 : FVec F S_ .f32 := constant S_ .f32 0xCE6E6B28#32
  let v72 : FVec F S20000 .f32 := fn_where_0 (F := F) v71 cst_11 arg1
  (v72, v14)

def fn_step_part2 {F : FTy → Type} [FloatOps F] (arg0 : FVec F S20000x4 .f32) (arg1 : FVec F S20000 .f32) (v3 : IVec S20000 1) (v14 : IVec S_ 1) (v22 : FVec F S4 .f32) (v33 : FVec F S_ .f32) (v35 : FVec F S20000 .f32) (v37 : FVec F S20000 .f32) : FVec F S20000 .f32 × IVec S_ 1 :=
  let v38 : FVec F S20000 .f32 := subf v35 v37
  let v39 : FVec F S20000x1 .f32 := (extractStridedSlice S20000x1 ![0, 3] · slices_S20000x4_S20000x1_0_3) arg0
  let v40 : FVec F S20000 .f32 := shapeCast S20000 v39 shapeCasts_S20000x1_S20000
  let v41 : FVec F S20000x1 .f32 := (extractStridedSlice S20000x1 ![0, 1] · slices_S20000x4_S20000x1_0_1) arg0
  let v42 : FVec F S20000 .f32 := shapeCast S20000 v41 shapeCasts_S20000x1_S20000
  let v43 : FVec F S20000 .f32 := subf v40 v42
  let v44 : FVec F S20000 .f32 := mulf v38 v43
  let v45 : FVec F S2 .f32 := (extractStridedSlice S2 ![0] · slices_S4_S2_0) v22
  let v46 : FVec F S20000x2 .f32 := (extractStridedSlice S20000x2 ![0, 0] · slices_S20000x4_S20000x2_0_0) arg0
  let v47 : FVec F S1x2 .f32 := broadcastInDim S1x2 ![1] bcast_S2_S1x2_1 v45
  let v48 : FVec F S20000x2 .f32 := broadcastInDim S20000x2 ![0, 1] bcast_S1x2_S20000x2_0_1 v47
  let v49 : FVec F S20000x2 .f32 := maximumf v48 v46
  let v50 : FVec F S2 .f32 := (extractStridedSlice S2 ![2] · slices_S4_S2_2) v22
  let v51 : FVec F S20000x2 .f32 := (extractStridedSlice S20000x2 ![0, 2] · slices_S20000x4_S20000x2_0_2) arg0
  let v52 : FVec F S1x2 .f32 := broadcastInDim S1x2 ![1] bcast_S2_S1x2_1 v50
  let v53 : FVec F S20000x2 .f32 := broadcastInDim S20000x2 ![0, 1] bcast_S1x2_S20000x2_0_1 v52
  let v54 : FVec F S20000x2 .f32 := minimumf v53 v51
  let v55 : FVec F S20000x2 .f32 := subf v54 v49
  let cst : FVec F S_ .f32 := constant S_ .f32 0x00000000#32
  let v56 : FVec F S20000x2 .f32 := fn_clip (F := F) v55 cst
  let v57 : FVec F S20000x1 .f32 := (extractStridedSlice S20000x1 ![0, 0] · slices_S20000x2_S20000x1_0_0) v56
  let v58 : FVec F S20000 .f32 := shapeCast S20000 v57 shapeCasts_S20000x1_S20000
  let v59 : FVec F S20000x1 .f32 := (extractStridedSlice S20000x1 ![0, 1] · slices_S20000x2_S20000x1_0_1) v56
  let v60 : FVec F S20000 .f32 := shapeCast S20000 v59 shapeCasts_S20000x1_S20000
  fn_step_part3 (F := F) arg1 v3 v14 v33 v44 v58 v60

def fn_step_part1 {F : FTy → Type} [FloatOps F] (arg0 : FVec F S20000x4 .f32) (arg1 : FVec F S20000 .f32) (v3 : IVec S20000 1) (v14 : IVec S_ 1) (v17 : IVec S_ 32) (c_4 : IVec S_ 32) : FVec F S20000 .f32 × IVec S_ 1 :=
  let c_5 : IVec S_ 32 := constantI S_ 32 0#32
  let v18 : IVec S_ 1 := cmpi .slt c_4 c_5
  let c_6 : IVec S_ 32 := constantI S_ 32 0#32
  let c_7 : IVec S_ 32 := constantI S_ 32 4#32
  let v19 : IVec S_ 32 := addi c_6 c_7
  let c_8 : IVec S_ 32 := constantI S_ 32 0#32
  let v20 : IVec S_ 32 := select v18 v19 c_8
  let v21 : FVec F S1x4 .f32 := (fun x i => Host.dynamicSlice S1x4 x (fun k => (i k (Shape.Idx.first h_S_)).toInt) sliceFits_S20000x4_S1x4) arg0 (![v17, v20] : Fin 2 → IVec S_ 32)
  let v22 : FVec F S4 .f32 := shapeCast S4 v21 shapeCasts_S1x4_S4
  let v23 : FVec F S1 .f32 := (extractStridedSlice S1 ![2] · slices_S4_S1_2) v22
  let v24 : FVec F S_ .f32 := shapeCast S_ v23 shapeCasts_S1_S_
  let v25 : FVec F S1 .f32 := (extractStridedSlice S1 ![0] · slices_S4_S1_0) v22
  let v26 : FVec F S_ .f32 := shapeCast S_ v25 shapeCasts_S1_S_
  let v27 : FVec F S_ .f32 := subf v24 v26
  let v28 : FVec F S1 .f32 := (extractStridedSlice S1 ![3] · slices_S4_S1_3) v22
  let v29 : FVec F S_ .f32 := shapeCast S_ v28 shapeCasts_S1_S_
  let v30 : FVec F S1 .f32 := (extractStridedSlice S1 ![1] · slices_S4_S1_1) v22
  let v31 : FVec F S_ .f32 := shapeCast S_ v30 shapeCasts_S1_S_
  let v32 : FVec F S_ .f32 := subf v29 v31
  let v33 : FVec F S_ .f32 := mulf v27 v32
  let v34 : FVec F S20000x1 .f32 := (extractStridedSlice S20000x1 ![0, 2] · slices_S20000x4_S20000x1_0_2) arg0
  let v35 : FVec F S20000 .f32 := shapeCast S20000 v34 shapeCasts_S20000x1_S20000
  let v36 : FVec F S20000x1 .f32 := (extractStridedSlice S20000x1 ![0, 0] · slices_S20000x4_S20000x1_0_0) arg0
  let v37 : FVec F S20000 .f32 := shapeCast S20000 v36 shapeCasts_S20000x1_S20000
  fn_step_part2 (F := F) arg0 arg1 v3 v14 v22 v33 v35 v37

def fn_step {F : FTy → Type} [FloatOps F] (arg0 : FVec F S20000x4 .f32) (arg1 : FVec F S20000 .f32) (arg2 : IVec S_ 1) : FVec F S20000 .f32 × IVec S_ 1 :=
  let v0 : IVec S_ 32 := fn_argmax (F := F) arg1
  let v1 : IVec S20000 32 := iotaInDim S20000 32 0
  let v2 : IVec S20000 32 := broadcastInDim S20000 ![] bcast_S_S20000 v0
  let v3 : IVec S20000 1 := cmpi .ne v1 v2
  let c : IVec S_ 32 := constantI S_ 32 0#32
  let v4 : IVec S_ 1 := cmpi .slt v0 c
  let c_0 : IVec S_ 32 := constantI S_ 32 20000#32
  let v5 : IVec S_ 32 := addi v0 c_0
  let v6 : IVec S_ 32 := select v4 v5 v0
  let v7 : FVec F S1 .f32 := (fun x i => Host.dynamicSlice S1 x (fun k => (i k (Shape.Idx.first h_S_)).toInt) sliceFits_S20000_S1) arg1 (![v6] : Fin 1 → IVec S_ 32)
  let v8 : FVec F S_ .f32 := shapeCast S_ v7 shapeCasts_S1_S_
  let v9 : FVec F S20000 .f32 := broadcastInDim S20000 ![] bcast_S_S20000 v8
  let v10 : IVec S20000 1 := cmpf .olt arg1 v9
  let v11 : IVec S20000 1 := noti v3
  let v12 : IVec S20000 1 := ori v10 v11
  let c_1 : IVec S_ 1 := constantI S_ 1 1#1
  let v13 : IVec S_ 1 := (fun x v => Host.reduce IntOp.andi x v reducesTo_S20000_S_d0 h_S_) v12 c_1
  let v14 : IVec S_ 1 := andi arg2 v13
  let c_2 : IVec S_ 32 := constantI S_ 32 0#32
  let v15 : IVec S_ 1 := cmpi .slt v0 c_2
  let c_3 : IVec S_ 32 := constantI S_ 32 20000#32
  let v16 : IVec S_ 32 := addi v0 c_3
  let v17 : IVec S_ 32 := select v15 v16 v0
  let c_4 : IVec S_ 32 := constantI S_ 32 0#32
  fn_step_part1 (F := F) arg0 arg1 v3 v14 v17 c_4

def fn_ten_steps {F : FTy → Type} [FloatOps F] (arg0 : FVec F S20000x4 .f32) (arg1 : FVec F S20000 .f32) (arg2 : IVec S_ 1) : FVec F S20000 .f32 × IVec S_ 1 :=
  let v0_0 : FVec F S20000 .f32 := (fn_step (F := F) arg0 arg1 arg2).1
  let v0_1 : IVec S_ 1 := (fn_step (F := F) arg0 arg1 arg2).2
  let v1_0 : FVec F S20000 .f32 := (fn_step (F := F) arg0 v0_0 v0_1).1
  let v1_1 : IVec S_ 1 := (fn_step (F := F) arg0 v0_0 v0_1).2
  let v2_0 : FVec F S20000 .f32 := (fn_step (F := F) arg0 v1_0 v1_1).1
  let v2_1 : IVec S_ 1 := (fn_step (F := F) arg0 v1_0 v1_1).2
  let v3_0 : FVec F S20000 .f32 := (fn_step (F := F) arg0 v2_0 v2_1).1
  let v3_1 : IVec S_ 1 := (fn_step (F := F) arg0 v2_0 v2_1).2
  let v4_0 : FVec F S20000 .f32 := (fn_step (F := F) arg0 v3_0 v3_1).1
  let v4_1 : IVec S_ 1 := (fn_step (F := F) arg0 v3_0 v3_1).2
  let v5_0 : FVec F S20000 .f32 := (fn_step (F := F) arg0 v4_0 v4_1).1
  let v5_1 : IVec S_ 1 := (fn_step (F := F) arg0 v4_0 v4_1).2
  let v6_0 : FVec F S20000 .f32 := (fn_step (F := F) arg0 v5_0 v5_1).1
  let v6_1 : IVec S_ 1 := (fn_step (F := F) arg0 v5_0 v5_1).2
  let v7_0 : FVec F S20000 .f32 := (fn_step (F := F) arg0 v6_0 v6_1).1
  let v7_1 : IVec S_ 1 := (fn_step (F := F) arg0 v6_0 v6_1).2
  let v8_0 : FVec F S20000 .f32 := (fn_step (F := F) arg0 v7_0 v7_1).1
  let v8_1 : IVec S_ 1 := (fn_step (F := F) arg0 v7_0 v7_1).2
  let v9_0 : FVec F S20000 .f32 := (fn_step (F := F) arg0 v8_0 v8_1).1
  let v9_1 : IVec S_ 1 := (fn_step (F := F) arg0 v8_0 v8_1).2
  (v9_0, v9_1)

def fn_hundred_steps {F : FTy → Type} [FloatOps F] (arg0 : FVec F S20000x4 .f32) (arg1 : FVec F S20000 .f32) (arg2 : IVec S_ 1) : FVec F S20000 .f32 × IVec S_ 1 :=
  let v0_0 : FVec F S20000 .f32 := (fn_ten_steps (F := F) arg0 arg1 arg2).1
  let v0_1 : IVec S_ 1 := (fn_ten_steps (F := F) arg0 arg1 arg2).2
  let v1_0 : FVec F S20000 .f32 := (fn_ten_steps (F := F) arg0 v0_0 v0_1).1
  let v1_1 : IVec S_ 1 := (fn_ten_steps (F := F) arg0 v0_0 v0_1).2
  let v2_0 : FVec F S20000 .f32 := (fn_ten_steps (F := F) arg0 v1_0 v1_1).1
  let v2_1 : IVec S_ 1 := (fn_ten_steps (F := F) arg0 v1_0 v1_1).2
  let v3_0 : FVec F S20000 .f32 := (fn_ten_steps (F := F) arg0 v2_0 v2_1).1
  let v3_1 : IVec S_ 1 := (fn_ten_steps (F := F) arg0 v2_0 v2_1).2
  let v4_0 : FVec F S20000 .f32 := (fn_ten_steps (F := F) arg0 v3_0 v3_1).1
  let v4_1 : IVec S_ 1 := (fn_ten_steps (F := F) arg0 v3_0 v3_1).2
  let v5_0 : FVec F S20000 .f32 := (fn_ten_steps (F := F) arg0 v4_0 v4_1).1
  let v5_1 : IVec S_ 1 := (fn_ten_steps (F := F) arg0 v4_0 v4_1).2
  let v6_0 : FVec F S20000 .f32 := (fn_ten_steps (F := F) arg0 v5_0 v5_1).1
  let v6_1 : IVec S_ 1 := (fn_ten_steps (F := F) arg0 v5_0 v5_1).2
  let v7_0 : FVec F S20000 .f32 := (fn_ten_steps (F := F) arg0 v6_0 v6_1).1
  let v7_1 : IVec S_ 1 := (fn_ten_steps (F := F) arg0 v6_0 v6_1).2
  let v8_0 : FVec F S20000 .f32 := (fn_ten_steps (F := F) arg0 v7_0 v7_1).1
  let v8_1 : IVec S_ 1 := (fn_ten_steps (F := F) arg0 v7_0 v7_1).2
  let v9_0 : FVec F S20000 .f32 := (fn_ten_steps (F := F) arg0 v8_0 v8_1).1
  let v9_1 : IVec S_ 1 := (fn_ten_steps (F := F) arg0 v8_0 v8_1).2
  (v9_0, v9_1)

def fn_where_1 {F : FTy → Type} [FloatOps F] (arg0 : IVec S20000 1) (arg1 : FVec F S20000 .f32) (arg2 : FVec F S_ .f32) : FVec F S20000 .f32 :=
  let v0 : FVec F S_ .f32 := id arg2
  let v1 : FVec F S20000 .f32 := broadcastInDim S20000 ![] bcast_S_S20000 v0
  let v2 : FVec F S20000 .f32 := select arg0 arg1 v1
  v2

def fn_part3 {F : FTy → Type} [FloatOps F] (main_v54_1 : IVec S_ 1) (main_v56 : IVec S_ 1) : IVec S_ 1 :=
  let main_v57 : IVec S_ 1 := andi main_v56 main_v54_1
  main_v57

def fn_part2 {F : FTy → Type} [FloatOps F] (main_arg0 : FVec F S20000x4 .f32) (main_v7 : IVec S_ 1) (main_v25 : IVec S_ 1) (main_v28 : FVec F S20000 .f32) (main_v29_1 : IVec S_ 1) (main_v31 : FVec F S125x160x1 .f32) (main_v33 : IVec S160 32) (main_v36 : IVec S125x160x160 1) (main_v37 : FVec F S125x160x160 .f32) : IVec S_ 1 :=
  let main_v38 : FVec F S125x160x160 .f32 := broadcastInDim S125x160x160 ![0, 1, 2] bcast_S125x160x1_S125x160x160_0_1_2 main_v31
  let main_v39 : IVec S125x160x160 1 := cmpf .oeq main_v37 main_v38
  let main_v40 : IVec S1x1x160 32 := broadcastInDim S1x1x160 ![2] bcast_S160_S1x1x160_2 main_v33
  let main_v41 : IVec S1x160x1 32 := broadcastInDim S1x160x1 ![1] bcast_S160_S1x160x1_1 main_v33
  let main_v42 : IVec S1x160x160 32 := broadcastInDim S1x160x160 ![0, 1, 2] bcast_S1x1x160_S1x160x160_0_1_2 main_v40
  let main_v43 : IVec S1x160x160 32 := broadcastInDim S1x160x160 ![0, 1, 2] bcast_S1x160x1_S1x160x160_0_1_2 main_v41
  let main_v44 : IVec S1x160x160 1 := cmpi .slt main_v42 main_v43
  let main_v45 : IVec S125x160x160 1 := broadcastInDim S125x160x160 ![0, 1, 2] bcast_S1x160x160_S125x160x160_0_1_2 main_v44
  let main_v46 : IVec S125x160x160 1 := andi main_v39 main_v45
  let main_v47 : IVec S125x160x160 1 := ori main_v36 main_v46
  let main_v48 : IVec S125x160x160 32 := (extui 32 · natLt_1_32) main_v47
  let main_c_7 : IVec S_ 32 := constantI S_ 32 0#32
  let main_v49 : IVec S125x160 32 := (fun x v => Host.reduce IntOp.addi x v reducesTo_S125x160x160_S125x160_d2 h_S_) main_v48 main_c_7
  let main_c_8 : IVec S_ 32 := constantI S_ 32 8#32
  let main_v50 : IVec S125x160 32 := broadcastInDim S125x160 ![] bcast_S_S125x160 main_c_8
  let main_v51 : IVec S125x160 1 := cmpi .slt main_v49 main_v50
  let main_v52 : IVec S20000 1 := shapeCast S20000 main_v51 shapeCasts_S125x160_S20000
  let main_cst_9 : FVec F S_ .f32 := constant S_ .f32 0xCE6E6B28#32
  let main_v53 : FVec F S20000 .f32 := fn_where_1 (F := F) main_v52 main_v28 main_cst_9
  let main_c_10 : IVec S_ 1 := constantI S_ 1 1#1
  let main_v54_0 : FVec F S20000 .f32 := (fn_hundred_steps (F := F) main_arg0 main_v53 main_c_10).1
  let main_v54_1 : IVec S_ 1 := (fn_hundred_steps (F := F) main_arg0 main_v53 main_c_10).2
  let main_v55 : IVec S_ 1 := andi main_v7 main_v25
  let main_v56 : IVec S_ 1 := andi main_v55 main_v29_1
  fn_part3 (F := F) main_v54_1 main_v56

def fn_part1 {F : FTy → Type} [FloatOps F] (main_arg0 : FVec F S20000x4 .f32) (main_arg1 : FVec F S20000 .f32) (main_v7 : IVec S_ 1) (main_v11 : FVec F S20000 .f32) (main_v15 : FVec F S20000 .f32) (main_v18 : IVec S20000 1) (main_v19 : FVec F S20000 .f32) : IVec S_ 1 :=
  let main_v20 : FVec F S20000 .f32 := subf main_v15 main_v11
  let main_v21 : FVec F S20000 .f32 := mulf main_v19 main_v20
  let main_cst_2 : FVec F S_ .f32 := constant S_ .f32 0x3089705F#32
  let main_v22 : FVec F S20000 .f32 := broadcastInDim S20000 ![] bcast_S_S20000 main_cst_2
  let main_v23 : IVec S20000 1 := cmpf .ogt main_v21 main_v22
  let main_v24 : IVec S20000 1 := andi main_v18 main_v23
  let main_c_3 : IVec S_ 1 := constantI S_ 1 1#1
  let main_v25 : IVec S_ 1 := (fun x v => Host.reduce IntOp.andi x v reducesTo_S20000_S_d0 h_S_) main_v24 main_c_3
  let main_cst_4 : FVec F S_ .f32 := constant S_ .f32 0x3D4CCCCD#32
  let main_v26 : FVec F S20000 .f32 := broadcastInDim S20000 ![] bcast_S_S20000 main_cst_4
  let main_v27 : IVec S20000 1 := cmpf .ogt main_arg1 main_v26
  let main_cst_5 : FVec F S_ .f32 := constant S_ .f32 0xCE6E6B28#32
  let main_v28 : FVec F S20000 .f32 := fn_where (F := F) main_v27 main_arg1 main_cst_5
  let main_c_6 : IVec S_ 1 := constantI S_ 1 1#1
  let main_v29_0 : FVec F S20000 .f32 := (fn_hundred_steps (F := F) main_arg0 main_v28 main_c_6).1
  let main_v29_1 : IVec S_ 1 := (fn_hundred_steps (F := F) main_arg0 main_v28 main_c_6).2
  let main_v30 : FVec F S125x160 .f32 := shapeCast S125x160 main_v28 shapeCasts_S20000_S125x160
  let main_v31 : FVec F S125x160x1 .f32 := broadcastInDim S125x160x1 ![0, 1] bcast_S125x160_S125x160x1_0_1 main_v30
  let main_v32 : FVec F S125x1x160 .f32 := broadcastInDim S125x1x160 ![0, 2] bcast_S125x160_S125x1x160_0_2 main_v30
  let main_v33 : IVec S160 32 := iotaInDim S160 32 0
  let main_v34 : FVec F S125x160x160 .f32 := broadcastInDim S125x160x160 ![0, 1, 2] bcast_S125x1x160_S125x160x160_0_1_2 main_v32
  let main_v35 : FVec F S125x160x160 .f32 := broadcastInDim S125x160x160 ![0, 1, 2] bcast_S125x160x1_S125x160x160_0_1_2 main_v31
  let main_v36 : IVec S125x160x160 1 := cmpf .ogt main_v34 main_v35
  let main_v37 : FVec F S125x160x160 .f32 := broadcastInDim S125x160x160 ![0, 1, 2] bcast_S125x1x160_S125x160x160_0_1_2 main_v32
  fn_part2 (F := F) main_arg0 main_v7 main_v25 main_v28 main_v29_1 main_v31 main_v33 main_v36 main_v37

def fn {F : FTy → Type} [FloatOps F] (main_arg0 : FVec F S20000x4 .f32) (main_arg1 : FVec F S20000 .f32) : IVec S_ 1 :=
  let main_v0 : FVec F S20000x4 .f32 := Host.absf main_arg0
  let main_cst : FVec F S_ .f32 := constant S_ .f32 0x7F800000#32
  let main_v1 : FVec F S20000x4 .f32 := broadcastInDim S20000x4 ![] bcast_S_S20000x4 main_cst
  let main_v2 : IVec S20000x4 1 := cmpf .olt main_v0 main_v1
  let main_c : IVec S_ 1 := constantI S_ 1 1#1
  let main_v3 : IVec S_ 1 := (fun x v => Host.reduce IntOp.andi x v reducesTo_S20000x4_S_d0_1 h_S_) main_v2 main_c
  let main_cst_0 : FVec F S_ .f32 := constant S_ .f32 0x7F800000#32
  let main_v4 : FVec F S20000 .f32 := broadcastInDim S20000 ![] bcast_S_S20000 main_cst_0
  let main_v5 : IVec S20000 1 := cmpf .olt main_arg1 main_v4
  let main_c_1 : IVec S_ 1 := constantI S_ 1 1#1
  let main_v6 : IVec S_ 1 := (fun x v => Host.reduce IntOp.andi x v reducesTo_S20000_S_d0 h_S_) main_v5 main_c_1
  let main_v7 : IVec S_ 1 := andi main_v3 main_v6
  let main_v8 : FVec F S20000x1 .f32 := (extractStridedSlice S20000x1 ![0, 0] · slices_S20000x4_S20000x1_0_0) main_arg0
  let main_v9 : FVec F S20000 .f32 := shapeCast S20000 main_v8 shapeCasts_S20000x1_S20000
  let main_v10 : FVec F S20000x1 .f32 := (extractStridedSlice S20000x1 ![0, 1] · slices_S20000x4_S20000x1_0_1) main_arg0
  let main_v11 : FVec F S20000 .f32 := shapeCast S20000 main_v10 shapeCasts_S20000x1_S20000
  let main_v12 : FVec F S20000x1 .f32 := (extractStridedSlice S20000x1 ![0, 2] · slices_S20000x4_S20000x1_0_2) main_arg0
  let main_v13 : FVec F S20000 .f32 := shapeCast S20000 main_v12 shapeCasts_S20000x1_S20000
  let main_v14 : FVec F S20000x1 .f32 := (extractStridedSlice S20000x1 ![0, 3] · slices_S20000x4_S20000x1_0_3) main_arg0
  let main_v15 : FVec F S20000 .f32 := shapeCast S20000 main_v14 shapeCasts_S20000x1_S20000
  let main_v16 : IVec S20000 1 := cmpf .olt main_v9 main_v13
  let main_v17 : IVec S20000 1 := cmpf .olt main_v11 main_v15
  let main_v18 : IVec S20000 1 := andi main_v16 main_v17
  let main_v19 : FVec F S20000 .f32 := subf main_v13 main_v9
  fn_part1 (F := F) main_arg0 main_arg1 main_v7 main_v11 main_v15 main_v18 main_v19
-- ==== Kernel.lean ====
abbrev S20000x4 : Shape := ⟨2, ![20000, 4]⟩
abbrev S20000 : Shape := ⟨1, ![20000]⟩
abbrev S20000x1 : Shape := ⟨2, ![20000, 1]⟩
abbrev S_ : Shape := ⟨0, ![]⟩
abbrev S20480 : Shape := ⟨1, ![20480]⟩
abbrev S128x160 : Shape := ⟨2, ![128, 160]⟩
abbrev S160x128 : Shape := ⟨2, ![160, 128]⟩
abbrev S100x128 : Shape := ⟨2, ![100, 128]⟩
abbrev S1x128 : Shape := ⟨2, ![1, 128]⟩
abbrev S128x128 : Shape := ⟨2, ![128, 128]⟩
abbrev S128 : Shape := ⟨1, ![128]⟩
abbrev S1 : Shape := ⟨1, ![1]⟩
abbrev S1x1 : Shape := ⟨2, ![1, 1]⟩
abbrev S8x128 : Shape := ⟨2, ![8, 128]⟩
abbrev S4x128 : Shape := ⟨2, ![4, 128]⟩
abbrev S2x128 : Shape := ⟨2, ![2, 128]⟩
abbrev S6x128 : Shape := ⟨2, ![6, 128]⟩
abbrev S18x128 : Shape := ⟨2, ![18, 128]⟩
abbrev S5x128 : Shape := ⟨2, ![5, 128]⟩
abbrev S15x128 : Shape := ⟨2, ![15, 128]⟩
abbrev S100x5 : Shape := ⟨2, ![100, 5]⟩

abbrev nBuf : Space → Nat
  | .hbm => 42
  | .vmem => 6
  | .smem => 0
  | _ => 0

abbrev bufTy : (tb : Table) → Fin (tcTables nBuf tb) → BufTy
  | .hbm, ⟨0, _⟩ => ⟨S20000x4, .f32⟩
  | .hbm, ⟨1, _⟩ => ⟨S20000, .f32⟩
  | .hbm, ⟨2, _⟩ => ⟨S20000x1, .f32⟩
  | .hbm, ⟨3, _⟩ => ⟨S20000, .f32⟩
  | .hbm, ⟨4, _⟩ => ⟨S_, .f32⟩
  | .hbm, ⟨5, _⟩ => ⟨S_, .f32⟩
  | .hbm, ⟨6, _⟩ => ⟨S20480, .f32⟩
  | .hbm, ⟨7, _⟩ => ⟨S128x160, .f32⟩
  | .hbm, ⟨8, _⟩ => ⟨S160x128, .f32⟩
  | .hbm, ⟨9, _⟩ => ⟨S160x128, .f32⟩
  | .hbm, ⟨10, _⟩ => ⟨S20000x1, .f32⟩
  | .hbm, ⟨11, _⟩ => ⟨S20000, .f32⟩
  | .hbm, ⟨12, _⟩ => ⟨S_, .f32⟩
  | .hbm, ⟨13, _⟩ => ⟨S_, .f32⟩
  | .hbm, ⟨14, _⟩ => ⟨S20480, .f32⟩
  | .hbm, ⟨15, _⟩ => ⟨S128x160, .f32⟩
  | .hbm, ⟨16, _⟩ => ⟨S160x128, .f32⟩
  | .hbm, ⟨17, _⟩ => ⟨S160x128, .f32⟩
  | .hbm, ⟨18, _⟩ => ⟨S20000x1, .f32⟩
  | .hbm, ⟨19, _⟩ => ⟨S20000, .f32⟩
  | .hbm, ⟨20, _⟩ => ⟨S_, .f32⟩
  | .hbm, ⟨21, _⟩ => ⟨S_, .f32⟩
  | .hbm, ⟨22, _⟩ => ⟨S20480, .f32⟩
  | .hbm, ⟨23, _⟩ => ⟨S128x160, .f32⟩
  | .hbm, ⟨24, _⟩ => ⟨S160x128, .f32⟩
  | .hbm, ⟨25, _⟩ => ⟨S160x128, .f32⟩
  | .hbm, ⟨26, _⟩ => ⟨S20000x1, .f32⟩
  | .hbm, ⟨27, _⟩ => ⟨S20000, .f32⟩
  | .hbm, ⟨28, _⟩ => ⟨S_, .f32⟩
  | .hbm, ⟨29, _⟩ => ⟨S_, .f32⟩
  | .hbm, ⟨30, _⟩ => ⟨S20480, .f32⟩
  | .hbm, ⟨31, _⟩ => ⟨S128x160, .f32⟩
  | .hbm, ⟨32, _⟩ => ⟨S160x128, .f32⟩
  | .hbm, ⟨33, _⟩ => ⟨S160x128, .f32⟩
  | .hbm, ⟨34, _⟩ => ⟨S_, .f32⟩
  | .hbm, ⟨35, _⟩ => ⟨S_, .f32⟩
  | .hbm, ⟨36, _⟩ => ⟨S20480, .f32⟩
  | .hbm, ⟨37, _⟩ => ⟨S128x160, .f32⟩
  | .hbm, ⟨38, _⟩ => ⟨S160x128, .f32⟩
  | .hbm, ⟨39, _⟩ => ⟨S160x128, .f32⟩
  | .hbm, ⟨40, _⟩ => ⟨S100x128, .f32⟩
  | .hbm, ⟨41, _⟩ => ⟨S100x5, .f32⟩
  | .local _ .vmem, ⟨0, _⟩ => ⟨S160x128, .f32⟩
  | .local _ .vmem, ⟨1, _⟩ => ⟨S160x128, .f32⟩
  | .local _ .vmem, ⟨2, _⟩ => ⟨S160x128, .f32⟩
  | .local _ .vmem, ⟨3, _⟩ => ⟨S160x128, .f32⟩
  | .local _ .vmem, ⟨4, _⟩ => ⟨S160x128, .f32⟩
  | .local _ .vmem, ⟨5, _⟩ => ⟨S100x128, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_call2_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_call3_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_call4_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c100_i32 : BitVec 32 := 100#32
  let v270 : BitVec 32 := Scalar.addi c0_i32 c100_i32
  let c1_i32 : BitVec 32 := 1#32
  ⟨c0_i32, v270, c1_i32⟩
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let v445 : Index := Scalar.indexCast arg6
  let c0_131 : Index := 0#32
  ![v445.toNat, 0]
@[reducible] def k0_t2_loop : Scf.Loop 32 :=
  let c0_i32_114 : BitVec 32 := 0#32
  let c100_i32_115 : BitVec 32 := 100#32
  let v277 : BitVec 32 := Scalar.addi c0_i32_114 c100_i32_115
  let c1_i32_116 : BitVec 32 := 1#32
  ⟨c0_i32_114, v277, c1_i32_116⟩
def k0_off2 (k0_t2 : Fin k0_t2_loop.trips) : Fin 2 → Nat :=
  let c0_i32_114 : BitVec 32 := 0#32
  let c1_i32_116 : BitVec 32 := 1#32
  let arg6 : BitVec 32 := Scf.iv c0_i32_114 c1_i32_116 k0_t2
  let v585 : Index := Scalar.indexCast arg6
  let c0_142 : Index := 0#32
  ![v585.toNat, 0]
abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S100x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "eps3" => some ((9007199 / 27021597764222976 : ℝ) : EReal)
  | "third" => some ((1 / 3 : ℝ) : EReal)
  | _ => none
-- ==== ReferenceIdeal.lean ====
abbrev S20000x4 : Shape := ⟨2, ![20000, 4]⟩
abbrev S20000 : Shape := ⟨1, ![20000]⟩
abbrev S_ : Shape := ⟨0, ![]⟩
abbrev S100x5 : Shape := ⟨2, ![100, 5]⟩
abbrev S1 : Shape := ⟨1, ![1]⟩
abbrev S1x4 : Shape := ⟨2, ![1, 4]⟩
abbrev S4 : Shape := ⟨1, ![4]⟩
abbrev S20000x1 : Shape := ⟨2, ![20000, 1]⟩
abbrev S2 : Shape := ⟨1, ![2]⟩
abbrev S20000x2 : Shape := ⟨2, ![20000, 2]⟩
abbrev S1x2 : Shape := ⟨2, ![1, 2]⟩
abbrev S5 : Shape := ⟨1, ![5]⟩
abbrev S1x5 : Shape := ⟨2, ![1, 5]⟩

abbrev nBuf : Space → Nat
  | .hbm => 129
  | .vmem => 0
  | .smem => 0
  | _ => 0

abbrev hbmTy0_0 (i : Nat) : BufTy := match i % 128 with
  | 0 => ⟨S20000x4, .f32⟩
  | 1 => ⟨S20000, .f32⟩
  | 2 => ⟨S_, .f32⟩
  | 3 => ⟨S20000, .f32⟩
  | 4 => ⟨S20000, .i1⟩
  | 5 => ⟨S_, .f32⟩
  | 6 => ⟨S_, .f32⟩
  | 7 => ⟨S20000, .f32⟩
  | 8 => ⟨S20000, .f32⟩
  | 9 => ⟨S20000, .i32⟩
  | 10 => ⟨S_, .f32⟩
  | 11 => ⟨S100x5, .f32⟩
  | 12 => ⟨S_, .i32⟩
  | 13 => ⟨S20000x4, .f32⟩
  | 14 => ⟨S20000, .f32⟩
  | 15 => ⟨S20000, .i32⟩
  | 16 => ⟨S_, .i32⟩
  | 17 => ⟨S20000, .f32⟩
  | 18 => ⟨S100x5, .f32⟩
  | 19 => ⟨S_, .i32⟩
  | 20 => ⟨S_, .i1⟩
  | 21 => ⟨S20000, .i32⟩
  | 22 => ⟨S_, .f32⟩
  | 23 => ⟨S_, .i32⟩
  | 24 => ⟨S_, .f32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S1, .f32⟩
  | 32 => ⟨S_, .f32⟩
  | 33 => ⟨S_, .f32⟩
  | 34 => ⟨S_, .i1⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S1x4, .f32⟩
  | 49 => ⟨S4, .f32⟩
  | 50 => ⟨S_, .i32⟩
  | 51 => ⟨S_, .i1⟩
  | 52 => ⟨S_, .i32⟩
  | 53 => ⟨S_, .i32⟩
  | 54 => ⟨S_, .i32⟩
  | 55 => ⟨S1, .f32⟩
  | 56 => ⟨S_, .f32⟩
  | 57 => ⟨S_, .f32⟩
  | 58 => ⟨S_, .f32⟩
  | 59 => ⟨S_, .f32⟩
  | 60 => ⟨S1, .f32⟩
  | 61 => ⟨S_, .f32⟩
  | 62 => ⟨S1, .f32⟩
  | 63 => ⟨S_, .f32⟩
  | 64 => ⟨S_, .f32⟩
  | 65 => ⟨S1, .f32⟩
  | 66 => ⟨S_, .f32⟩
  | 67 => ⟨S1, .f32⟩
  | 68 => ⟨S_, .f32⟩
  | 69 => ⟨S_, .f32⟩
  | 70 => ⟨S_, .f32⟩
  | 71 => ⟨S20000x1, .f32⟩
  | 72 => ⟨S20000, .f32⟩
  | 73 => ⟨S20000x1, .f32⟩
  | 74 => ⟨S20000, .f32⟩
  | 75 => ⟨S20000, .f32⟩
  | 76 => ⟨S20000x1, .f32⟩
  | 77 => ⟨S20000, .f32⟩
  | 78 => ⟨S20000x1, .f32⟩
  | 79 => ⟨S20000, .f32⟩
  | 80 => ⟨S20000, .f32⟩
  | 81 => ⟨S20000, .f32⟩
  | 82 => ⟨S2, .f32⟩
  | 83 => ⟨S20000x2, .f32⟩
  | 84 => ⟨S1x2, .f32⟩
  | 85 => ⟨S20000x2, .f32⟩
  | 86 => ⟨S20000x2, .f32⟩
  | 87 => ⟨S2, .f32⟩
  | 88 => ⟨S20000x2, .f32⟩
  | 89 => ⟨S1x2, .f32⟩
  | 90 => ⟨S20000x2, .f32⟩
  | 91 => ⟨S20000x2, .f32⟩
  | 92 => ⟨S20000x2, .f32⟩
  | 93 => ⟨S_, .f32⟩
  | 94 => ⟨S_, .f32⟩
  | 95 => ⟨S20000x2, .f32⟩
  | 96 => ⟨S20000x2, .f32⟩
  | 97 => ⟨S20000x1, .f32⟩
  | 98 => ⟨S20000, .f32⟩
  | 99 => ⟨S20000x1, .f32⟩
  | 100 => ⟨S20000, .f32⟩
  | 101 => ⟨S20000, .f32⟩
  | 102 => ⟨S20000, .f32⟩
  | 103 => ⟨S20000, .f32⟩
  | 104 => ⟨S20000, .f32⟩
  | 105 => ⟨S_, .f32⟩
  | 106 => ⟨S20000, .f32⟩
  | 107 => ⟨S20000, .f32⟩
  | 108 => ⟨S20000, .f32⟩
  | 109 => ⟨S_, .f32⟩
  | 110 => ⟨S20000, .f32⟩
  | 111 => ⟨S20000, .i1⟩
  | 112 => ⟨S20000, .i32⟩
  | 113 => ⟨S20000, .i1⟩
  | 114 => ⟨S20000, .i1⟩
  | 115 => ⟨S_, .f32⟩
  | 116 => ⟨S_, .f32⟩
  | 117 => ⟨S20000, .f32⟩
  | 118 => ⟨S20000, .f32⟩
  | 119 => ⟨S_, .f32⟩
  | 120 => ⟨S4, .f32⟩
  | 121 => ⟨S4, .f32⟩
  | 122 => ⟨S1, .f32⟩
  | 123 => ⟨S5, .f32⟩
  | 124 => ⟨S1x5, .f32⟩
  | 125 => ⟨S_, .i32⟩
  | 126 => ⟨S100x5, .f32⟩
  | 127 => ⟨S_, .i32⟩
  | _ => ⟨S20000x4, .f32⟩

abbrev hbmTy0_1 (i : Nat) : BufTy := match i % 128 with
  | 0 => ⟨S_, .i32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_c : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev main_while0c_c_7 : Ref sig .tc := ⟨.hbm, 19, rfl⟩
abbrev main_while0c_v6 : Ref sig .tc := ⟨.hbm, 20, rfl⟩
abbrev main_while0b_call1_v0 : Ref sig .tc := ⟨.hbm, 21, rfl⟩
abbrev main_while0b_call1_cst : Ref sig .tc := ⟨.hbm, 22, rfl⟩
abbrev main_while0b_call1_c : Ref sig .tc := ⟨.hbm, 23, rfl⟩
abbrev main_while0b_call1_v1_0 : Ref sig .tc := ⟨.hbm, 24, rfl⟩
abbrev main_while0b_v6 : Ref sig .tc := ⟨.hbm, 25, rfl⟩
abbrev main_while0b_c_7 : Ref sig .tc := ⟨.hbm, 26, rfl⟩
abbrev main_while0b_v7 : Ref sig .tc := ⟨.hbm, 27, rfl⟩
abbrev main_while0b_c_8 : Ref sig .tc := ⟨.hbm, 28, rfl⟩
abbrev main_while0b_v8 : Ref sig .tc := ⟨.hbm, 29, rfl⟩
abbrev main_while0b_v9 : Ref sig .tc := ⟨.hbm, 30, rfl⟩
abbrev main_while0b_v10 : Ref sig .tc := ⟨.hbm, 31, rfl⟩
abbrev main_while0b_v11 : Ref sig .tc := ⟨.hbm, 32, rfl⟩
abbrev main_while0b_cst_9 : Ref sig .tc := ⟨.hbm, 33, rfl⟩
abbrev main_while0b_v12 : Ref sig .tc := ⟨.hbm, 34, rfl⟩
abbrev main_while0b_c_10 : Ref sig .tc := ⟨.hbm, 35, rfl⟩
abbrev main_while0b_v13 : Ref sig .tc := ⟨.hbm, 36, rfl⟩
abbrev main_while0b_c_11 : Ref sig .tc := ⟨.hbm, 37, rfl⟩
abbrev main_while0b_v14 : Ref sig .tc := ⟨.hbm, 38, rfl⟩
abbrev main_while0b_v15 : Ref sig .tc := ⟨.hbm, 39, rfl⟩
abbrev main_while0b_c_12 : Ref sig .tc := ⟨.hbm, 40, rfl⟩
abbrev main_while0b_c_13 : Ref sig .tc := ⟨.hbm, 41, rfl⟩
abbrev main_while0b_v16 : Ref sig .tc := ⟨.hbm, 42, rfl⟩
abbrev main_while0b_c_14 : Ref sig .tc := ⟨.hbm, 43, rfl⟩
abbrev main_while0b_c_15 : Ref sig .tc := ⟨.hbm, 44, rfl⟩
abbrev main_while0b_v17 : Ref sig .tc := ⟨.hbm, 45, rfl⟩
abbrev main_while0b_c_16 : Ref sig .tc := ⟨.hbm, 46, rfl⟩
abbrev main_while0b_v18 : Ref sig .tc := ⟨.hbm, 47, rfl⟩
abbrev main_while0b_v19 : Ref sig .tc := ⟨.hbm, 48, rfl⟩
abbrev main_while0b_v20 : Ref sig .tc := ⟨.hbm, 49, rfl⟩
abbrev main_while0b_c_17 : Ref sig .tc := ⟨.hbm, 50, rfl⟩
abbrev main_while0b_v21 : Ref sig .tc := ⟨.hbm, 51, rfl⟩
abbrev main_while0b_c_18 : Ref sig .tc := ⟨.hbm, 52, rfl⟩
abbrev main_while0b_v22 : Ref sig .tc := ⟨.hbm, 53, rfl⟩
abbrev main_while0b_v23 : Ref sig .tc := ⟨.hbm, 54, rfl⟩
abbrev main_while0b_v24 : Ref sig .tc := ⟨.hbm, 55, rfl⟩
abbrev main_while0b_v25 : Ref sig .tc := ⟨.hbm, 56, rfl⟩
abbrev main_while0b_cst_19 : Ref sig .tc := ⟨.hbm, 57, rfl⟩
abbrev main_while0b_call2_v0 : Ref sig .tc := ⟨.hbm, 58, rfl⟩
abbrev main_while0b_v26 : Ref sig .tc := ⟨.hbm, 59, rfl⟩
abbrev main_while0b_v27 : Ref sig .tc := ⟨.hbm, 60, rfl⟩
abbrev main_while0b_v28 : Ref sig .tc := ⟨.hbm, 61, rfl⟩
abbrev main_while0b_v29 : Ref sig .tc := ⟨.hbm, 62, rfl⟩
abbrev main_while0b_v30 : Ref sig .tc := ⟨.hbm, 63, rfl⟩
abbrev main_while0b_v31 : Ref sig .tc := ⟨.hbm, 64, rfl⟩
abbrev main_while0b_v32 : Ref sig .tc := ⟨.hbm, 65, rfl⟩
abbrev main_while0b_v33 : Ref sig .tc := ⟨.hbm, 66, rfl⟩
abbrev main_while0b_v34 : Ref sig .tc := ⟨.hbm, 67, rfl⟩
abbrev main_while0b_v35 : Ref sig .tc := ⟨.hbm, 68, rfl⟩
abbrev main_while0b_v36 : Ref sig .tc := ⟨.hbm, 69, rfl⟩
abbrev main_while0b_v37 : Ref sig .tc := ⟨.hbm, 70, rfl⟩
abbrev main_while0b_v38 : Ref sig .tc := ⟨.hbm, 71, rfl⟩
abbrev main_while0b_v39 : Ref sig .tc := ⟨.hbm, 72, rfl⟩
abbrev main_while0b_v40 : Ref sig .tc := ⟨.hbm, 73, rfl⟩
abbrev main_while0b_v41 : Ref sig .tc := ⟨.hbm, 74, rfl⟩
abbrev main_while0b_v42 : Ref sig .tc := ⟨.hbm, 75, rfl⟩
abbrev main_while0b_v43 : Ref sig .tc := ⟨.hbm, 76, rfl⟩
abbrev main_while0b_v44 : Ref sig .tc := ⟨.hbm, 77, rfl⟩
abbrev main_while0b_v45 : Ref sig .tc := ⟨.hbm, 78, rfl⟩
abbrev main_while0b_v46 : Ref sig .tc := ⟨.hbm, 79, rfl⟩
abbrev main_while0b_v47 : Ref sig .tc := ⟨.hbm, 80, rfl⟩
abbrev main_while0b_v48 : Ref sig .tc := ⟨.hbm, 81, rfl⟩
abbrev main_while0b_v49 : Ref sig .tc := ⟨.hbm, 82, rfl⟩
abbrev main_while0b_v50 : Ref sig .tc := ⟨.hbm, 83, rfl⟩
abbrev main_while0b_v51 : Ref sig .tc := ⟨.hbm, 84, rfl⟩
abbrev main_while0b_v52 : Ref sig .tc := ⟨.hbm, 85, rfl⟩
abbrev main_while0b_v53 : Ref sig .tc := ⟨.hbm, 86, rfl⟩
abbrev main_while0b_v54 : Ref sig .tc := ⟨.hbm, 87, rfl⟩
abbrev main_while0b_v55 : Ref sig .tc := ⟨.hbm, 88, rfl⟩
abbrev main_while0b_v56 : Ref sig .tc := ⟨.hbm, 89, rfl⟩
abbrev main_while0b_v57 : Ref sig .tc := ⟨.hbm, 90, rfl⟩
abbrev main_while0b_v58 : Ref sig .tc := ⟨.hbm, 91, rfl⟩
abbrev main_while0b_v59 : Ref sig .tc := ⟨.hbm, 92, rfl⟩
abbrev main_while0b_cst_20 : Ref sig .tc := ⟨.hbm, 93, rfl⟩
abbrev main_while0b_call3_v0 : Ref sig .tc := ⟨.hbm, 94, rfl⟩
abbrev main_while0b_call3_v1 : Ref sig .tc := ⟨.hbm, 95, rfl⟩
abbrev main_while0b_v60 : Ref sig .tc := ⟨.hbm, 96, rfl⟩
abbrev main_while0b_v61 : Ref sig .tc := ⟨.hbm, 97, rfl⟩
abbrev main_while0b_v62 : Ref sig .tc := ⟨.hbm, 98, rfl⟩
abbrev main_while0b_v63 : Ref sig .tc := ⟨.hbm, 99, rfl⟩
abbrev main_while0b_v64 : Ref sig .tc := ⟨.hbm, 100, rfl⟩
abbrev main_while0b_v65 : Ref sig .tc := ⟨.hbm, 101, rfl⟩
abbrev main_while0b_v66 : Ref sig .tc := ⟨.hbm, 102, rfl⟩
abbrev main_while0b_v67 : Ref sig .tc := ⟨.hbm, 103, rfl⟩
abbrev main_while0b_v68 : Ref sig .tc := ⟨.hbm, 104, rfl⟩
abbrev main_while0b_cst_21 : Ref sig .tc := ⟨.hbm, 105, rfl⟩
abbrev main_while0b_v69 : Ref sig .tc := ⟨.hbm, 106, rfl⟩
abbrev main_while0b_v70 : Ref sig .tc := ⟨.hbm, 107, rfl⟩
abbrev main_while0b_v71 : Ref sig .tc := ⟨.hbm, 108, rfl⟩
abbrev main_while0b_cst_22 : Ref sig .tc := ⟨.hbm, 109, rfl⟩
abbrev main_while0b_v72 : Ref sig .tc := ⟨.hbm, 110, rfl⟩
abbrev main_while0b_v73 : Ref sig .tc := ⟨.hbm, 111, rfl⟩
abbrev main_while0b_v74 : Ref sig .tc := ⟨.hbm, 112, rfl⟩
abbrev main_while0b_v75 : Ref sig .tc := ⟨.hbm, 113, rfl⟩
abbrev main_while0b_v76 : Ref sig .tc := ⟨.hbm, 114, rfl⟩
abbrev main_while0b_cst_23 : Ref sig .tc := ⟨.hbm, 115, rfl⟩
abbrev main_while0b_call4_v0 : Ref sig .tc := ⟨.hbm, 116, rfl⟩
abbrev main_while0b_call4_v1 : Ref sig .tc := ⟨.hbm, 117, rfl⟩
abbrev main_while0b_v77 : Ref sig .tc := ⟨.hbm, 118, rfl⟩
abbrev main_while0b_cst_24 : Ref sig .tc := ⟨.hbm, 119, rfl⟩
abbrev main_while0b_v78 : Ref sig .tc := ⟨.hbm, 120, rfl⟩
abbrev main_while0b_v79 : Ref sig .tc := ⟨.hbm, 121, rfl⟩
abbrev main_while0b_v80 : Ref sig .tc := ⟨.hbm, 122, rfl⟩
abbrev main_while0b_v81 : Ref sig .tc := ⟨.hbm, 123, rfl⟩
abbrev main_while0b_call6_v0 : Ref sig .tc := ⟨.hbm, 124, rfl⟩
abbrev main_while0b_call6_c : Ref sig .tc := ⟨.hbm, 125, rfl⟩
abbrev main_while0b_v82 : Ref sig .tc := ⟨.hbm, 126, rfl⟩
abbrev main_while0b_c_25 : Ref sig .tc := ⟨.hbm, 127, rfl⟩
abbrev main_while0b_v83 : Ref sig .tc := ⟨.hbm, 128, rfl⟩

abbrev nD : Nat := 1
abbrev τ : Topo := Topo.v7x

variable {F : FTy → Type} [FloatOps F]

abbrev main_while0_count : Scf.Loop 32 := ⟨0#32, 100#32, 1#32⟩
-- ==== Proof.Spec.lean ====
module

public import proofs.«01_k».proof.Proof.Gen.KernelIdeal.Skeleton
public import Idealize.ShloMosaic.Lib.ValueIdxCore

@[expose] public section

set_option maxRecDepth 16384

noncomputable section

/-! What the kernel's loops compute, as functions of vectors: the extraction of each lane's eight best
    scores, the fast step over those eight, and the slow step over all rows. -/

namespace Cert.Proof.BodyIdeal

open Cert.KernelIdeal Cert.KernelIdeal.Gen
open Idealize.ShloMosaic Idealize.ShloMosaic.TcCoe

variable {F : FTy → Type} [FloatOps F] [Named F]

/-- A grid of numbers, one per box. -/
abbrev Grid (F : FTy → Type) := FVec F S160x128 .f32
/-- One number per lane. -/
abbrev Lanes (F : FTy → Type) := FVec F S1x128 .f32
/-- Eight numbers per lane. -/
abbrev Pool (F : FTy → Type) := FVec F S8x128 .f32

def third : F .f32 := Named.named κ "third" 0x3EAAAAAB#32
def eps3 : F .f32 := Named.named κ "eps3" 0x2FB7407F#32
def neg : F .f32 := Scalar.ofBits .f32 0xCE6E6B28#32
def halfNeg : F .f32 := Scalar.ofBits .f32 0xCDEE6B28#32
def zero : F .f32 := Scalar.ofBits .f32 0x00000000#32

def rowIx : IVec S160x128 32 := iota .tc S160x128 32 [0] iota_S160x128_d0_w32
def laneIx : IVec S1x128 32 := iota .tc S1x128 32 [1] iota_S1x128_d1_w32

/-- A grid as it is read. -/
def same (x : Grid F) : Grid F := shapeCast S160x128 x shapeCasts_S160x128_S160x128

/-- The scores, with those at most the threshold retired. -/
def start (s : Grid F) : Grid F :=
  select (cmpf .ogt (same s) (broadcast S160x128 (Scalar.ofBits .f32 0x3D4CCCCD#32 : F .f32))) (same s) (broadcast S160x128 neg)

/-- A third of each box's area. -/
def area {s : Shape} (x1 y1 x2 y2 : FVec F s .f32) : FVec F s .f32 :=
  mulf (mulf (subf x2 x1) (subf y2 y1)) (broadcast s third)

def ones : FVec F S128x128 .f32 := broadcast S128x128 (Scalar.ofBits .f32 0x3F800000#32 : F .f32)

/-! ## The extraction -/

def colMax (s : Grid F) : Lanes F :=
  shapeCast S1x128 (multiReduction .maximumf [0] S128 s 0xFF800000#32 reduces_S160x128_S128 (.inl rfl) rfl) shapeCasts_S128_S1x128

def firstRow (s : Grid F) : IVec S1x128 32 :=
  shapeCast S1x128 (multiReductionI .minsi [0] S128
    (select (cmpf .oeq s (broadcastTo S160x128 (colMax s) broadcasts_S1x128_S160x128)) rowIx (broadcast S160x128 160#32))
    2147483647#32 reduces_S160x128_S128 rfl) shapeCasts_S128_S1x128

def hotAt (r : IVec S1x128 32) : IVec S160x128 1 := cmpi .eq rowIx (broadcastTo S160x128 r broadcasts_S1x128_S160x128)

def pick (h : IVec S160x128 1) (x : Grid F) : Lanes F :=
  shapeCast S1x128 (multiReduction .add [0] S128 (select h x (broadcast S160x128 zero)) 0x00000000#32 reduces_S160x128_S128 (.inl rfl) rfl)
    shapeCasts_S128_S1x128

def drop (s : Grid F) : Grid F := select (hotAt (firstRow s)) (broadcast S160x128 neg) s

def level (s : Grid F) : ℕ → Grid F
  | 0 => s
  | n + 1 => drop (level s n)

def stack (f : ℕ → Lanes F) : Pool F :=
  concatenate S8x128 0 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩]
    concatenates_S1x128_S1x128_S1x128_S1x128_S1x128_S1x128_S1x128_S1x128_S8x128_d0

def poolS (s : Grid F) : Pool F := stack fun n => colMax (level s n)
def poolR (s : Grid F) : Pool F := stack fun n => sitofp .f32 (firstRow (level s n))
def poolX (s x : Grid F) : Pool F := stack fun n => pick (hotAt (firstRow (level s n))) x

/-- The best score outside the eight. -/
def rest (s : Grid F) : FVec F S1x1 .f32 :=
  shapeCast S1x1 (multiReduction .maximumf [1] S1 (colMax (level s 8)) 0xFF800000#32 reduces_S1x128_S1 (.inl rfl) rfl) shapeCasts_S1_S1x1

/-! ## The choice between two candidates -/

def betterF {s : Shape} (va ra vb rb : FVec F s .f32) : IVec s 1 :=
  ori (cmpf .ogt va vb) (andi (cmpf .oeq va vb) (cmpf .olt ra rb))

def betterI {s : Shape} (va : FVec F s .f32) (ra : IVec s 32) (vb : FVec F s .f32) (rb : IVec s 32) : IVec s 1 :=
  ori (cmpf .ogt va vb) (andi (cmpf .oeq va vb) (cmpi .slt ra rb))

def lo4 {α : Type} (u : S8x128.Idx → α) : S4x128.Idx → α := extractStridedSlice S4x128 ![0, 0] u slices_S8x128_o0_0_S4x128
def hi4 {α : Type} (u : S8x128.Idx → α) : S4x128.Idx → α := extractStridedSlice S4x128 ![4, 0] u slices_S8x128_o4_0_S4x128
def lo2 {α : Type} (u : S4x128.Idx → α) : S2x128.Idx → α := extractStridedSlice S2x128 ![0, 0] u slices_S4x128_o0_0_S2x128
def hi2 {α : Type} (u : S4x128.Idx → α) : S2x128.Idx → α := extractStridedSlice S2x128 ![2, 0] u slices_S4x128_o2_0_S2x128
def lo1 {α : Type} (u : S2x128.Idx → α) : S1x128.Idx → α := extractStridedSlice S1x128 ![0, 0] u slices_S2x128_o0_0_S1x128
def hi1 {α : Type} (u : S2x128.Idx → α) : S1x128.Idx → α := extractStridedSlice S1x128 ![1, 0] u slices_S2x128_o1_0_S1x128

/-! ## The fast step -/

def bit4 (v r : Pool F) : IVec S4x128 1 := betterF (lo4 v) (lo4 r) (hi4 v) (hi4 r)
def win4 (v r u : Pool F) : FVec F S4x128 .f32 := select (bit4 v r) (lo4 u) (hi4 u)
def bit2 (v r : Pool F) : IVec S2x128 1 := betterF (lo2 (win4 v r v)) (lo2 (win4 v r r)) (hi2 (win4 v r v)) (hi2 (win4 v r r))
def win2 (v r u : Pool F) : FVec F S2x128 .f32 := select (bit2 v r) (lo2 (win4 v r u)) (hi2 (win4 v r u))
def bit1 (v r : Pool F) : IVec S1x128 1 := betterF (lo1 (win2 v r v)) (lo1 (win2 v r r)) (hi1 (win2 v r v)) (hi1 (win2 v r r))
/-- Per lane, the entry of `u` in the slot whose score is best, the smaller row deciding. -/
def win1 (v r u : Pool F) : Lanes F := select (bit1 v r) (lo1 (win2 v r u)) (hi1 (win2 v r u))

/-- The lane of the first largest. -/
def laneHot (v : Lanes F) : IVec S1x128 1 :=
  cmpi .eq laneIx (broadcastTo S1x128 (shapeCast S1x1 (reduceIndex .argMax 1 S1 v reduces_S1x128_S1) shapeCasts_S1_S1x1) broadcasts_S1x1_S1x128)

def hot6 (h : IVec S1x128 1) (x : FVec F S6x128 .f32) : FVec F S6x128 .f32 :=
  select (broadcastTo S6x128 (shapeCast S1x128 h shapeCasts_S1x128_S1x128) broadcasts_S1x128_S6x128) x (broadcast S6x128 zero)
def hot5 (h : IVec S1x128 1) (x : FVec F S5x128 .f32) : FVec F S5x128 .f32 :=
  select (broadcastTo S5x128 (shapeCast S1x128 h shapeCasts_S1x128_S1x128) broadcasts_S1x128_S5x128) x (broadcast S5x128 zero)

/-- A number kept to sixteen bits. -/
def coarse {s : Shape} (x : FVec F s .f32) : FVec F s .f32 := extf .f32 (truncf .bf16 x bitsLt_bf16_f32) bitsLt_bf16_f32

def mul18 (x : FVec F S6x128 .f32) : FVec F S18x128 .f32 :=
  matmul dot_S18x128_S128x128_S18x128_1_0_0_1_n_n none
    (concatenate S18x128 0 [⟨S6x128, coarse x⟩, ⟨S6x128, coarse (subf x (coarse x))⟩,
      ⟨S6x128, subf (subf x (coarse x)) (coarse (subf x (coarse x)))⟩] concatenates_S6x128_S6x128_S6x128_S18x128_d0)
    ones (constant S18x128 .f32 0x00000000#32)
def mul15 (x : FVec F S5x128 .f32) : FVec F S15x128 .f32 :=
  matmul dot_S15x128_S128x128_S15x128_1_0_0_1_n_n none
    (concatenate S15x128 0 [⟨S5x128, coarse x⟩, ⟨S5x128, coarse (subf x (coarse x))⟩,
      ⟨S5x128, subf (subf x (coarse x)) (coarse (subf x (coarse x)))⟩] concatenates_S5x128_S5x128_S5x128_S15x128_d0)
    ones (constant S15x128 .f32 0x00000000#32)

/-- The chosen lane of each row, on all lanes. -/
def spread6 (h : IVec S1x128 1) (x : FVec F S6x128 .f32) : FVec F S6x128 .f32 :=
  addf (addf (extractStridedSlice S6x128 ![0, 0] (mul18 (hot6 h x)) slices_S18x128_o0_0_S6x128)
    (extractStridedSlice S6x128 ![6, 0] (mul18 (hot6 h x)) slices_S18x128_o6_0_S6x128))
    (extractStridedSlice S6x128 ![12, 0] (mul18 (hot6 h x)) slices_S18x128_o12_0_S6x128)
def spread5 (h : IVec S1x128 1) (x : FVec F S5x128 .f32) : FVec F S5x128 .f32 :=
  addf (addf (extractStridedSlice S5x128 ![0, 0] (mul15 (hot5 h x)) slices_S15x128_o0_0_S5x128)
    (extractStridedSlice S5x128 ![5, 0] (mul15 (hot5 h x)) slices_S15x128_o5_0_S5x128))
    (extractStridedSlice S5x128 ![10, 0] (mul15 (hot5 h x)) slices_S15x128_o10_0_S5x128)

/-- The row of a result: five numbers in the first five lanes. -/
def rowOf (a b c d e : Lanes F) : Lanes F :=
  select (cmpf .ogt e (broadcast S1x128 halfNeg))
    (addf (addf (addf (addf (select (cmpi .eq laneIx (broadcast S1x128 0#32)) a (broadcast S1x128 zero))
      (select (cmpi .eq laneIx (broadcast S1x128 1#32)) b (broadcast S1x128 zero)))
      (select (cmpi .eq laneIx (broadcast S1x128 2#32)) c (broadcast S1x128 zero)))
      (select (cmpi .eq laneIx (broadcast S1x128 3#32)) d (broadcast S1x128 zero)))
      (select (cmpi .eq laneIx (broadcast S1x128 4#32)) e (broadcast S1x128 zero)))
    (broadcast S1x128 zero)

/-- The eight best per lane, as the fast loop holds them. -/
structure Best (F : FTy → Type) where
  r : Pool F
  x1 : Pool F
  y1 : Pool F
  x2 : Pool F
  y2 : Pool F
  a : Pool F
  t : FVec F S1x1 .f32

def fast6 (B : Best F) (v : Pool F) : FVec F S6x128 .f32 :=
  spread6 (laneHot (win1 v B.r v))
    (concatenate S6x128 0 [⟨S1x128, win1 v B.r B.x1⟩, ⟨S1x128, win1 v B.r B.y1⟩, ⟨S1x128, win1 v B.r B.x2⟩, ⟨S1x128, win1 v B.r B.y2⟩,
      ⟨S1x128, win1 v B.r v⟩, ⟨S1x128, win1 v B.r B.r⟩] concatenates_S1x128_S1x128_S1x128_S1x128_S1x128_S1x128_S6x128_d0)

def fx1 (B : Best F) (v : Pool F) : Lanes F := extractStridedSlice S1x128 ![0, 0] (fast6 B v) slices_S6x128_o0_0_S1x128
def fy1 (B : Best F) (v : Pool F) : Lanes F := extractStridedSlice S1x128 ![1, 0] (fast6 B v) slices_S6x128_o1_0_S1x128
def fx2 (B : Best F) (v : Pool F) : Lanes F := extractStridedSlice S1x128 ![2, 0] (fast6 B v) slices_S6x128_o2_0_S1x128
def fy2 (B : Best F) (v : Pool F) : Lanes F := extractStridedSlice S1x128 ![3, 0] (fast6 B v) slices_S6x128_o3_0_S1x128
def fm (B : Best F) (v : Pool F) : Lanes F := extractStridedSlice S1x128 ![4, 0] (fast6 B v) slices_S6x128_o4_0_S1x128
def fr (B : Best F) (v : Pool F) : Lanes F := extractStridedSlice S1x128 ![5, 0] (fast6 B v) slices_S6x128_o5_0_S1x128

/-- Which entries a box `x1 y1 x2 y2`, given once per lane, suppresses. -/
def covers {s : Shape} (hb : S1x128.Broadcasts s) (x1 y1 x2 y2 : Lanes F) (X1 Y1 X2 Y2 A : FVec F s .f32) : IVec s 1 :=
  cmpf .ogt
    (mulf (maximumf (subf (minimumf (broadcastTo s x2 hb) X2) (maximumf (broadcastTo s x1 hb) X1)) (broadcast s zero))
      (maximumf (subf (minimumf (broadcastTo s y2 hb) Y2) (maximumf (broadcastTo s y1 hb) Y1)) (broadcast s zero)))
    (addf A (broadcastTo s (addf (area x1 y1 x2 y2) (broadcast S1x128 eps3)) hb))

def fastNext (B : Best F) (v : Pool F) : Pool F :=
  select (ori (covers (s := S8x128) broadcasts_S1x128_S8x128 (fx1 B v) (fy1 B v) (fx2 B v) (fy2 B v) B.x1 B.y1 B.x2 B.y2 B.a)
      (andi (andi (broadcastTo S8x128 (laneHot (win1 v B.r v)) broadcasts_S1x128_S8x128)
          (cmpf .oeq v (broadcastTo S8x128 (fm B v) broadcasts_S1x128_S8x128)))
        (cmpf .oeq B.r (broadcastTo S8x128 (fr B v) broadcasts_S1x128_S8x128))))
    (broadcast S8x128 neg) v

/-- Whether the eight may have missed the best. -/
def fastBad (B : Best F) (v : Pool F) : FVec F S1x1 .f32 :=
  sitofp .f32 (extui 32 (andi (cmpf .ole (extractStridedSlice S1x1 ![0, 0] (fm B v) slices_S1x128_o0_0_S1x1) B.t)
    (cmpf .ogt B.t (broadcast S1x1 halfNeg))) natLt_1_32)

def fastRow (B : Best F) (v : Pool F) : Lanes F := rowOf (fx1 B v) (fy1 B v) (fx2 B v) (fy2 B v) (fm B v)

def fastStep (B : Best F) (p : Pool F × FVec F S1x1 .f32) : Pool F × FVec F S1x1 .f32 :=
  (fastNext B p.1, maximumf p.2 (fastBad B p.1))

def fastIter (B : Best F) (v : Pool F) : ℕ → Pool F × FVec F S1x1 .f32
  | 0 => (v, broadcast S1x1 zero)
  | n + 1 => fastStep B (fastIter B v n)

/-! ## The slow step -/

/-- Scores with their rows. -/
structure Cand (F : FTy → Type) (s : Shape) where
  v : FVec F s .f32
  r : IVec s 32

def Cand.bit {s : Shape} (a b : Cand F s) : IVec s 1 := betterI a.v a.r b.v b.r
def Cand.take {s : Shape} (a b : Cand F s) : Cand F s := ⟨select (a.bit b) a.v b.v, select (a.bit b) a.r b.r⟩

def part0 (v : Grid F) : Cand F S8x128 := ⟨extractStridedSlice S8x128 ![0, 0] v slices_S160x128_o0_0_S8x128, extractStridedSlice S8x128 ![0, 0] rowIx slices_S160x128_o0_0_S8x128⟩
def part1 (v : Grid F) : Cand F S8x128 := ⟨extractStridedSlice S8x128 ![8, 0] v slices_S160x128_o8_0_S8x128, extractStridedSlice S8x128 ![8, 0] rowIx slices_S160x128_o8_0_S8x128⟩
def part2 (v : Grid F) : Cand F S8x128 := ⟨extractStridedSlice S8x128 ![16, 0] v slices_S160x128_o16_0_S8x128, extractStridedSlice S8x128 ![16, 0] rowIx slices_S160x128_o16_0_S8x128⟩
def part3 (v : Grid F) : Cand F S8x128 := ⟨extractStridedSlice S8x128 ![24, 0] v slices_S160x128_o24_0_S8x128, extractStridedSlice S8x128 ![24, 0] rowIx slices_S160x128_o24_0_S8x128⟩
def part4 (v : Grid F) : Cand F S8x128 := ⟨extractStridedSlice S8x128 ![32, 0] v slices_S160x128_o32_0_S8x128, extractStridedSlice S8x128 ![32, 0] rowIx slices_S160x128_o32_0_S8x128⟩
def part5 (v : Grid F) : Cand F S8x128 := ⟨extractStridedSlice S8x128 ![40, 0] v slices_S160x128_o40_0_S8x128, extractStridedSlice S8x128 ![40, 0] rowIx slices_S160x128_o40_0_S8x128⟩
def part6 (v : Grid F) : Cand F S8x128 := ⟨extractStridedSlice S8x128 ![48, 0] v slices_S160x128_o48_0_S8x128, extractStridedSlice S8x128 ![48, 0] rowIx slices_S160x128_o48_0_S8x128⟩
def part7 (v : Grid F) : Cand F S8x128 := ⟨extractStridedSlice S8x128 ![56, 0] v slices_S160x128_o56_0_S8x128, extractStridedSlice S8x128 ![56, 0] rowIx slices_S160x128_o56_0_S8x128⟩
def part8 (v : Grid F) : Cand F S8x128 := ⟨extractStridedSlice S8x128 ![64, 0] v slices_S160x128_o64_0_S8x128, extractStridedSlice S8x128 ![64, 0] rowIx slices_S160x128_o64_0_S8x128⟩
def part9 (v : Grid F) : Cand F S8x128 := ⟨extractStridedSlice S8x128 ![72, 0] v slices_S160x128_o72_0_S8x128, extractStridedSlice S8x128 ![72, 0] rowIx slices_S160x128_o72_0_S8x128⟩
def part10 (v : Grid F) : Cand F S8x128 := ⟨extractStridedSlice S8x128 ![80, 0] v slices_S160x128_o80_0_S8x128, extractStridedSlice S8x128 ![80, 0] rowIx slices_S160x128_o80_0_S8x128⟩
def part11 (v : Grid F) : Cand F S8x128 := ⟨extractStridedSlice S8x128 ![88, 0] v slices_S160x128_o88_0_S8x128, extractStridedSlice S8x128 ![88, 0] rowIx slices_S160x128_o88_0_S8x128⟩
def part12 (v : Grid F) : Cand F S8x128 := ⟨extractStridedSlice S8x128 ![96, 0] v slices_S160x128_o96_0_S8x128, extractStridedSlice S8x128 ![96, 0] rowIx slices_S160x128_o96_0_S8x128⟩
def part13 (v : Grid F) : Cand F S8x128 := ⟨extractStridedSlice S8x128 ![104, 0] v slices_S160x128_o104_0_S8x128, extractStridedSlice S8x128 ![104, 0] rowIx slices_S160x128_o104_0_S8x128⟩
def part14 (v : Grid F) : Cand F S8x128 := ⟨extractStridedSlice S8x128 ![112, 0] v slices_S160x128_o112_0_S8x128, extractStridedSlice S8x128 ![112, 0] rowIx slices_S160x128_o112_0_S8x128⟩
def part15 (v : Grid F) : Cand F S8x128 := ⟨extractStridedSlice S8x128 ![120, 0] v slices_S160x128_o120_0_S8x128, extractStridedSlice S8x128 ![120, 0] rowIx slices_S160x128_o120_0_S8x128⟩
def part16 (v : Grid F) : Cand F S8x128 := ⟨extractStridedSlice S8x128 ![128, 0] v slices_S160x128_o128_0_S8x128, extractStridedSlice S8x128 ![128, 0] rowIx slices_S160x128_o128_0_S8x128⟩
def part17 (v : Grid F) : Cand F S8x128 := ⟨extractStridedSlice S8x128 ![136, 0] v slices_S160x128_o136_0_S8x128, extractStridedSlice S8x128 ![136, 0] rowIx slices_S160x128_o136_0_S8x128⟩
def part18 (v : Grid F) : Cand F S8x128 := ⟨extractStridedSlice S8x128 ![144, 0] v slices_S160x128_o144_0_S8x128, extractStridedSlice S8x128 ![144, 0] rowIx slices_S160x128_o144_0_S8x128⟩
def part19 (v : Grid F) : Cand F S8x128 := ⟨extractStridedSlice S8x128 ![152, 0] v slices_S160x128_o152_0_S8x128, extractStridedSlice S8x128 ![152, 0] rowIx slices_S160x128_o152_0_S8x128⟩

def best8 (v : Grid F) : Cand F S8x128 := (Cand.take (Cand.take (Cand.take (Cand.take (Cand.take (part0 v) (part1 v)) (Cand.take (part2 v) (part3 v))) (Cand.take (Cand.take (part4 v) (part5 v)) (Cand.take (part6 v) (part7 v)))) (Cand.take (Cand.take (Cand.take (part8 v) (part9 v)) (Cand.take (part10 v) (part11 v))) (Cand.take (Cand.take (part12 v) (part13 v)) (Cand.take (part14 v) (part15 v))))) (Cand.take (Cand.take (part16 v) (part17 v)) (Cand.take (part18 v) (part19 v))))
def best4 (v : Grid F) : Cand F S4x128 := Cand.take ⟨lo4 (best8 v).v, lo4 (best8 v).r⟩ ⟨hi4 (best8 v).v, hi4 (best8 v).r⟩
def best2 (v : Grid F) : Cand F S2x128 := Cand.take ⟨lo2 (best4 v).v, lo2 (best4 v).r⟩ ⟨hi2 (best4 v).v, hi2 (best4 v).r⟩
/-- Per lane, the best score of the grid and its row. -/
def best1 (v : Grid F) : Cand F S1x128 := Cand.take ⟨lo1 (best2 v).v, lo1 (best2 v).r⟩ ⟨hi1 (best2 v).v, hi1 (best2 v).r⟩

def slow5 (x1 y1 x2 y2 v : Grid F) : FVec F S5x128 .f32 :=
  spread5 (laneHot (best1 v).v)
    (concatenate S5x128 0 [⟨S1x128, pick (hotAt (best1 v).r) x1⟩, ⟨S1x128, pick (hotAt (best1 v).r) y1⟩, ⟨S1x128, pick (hotAt (best1 v).r) x2⟩,
      ⟨S1x128, pick (hotAt (best1 v).r) y2⟩, ⟨S1x128, (best1 v).v⟩] concatenates_S1x128_S1x128_S1x128_S1x128_S1x128_S5x128_d0)

def sx1 (x1 y1 x2 y2 v : Grid F) : Lanes F := extractStridedSlice S1x128 ![0, 0] (slow5 x1 y1 x2 y2 v) slices_S5x128_o0_0_S1x128
def sy1 (x1 y1 x2 y2 v : Grid F) : Lanes F := extractStridedSlice S1x128 ![1, 0] (slow5 x1 y1 x2 y2 v) slices_S5x128_o1_0_S1x128
def sx2 (x1 y1 x2 y2 v : Grid F) : Lanes F := extractStridedSlice S1x128 ![2, 0] (slow5 x1 y1 x2 y2 v) slices_S5x128_o2_0_S1x128
def sy2 (x1 y1 x2 y2 v : Grid F) : Lanes F := extractStridedSlice S1x128 ![3, 0] (slow5 x1 y1 x2 y2 v) slices_S5x128_o3_0_S1x128
def smx (x1 y1 x2 y2 v : Grid F) : Lanes F := extractStridedSlice S1x128 ![4, 0] (slow5 x1 y1 x2 y2 v) slices_S5x128_o4_0_S1x128

def slowNext (x1 y1 x2 y2 v : Grid F) : Grid F :=
  select (covers (s := S160x128) broadcasts_S1x128_S160x128 (sx1 x1 y1 x2 y2 v) (sy1 x1 y1 x2 y2 v) (sx2 x1 y1 x2 y2 v) (sy2 x1 y1 x2 y2 v)
    x1 y1 x2 y2 (area x1 y1 x2 y2)) (broadcast S160x128 neg) v

def slowRow (x1 y1 x2 y2 v : Grid F) : Lanes F :=
  rowOf (sx1 x1 y1 x2 y2 v) (sy1 x1 y1 x2 y2 v) (sx2 x1 y1 x2 y2 v) (sy2 x1 y1 x2 y2 v) (smx x1 y1 x2 y2 v)

def slowIter (x1 y1 x2 y2 v : Grid F) : ℕ → Grid F
  | 0 => v
  | n + 1 => slowNext x1 y1 x2 y2 (slowIter x1 y1 x2 y2 v n)

/-! ## The result -/

def bestOf (x1 y1 x2 y2 s : Grid F) : Best F :=
  { r := poolR (start s)
    x1 := poolX (start s) (same x1)
    y1 := poolX (start s) (same y1)
    x2 := poolX (start s) (same x2)
    y2 := poolX (start s) (same y2)
    a := area (poolX (start s) (same x1)) (poolX (start s) (same y1)) (poolX (start s) (same x2)) (poolX (start s) (same y2))
    t := rest (start s) }

def fastState (x1 y1 x2 y2 s : Grid F) (n : ℕ) : Pool F × FVec F S1x1 .f32 :=
  fastIter (bestOf x1 y1 x2 y2 s) (poolS (start s)) n

/-- Whether the fast loop was certain of every step. -/
def poisoned (x1 y1 x2 y2 s : Grid F) : Prop :=
  Scalar.cmpi .ne (Scalar.extui (Scalar.cmpi .ne (extractAt ![0, 0] (fptosi 32 (fastState x1 y1 x2 y2 s 100).2) inpos_S1x1_p0_0) 0#32)) 0#32 = 1#1

/-- The row number `n` of the result. -/
def resultRow (x1 y1 x2 y2 s : Grid F) (n : ℕ) : Lanes F :=
  open Classical in
  if poisoned x1 y1 x2 y2 s then
    slowRow (same x1) (same y1) (same x2) (same y2) (slowIter (same x1) (same y1) (same x2) (same y2) (start s) n)
  else fastRow (bestOf x1 y1 x2 y2 s) (fastState x1 y1 x2 y2 s n).1

/-- The kernel's block of results. -/
def result (x1 y1 x2 y2 s : Grid F) : Vec F S100x128 .f32 := fun y => resultRow x1 y1 x2 y2 s (y 0).val (ValueIdx.ix2 (n0 := 1) (n1 := 128) 0 (y 1))

end Cert.Proof.BodyIdeal
-- ==== Proof.Rows.lean ====
module

public import proofs.«01_k».proof.Proof.Spec
public import proofs.«01_k».proof.Proof.Gen.KernelIdeal.Loops
public import Idealize.ShloMosaic.Lib.Tactic
public import Idealize.ShloMosaic.Lib.WritesUnit

@[expose] public section

set_option maxRecDepth 16384

noncomputable section

/-! The trips of the kernel's two loops in terms of the steps: what a trip carries on and the row it stores. -/

namespace Cert.Proof.BodyIdeal

open Cert.KernelIdeal Cert.KernelIdeal.Gen
open Idealize.ShloMosaic Idealize.ShloMosaic.TcCoe

variable {F : FTy → Type} [FloatOps F] [Named F]

section Writes

variable {sig : RefSig} {κ : Kind} {sp : Space}

/-- Rows stored one after another, each at its number, are all there afterwards. -/
theorem read_rows (v : View sig κ sp S100x128 .f32) (f : v.ty.Contents (Elt F))
    (L : ℕ → List (View.Piece (Elt F) S100x128 .f32)) (w : ℕ → Lanes F) (N : ℕ)
    (h : ∀ k, k < N → ∃ (off : Fin 2 → ℕ) (inb : ∀ a : Fin 2, off a + S1x128.size a ≤ S100x128.size a), off = ![k, 0]
      ∧ L (k + 1) = ⟨Rect.unit (s := S100x128) off S1x128.size inb, w k⟩ :: L k) :
    ∀ k, k ≤ N → ∀ y : S100x128.Idx, (y 0).val < k →
      v.read (Elt F) (v.writes (Elt F) f (L k)) y = w (y 0).val (ValueIdx.ix2 (n0 := 1) (n1 := 128) 0 (y 1)) := by
  intro k
  induction k with
  | zero => intro _ y hy; exact absurd hy (Nat.not_lt_zero _)
  | succ k ih =>
    intro hk y hy
    obtain ⟨off, inb, hoff, hL⟩ := h k (by omega)
    rw [hL]
    by_cases e : (y 0).val = k
    · rw [View.read_writes_cons_rows_of_mem v f inb (w k) (L k) y (ValueIdx.ix2 (n0 := 1) (n1 := 128) 0 (y 1)) hoff (by show _ = k + 0; omega) rfl, e]
    · rw [View.read_writes_cons_rows_of_not_mem v f inb (w k) (L k) y hoff (W := 1) rfl (by left; omega)]
      exact ih (by omega) y (by omega)

end Writes

theorem trips1 : k0_t1_loop.trips = 100 := by decide
theorem trips2 : k0_t2_loop.trips = 100 := by decide

section Tree

variable (v : Grid F)

theorem cand324 : (⟨trip_k0_t2.sl.v324 rowIx v, trip_k0_t2.sl.v325 rowIx v⟩ : Cand F _) = Cand.take (part0 v) (part1 v) := rfl
theorem cand331 : (⟨trip_k0_t2.sl.v331 rowIx v, trip_k0_t2.sl.v332 rowIx v⟩ : Cand F _) = Cand.take (part2 v) (part3 v) := rfl
theorem cand338 : (⟨trip_k0_t2.sl.v338 rowIx v, trip_k0_t2.sl.v339 rowIx v⟩ : Cand F _) = Cand.take (part4 v) (part5 v) := rfl
theorem cand345 : (⟨trip_k0_t2.sl.v345 rowIx v, trip_k0_t2.sl.v346 rowIx v⟩ : Cand F _) = Cand.take (part6 v) (part7 v) := rfl
theorem cand352 : (⟨trip_k0_t2.sl.v352 rowIx v, trip_k0_t2.sl.v353 rowIx v⟩ : Cand F _) = Cand.take (part8 v) (part9 v) := rfl
theorem cand359 : (⟨trip_k0_t2.sl.v359 rowIx v, trip_k0_t2.sl.v360 rowIx v⟩ : Cand F _) = Cand.take (part10 v) (part11 v) := rfl
theorem cand366 : (⟨trip_k0_t2.sl.v366 rowIx v, trip_k0_t2.sl.v367 rowIx v⟩ : Cand F _) = Cand.take (part12 v) (part13 v) := rfl
theorem cand373 : (⟨trip_k0_t2.sl.v373 rowIx v, trip_k0_t2.sl.v374 rowIx v⟩ : Cand F _) = Cand.take (part14 v) (part15 v) := rfl
theorem cand380 : (⟨trip_k0_t2.sl.v380 rowIx v, trip_k0_t2.sl.v381 rowIx v⟩ : Cand F _) = Cand.take (part16 v) (part17 v) := rfl
theorem cand387 : (⟨trip_k0_t2.sl.v387 rowIx v, trip_k0_t2.sl.v388 rowIx v⟩ : Cand F _) = Cand.take (part18 v) (part19 v) := rfl
theorem cand394 : (⟨trip_k0_t2.sl.v394 rowIx v, trip_k0_t2.sl.v395 rowIx v⟩ : Cand F _) = Cand.take (⟨trip_k0_t2.sl.v324 rowIx v, trip_k0_t2.sl.v325 rowIx v⟩ : Cand F _) (⟨trip_k0_t2.sl.v331 rowIx v, trip_k0_t2.sl.v332 rowIx v⟩ : Cand F _) := rfl
theorem cand401 : (⟨trip_k0_t2.sl.v401 rowIx v, trip_k0_t2.sl.v402 rowIx v⟩ : Cand F _) = Cand.take (⟨trip_k0_t2.sl.v338 rowIx v, trip_k0_t2.sl.v339 rowIx v⟩ : Cand F _) (⟨trip_k0_t2.sl.v345 rowIx v, trip_k0_t2.sl.v346 rowIx v⟩ : Cand F _) := rfl
theorem cand408 : (⟨trip_k0_t2.sl.v408 rowIx v, trip_k0_t2.sl.v409 rowIx v⟩ : Cand F _) = Cand.take (⟨trip_k0_t2.sl.v352 rowIx v, trip_k0_t2.sl.v353 rowIx v⟩ : Cand F _) (⟨trip_k0_t2.sl.v359 rowIx v, trip_k0_t2.sl.v360 rowIx v⟩ : Cand F _) := rfl
theorem cand415 : (⟨trip_k0_t2.sl.v415 rowIx v, trip_k0_t2.sl.v416 rowIx v⟩ : Cand F _) = Cand.take (⟨trip_k0_t2.sl.v366 rowIx v, trip_k0_t2.sl.v367 rowIx v⟩ : Cand F _) (⟨trip_k0_t2.sl.v373 rowIx v, trip_k0_t2.sl.v374 rowIx v⟩ : Cand F _) := rfl
theorem cand422 : (⟨trip_k0_t2.sl.v422 rowIx v, trip_k0_t2.sl.v423 rowIx v⟩ : Cand F _) = Cand.take (⟨trip_k0_t2.sl.v380 rowIx v, trip_k0_t2.sl.v381 rowIx v⟩ : Cand F _) (⟨trip_k0_t2.sl.v387 rowIx v, trip_k0_t2.sl.v388 rowIx v⟩ : Cand F _) := rfl
theorem cand429 : (⟨trip_k0_t2.sl.v429 rowIx v, trip_k0_t2.sl.v430 rowIx v⟩ : Cand F _) = Cand.take (⟨trip_k0_t2.sl.v394 rowIx v, trip_k0_t2.sl.v395 rowIx v⟩ : Cand F _) (⟨trip_k0_t2.sl.v401 rowIx v, trip_k0_t2.sl.v402 rowIx v⟩ : Cand F _) := rfl
theorem cand436 : (⟨trip_k0_t2.sl.v436 rowIx v, trip_k0_t2.sl.v437 rowIx v⟩ : Cand F _) = Cand.take (⟨trip_k0_t2.sl.v408 rowIx v, trip_k0_t2.sl.v409 rowIx v⟩ : Cand F _) (⟨trip_k0_t2.sl.v415 rowIx v, trip_k0_t2.sl.v416 rowIx v⟩ : Cand F _) := rfl
theorem cand443 : (⟨trip_k0_t2.sl.v443 rowIx v, trip_k0_t2.sl.v444 rowIx v⟩ : Cand F _) = Cand.take (⟨trip_k0_t2.sl.v429 rowIx v, trip_k0_t2.sl.v430 rowIx v⟩ : Cand F _) (⟨trip_k0_t2.sl.v436 rowIx v, trip_k0_t2.sl.v437 rowIx v⟩ : Cand F _) := rfl
theorem cand450 : (⟨trip_k0_t2.sl.v450 rowIx v, trip_k0_t2.sl.v451 rowIx v⟩ : Cand F _) = Cand.take (⟨trip_k0_t2.sl.v443 rowIx v, trip_k0_t2.sl.v444 rowIx v⟩ : Cand F _) (⟨trip_k0_t2.sl.v422 rowIx v, trip_k0_t2.sl.v423 rowIx v⟩ : Cand F _) := rfl
theorem cand461 : (⟨trip_k0_t2.sl.v461 rowIx v, trip_k0_t2.sl.v462 rowIx v⟩ : Cand F _) = Cand.take ⟨lo4 (⟨trip_k0_t2.sl.v450 rowIx v, trip_k0_t2.sl.v451 rowIx v⟩ : Cand F _).v, lo4 (⟨trip_k0_t2.sl.v450 rowIx v, trip_k0_t2.sl.v451 rowIx v⟩ : Cand F _).r⟩ ⟨hi4 (⟨trip_k0_t2.sl.v450 rowIx v, trip_k0_t2.sl.v451 rowIx v⟩ : Cand F _).v, hi4 (⟨trip_k0_t2.sl.v450 rowIx v, trip_k0_t2.sl.v451 rowIx v⟩ : Cand F _).r⟩ := rfl
theorem cand472 : (⟨trip_k0_t2.sl.v472 rowIx v, trip_k0_t2.sl.v473 rowIx v⟩ : Cand F _) = Cand.take ⟨lo2 (⟨trip_k0_t2.sl.v461 rowIx v, trip_k0_t2.sl.v462 rowIx v⟩ : Cand F _).v, lo2 (⟨trip_k0_t2.sl.v461 rowIx v, trip_k0_t2.sl.v462 rowIx v⟩ : Cand F _).r⟩ ⟨hi2 (⟨trip_k0_t2.sl.v461 rowIx v, trip_k0_t2.sl.v462 rowIx v⟩ : Cand F _).v, hi2 (⟨trip_k0_t2.sl.v461 rowIx v, trip_k0_t2.sl.v462 rowIx v⟩ : Cand F _).r⟩ := rfl
theorem cand483 : (⟨trip_k0_t2.sl.v483 rowIx v, trip_k0_t2.sl.v484 rowIx v⟩ : Cand F _) = Cand.take ⟨lo1 (⟨trip_k0_t2.sl.v472 rowIx v, trip_k0_t2.sl.v473 rowIx v⟩ : Cand F _).v, lo1 (⟨trip_k0_t2.sl.v472 rowIx v, trip_k0_t2.sl.v473 rowIx v⟩ : Cand F _).r⟩ ⟨hi1 (⟨trip_k0_t2.sl.v472 rowIx v, trip_k0_t2.sl.v473 rowIx v⟩ : Cand F _).v, hi1 (⟨trip_k0_t2.sl.v472 rowIx v, trip_k0_t2.sl.v473 rowIx v⟩ : Cand F _).r⟩ := rfl

theorem cand_best8 : (⟨trip_k0_t2.sl.v450 rowIx v, trip_k0_t2.sl.v451 rowIx v⟩ : Cand F _) = best8 v := by
  rw [cand450, cand443, cand429, cand436, cand394, cand401, cand408, cand415, cand422, cand324, cand331, cand338, cand345, cand352,
    cand359, cand366, cand373, cand380, cand387]
  rfl

theorem cand_best1 : (⟨trip_k0_t2.sl.v483 rowIx v, trip_k0_t2.sl.v484 rowIx v⟩ : Cand F _) = best1 v := by
  rw [cand483, cand472, cand461, cand_best8]
  rfl

theorem best1_v : trip_k0_t2.sl.v483 rowIx v = (best1 v).v := congrArg Cand.v (cand_best1 v)
theorem best1_r : trip_k0_t2.sl.v484 rowIx v = (best1 v).r := congrArg Cand.r (cand_best1 v)

variable (x1 y1 x2 y2 : Grid F)

theorem slow_hot : trip_k0_t2.sl.v508 rowIx laneIx v = shapeCast S1x128 (laneHot (best1 v).v) shapeCasts_S1x128_S1x128 := by
  rw [← best1_v]; rfl

theorem slow_stack : trip_k0_t2.sl.v507 x1 y1 x2 y2 rowIx v
    = concatenate S5x128 0 [⟨S1x128, pick (hotAt (best1 v).r) x1⟩, ⟨S1x128, pick (hotAt (best1 v).r) y1⟩, ⟨S1x128, pick (hotAt (best1 v).r) x2⟩,
      ⟨S1x128, pick (hotAt (best1 v).r) y2⟩, ⟨S1x128, (best1 v).v⟩] concatenates_S1x128_S1x128_S1x128_S1x128_S1x128_S5x128_d0 := by
  rw [← best1_v, ← best1_r]; rfl

end Tree

section Slow

variable (c : Dev nD) (arg0 : Memref sig .tc .vmem S160x128 .f32) (harg0 : arg0.IsWhole)
    (arg1 : Memref sig .tc .vmem S160x128 .f32) (harg1 : arg1.IsWhole) (arg2 : Memref sig .tc .vmem S160x128 .f32) (harg2 : arg2.IsWhole)
    (arg3 : Memref sig .tc .vmem S160x128 .f32) (harg3 : arg3.IsWhole) (arg4 : Memref sig .tc .vmem S160x128 .f32) (harg4 : arg4.IsWhole)
    (arg5 : Memref sig .tc .vmem S100x128 .f32) (harg5 : arg5.IsWhole)
    (x1 y1 x2 y2 v : Grid F)

theorem slow_trip (k : Fin k0_t2_loop.trips) (acc : Grid F) :
    tripR_k0_t2 Variants.none c none arg0 harg0 arg1 harg1 arg2 harg2 arg3 harg3 arg4 harg4 arg5 harg5 x1 y1 x2 y2 (area x1 y1 x2 y2) rowIx laneIx ones k acc
      = slowNext x1 y1 x2 y2 acc
    ∧ tripL_k0_t2 Variants.none c none arg0 harg0 arg1 harg1 arg2 harg2 arg3 harg3 arg4 harg4 arg5 harg5 x1 y1 x2 y2 (area x1 y1 x2 y2) rowIx laneIx ones k acc
      = [⟨Rect.unit (s := S100x128) (k0_off2 k) S1x128.size (k0_off2_inb k), slowRow x1 y1 x2 y2 acc⟩] := by
  unfold tripR_k0_t2 tripL_k0_t2 trip_k0_t2
  dsimp only
  unfold trip_k0_t2.sl.r trip_k0_t2.sl.r_1 trip_k0_t2.sl.r_2 trip_k0_t2.sl.r_3 trip_k0_t2.sl.r_4 trip_k0_t2.sl.r_5 trip_k0_t2.sl.r_6
  rw [slow_hot, slow_stack]
  exact ⟨rfl, rfl⟩

theorem slow_state (k : ℕ) (hk : k ≤ 100) :
    (st_k0_t2 Variants.none c none arg0 harg0 arg1 harg1 arg2 harg2 arg3 harg3 arg4 harg4 arg5 harg5 x1 y1 x2 y2 (area x1 y1 x2 y2) rowIx laneIx ones v k).1
      = slowIter x1 y1 x2 y2 v k := by
  induction k with
  | zero => rfl
  | succ k ih =>
    rw [st_k0_t2_succ Variants.none c none arg0 harg0 arg1 harg1 arg2 harg2 arg3 harg3 arg4 harg4 arg5 harg5 x1 y1 x2 y2 (area x1 y1 x2 y2) rowIx laneIx ones v ⟨k, by rw [trips2]; omega⟩]
    dsimp only
    rw [(slow_trip c arg0 harg0 arg1 harg1 arg2 harg2 arg3 harg3 arg4 harg4 arg5 harg5 x1 y1 x2 y2 _ _).1, ih (by omega)]
    rfl

/-- After the slow loop the rows read are the slow rows, whatever was there. -/
theorem slow_read (f : BufTy.Contents (Elt F) arg5.view.ty) (y : S100x128.Idx) :
    arg5.view.read (Elt F) (arg5.view.writes (Elt F) f
        (st_k0_t2 Variants.none c none arg0 harg0 arg1 harg1 arg2 harg2 arg3 harg3 arg4 harg4 arg5 harg5 x1 y1 x2 y2 (area x1 y1 x2 y2) rowIx laneIx ones v 100).2) y
      = slowRow x1 y1 x2 y2 (slowIter x1 y1 x2 y2 v (y 0).val) (ValueIdx.ix2 (n0 := 1) (n1 := 128) 0 (y 1)) := by
  refine read_rows arg5.view f (fun k => (st_k0_t2 Variants.none c none arg0 harg0 arg1 harg1 arg2 harg2 arg3 harg3 arg4 harg4 arg5 harg5 x1 y1 x2 y2 (area x1 y1 x2 y2) rowIx laneIx ones v k).2)
    (fun k => slowRow x1 y1 x2 y2 (slowIter x1 y1 x2 y2 v k)) 100 (fun k hk => ?_) 100 le_rfl y (y 0).isLt
  have hk' : k < k0_t2_loop.trips := by rw [trips2]; omega
  refine ⟨k0_off2 ⟨k, hk'⟩, k0_off2_inb ⟨k, hk'⟩, k0_off2_eq ⟨k, hk'⟩, ?_⟩
  dsimp only
  rw [st_k0_t2_succ Variants.none c none arg0 harg0 arg1 harg1 arg2 harg2 arg3 harg3 arg4 harg4 arg5 harg5 x1 y1 x2 y2 (area x1 y1 x2 y2) rowIx laneIx ones v ⟨k, hk'⟩]
  dsimp only
  rw [(slow_trip c arg0 harg0 arg1 harg1 arg2 harg2 arg3 harg3 arg4 harg4 arg5 harg5 x1 y1 x2 y2 _ _).2, slow_state c arg0 harg0 arg1 harg1 arg2 harg2 arg3 harg3 arg4 harg4 arg5 harg5 x1 y1 x2 y2 v k (by omega)]
  rfl

end Slow

section Fast

variable (c : Dev nD) (arg0 : Memref sig .tc .vmem S160x128 .f32) (harg0 : arg0.IsWhole)
    (arg1 : Memref sig .tc .vmem S160x128 .f32) (harg1 : arg1.IsWhole) (arg2 : Memref sig .tc .vmem S160x128 .f32) (harg2 : arg2.IsWhole)
    (arg3 : Memref sig .tc .vmem S160x128 .f32) (harg3 : arg3.IsWhole) (arg4 : Memref sig .tc .vmem S160x128 .f32) (harg4 : arg4.IsWhole)
    (arg5 : Memref sig .tc .vmem S100x128 .f32) (harg5 : arg5.IsWhole)
    (v43 v48 v72 v77 v101 v106 v130 v135 v159 v164 v188 v193 v217 v222 : Lanes F) (v224 : Grid F) (v232 : IVec S1x128 32)
    (v234 : IVec S160x128 1) (v246 : Lanes F) (v260 v261 v263 : Pool F)

/-- The eight best per lane, from the pieces the loop is handed. -/
def bestFrom : Best F :=
  { r := k0_pay3 v48 v77 v106 v135 v164 v193 v222 v232
    x1 := v260
    y1 := v261
    x2 := k0_pay4 v43 v72 v101 v130 v159 v188 v217 v246
    y2 := v263
    a := k0_pay5 v43 v72 v101 v130 v159 v188 v217 v246 v260 v261 v263
    t := k0_pay1 v224 v234 }

theorem fast_trip (k : Fin k0_t1_loop.trips) (acc : Pool F × FVec F S1x1 .f32) :
    tripR_k0_t1 Variants.none c none arg0 harg0 arg1 harg1 arg2 harg2 arg3 harg3 arg4 harg4 arg5 harg5 laneIx ones v43 v48 v72 v77 v101 v106 v130 v135 v159 v164 v188 v193 v217 v222 v224 v232 v234 v246 v260 v261 v263 k acc = fastStep (bestFrom v43 v48 v72 v77 v101 v106 v130 v135 v159 v164 v188 v193 v217 v222 v224 v232 v234 v246 v260 v261 v263) acc
    ∧ tripL_k0_t1 Variants.none c none arg0 harg0 arg1 harg1 arg2 harg2 arg3 harg3 arg4 harg4 arg5 harg5 laneIx ones v43 v48 v72 v77 v101 v106 v130 v135 v159 v164 v188 v193 v217 v222 v224 v232 v234 v246 v260 v261 v263 k acc
      = [⟨Rect.unit (s := S100x128) (k0_off1 k) S1x128.size (k0_off1_inb k), fastRow (bestFrom v43 v48 v72 v77 v101 v106 v130 v135 v159 v164 v188 v193 v217 v222 v224 v232 v234 v246 v260 v261 v263) acc.1⟩] := by
  unfold tripR_k0_t1 tripL_k0_t1 trip_k0_t1
  exact ⟨rfl, rfl⟩

theorem fast_state (v : Pool F) (k : ℕ) (hk : k ≤ 100) :
    (st_k0_t1 Variants.none c none arg0 harg0 arg1 harg1 arg2 harg2 arg3 harg3 arg4 harg4 arg5 harg5 laneIx ones v43 v48 v72 v77 v101 v106 v130 v135 v159 v164 v188 v193 v217 v222 v224 v232 v234 v246 v260 v261 v263 (v, k0_pay6) k).1 = fastIter (bestFrom v43 v48 v72 v77 v101 v106 v130 v135 v159 v164 v188 v193 v217 v222 v224 v232 v234 v246 v260 v261 v263) v k := by
  induction k with
  | zero => rfl
  | succ k ih =>
    rw [st_k0_t1_succ Variants.none c none arg0 harg0 arg1 harg1 arg2 harg2 arg3 harg3 arg4 harg4 arg5 harg5 laneIx ones v43 v48 v72 v77 v101 v106 v130 v135 v159 v164 v188 v193 v217 v222 v224 v232 v234 v246 v260 v261 v263 (v, k0_pay6) ⟨k, by rw [trips1]; omega⟩]
    dsimp only
    rw [(fast_trip c arg0 harg0 arg1 harg1 arg2 harg2 arg3 harg3 arg4 harg4 arg5 harg5 v43 v48 v72 v77 v101 v106 v130 v135 v159 v164 v188 v193 v217 v222 v224 v232 v234 v246 v260 v261 v263 _ _).1, ih (by omega)]
    rfl

/-- After the fast loop the rows read are the fast rows, whatever was there. -/
theorem fast_read (v : Pool F) (f : BufTy.Contents (Elt F) arg5.view.ty) (y : S100x128.Idx) :
    arg5.view.read (Elt F) (arg5.view.writes (Elt F) f (st_k0_t1 Variants.none c none arg0 harg0 arg1 harg1 arg2 harg2 arg3 harg3 arg4 harg4 arg5 harg5 laneIx ones v43 v48 v72 v77 v101 v106 v130 v135 v159 v164 v188 v193 v217 v222 v224 v232 v234 v246 v260 v261 v263 (v, k0_pay6) 100).2) y
      = fastRow (bestFrom v43 v48 v72 v77 v101 v106 v130 v135 v159 v164 v188 v193 v217 v222 v224 v232 v234 v246 v260 v261 v263) (fastIter (bestFrom v43 v48 v72 v77 v101 v106 v130 v135 v159 v164 v188 v193 v217 v222 v224 v232 v234 v246 v260 v261 v263) v (y 0).val).1 (ValueIdx.ix2 (n0 := 1) (n1 := 128) 0 (y 1)) := by
  refine read_rows arg5.view f (fun k => (st_k0_t1 Variants.none c none arg0 harg0 arg1 harg1 arg2 harg2 arg3 harg3 arg4 harg4 arg5 harg5 laneIx ones v43 v48 v72 v77 v101 v106 v130 v135 v159 v164 v188 v193 v217 v222 v224 v232 v234 v246 v260 v261 v263 (v, k0_pay6) k).2)
    (fun k => fastRow (bestFrom v43 v48 v72 v77 v101 v106 v130 v135 v159 v164 v188 v193 v217 v222 v224 v232 v234 v246 v260 v261 v263) (fastIter (bestFrom v43 v48 v72 v77 v101 v106 v130 v135 v159 v164 v188 v193 v217 v222 v224 v232 v234 v246 v260 v261 v263) v k).1) 100 (fun k hk => ?_) 100 le_rfl y (y 0).isLt
  have hk' : k < k0_t1_loop.trips := by rw [trips1]; omega
  refine ⟨k0_off1 ⟨k, hk'⟩, k0_off1_inb ⟨k, hk'⟩, k0_off1_eq ⟨k, hk'⟩, ?_⟩
  dsimp only
  rw [st_k0_t1_succ Variants.none c none arg0 harg0 arg1 harg1 arg2 harg2 arg3 harg3 arg4 harg4 arg5 harg5 laneIx ones v43 v48 v72 v77 v101 v106 v130 v135 v159 v164 v188 v193 v217 v222 v224 v232 v234 v246 v260 v261 v263 (v, k0_pay6) ⟨k, hk'⟩]
  dsimp only
  rw [(fast_trip c arg0 harg0 arg1 harg1 arg2 harg2 arg3 harg3 arg4 harg4 arg5 harg5 v43 v48 v72 v77 v101 v106 v130 v135 v159 v164 v188 v193 v217 v222 v224 v232 v234 v246 v260 v261 v263 _ _).2, fast_state c arg0 harg0 arg1 harg1 arg2 harg2 arg3 harg3 arg4 harg4 arg5 harg5 v43 v48 v72 v77 v101 v106 v130 v135 v159 v164 v188 v193 v217 v222 v224 v232 v234 v246 v260 v261 v263 v k (by omega)]
  rfl

end Fast

end Cert.Proof.BodyIdeal
-- ==== Proof.Body.lean ====
module

public import proofs.«01_k».proof.Proof.Gen.KernelIdeal.Frame
public import proofs.«01_k».proof.Proof.Rows
public import Idealize.ShloMosaic.Lib.VecWindow
public import Idealize.ShloMosaic.Lib.Tactic

@[expose] public section

set_option maxRecDepth 16384

noncomputable section

namespace Cert.Proof.BodyIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

/-- The kernel on any buffers: the inputs stay, the output buffer is left with `result`. -/
theorem kernelRun (c : Dev nD) (E : Set ℕ) (arg0 : Memref sig .tc .vmem S160x128 .f32) (harg0 : arg0.IsWhole)
    (arg1 : Memref sig .tc .vmem S160x128 .f32) (harg1 : arg1.IsWhole) (arg2 : Memref sig .tc .vmem S160x128 .f32) (harg2 : arg2.IsWhole)
    (arg3 : Memref sig .tc .vmem S160x128 .f32) (harg3 : arg3.IsWhole) (arg4 : Memref sig .tc .vmem S160x128 .f32) (harg4 : arg4.IsWhole)
    (arg5 : Memref sig .tc .vmem S100x128 .f32) (harg5 : arg5.IsWhole)
    (x0 x1 x2 x3 x4 : Vec F S160x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
          ∗ owns (c : Thread nD τ) arg3 fullShare x3 ∗ owns (c : Thread nD τ) arg4 fullShare x4
          ∗ owns (c : Thread nD τ) arg5 fullShare (result x0 x1 x2 x3 x4)) -∗ K ⟨⟩))
      ⊢ wp frame (wpE (defs₀ (F := F)) Variants.none c none) E (cc0__nms_body arg0 harg0 arg1 harg1 arg2 harg2 arg3 harg3 arg4 harg4 arg5 harg5) K := by
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_unfold [cc0__nms_body]
  sl_exec
  have q0 : View.read (Elt F) arg0.view f0 = View.readAt (Elt F) arg0.view (Rect.unit ![0, 0] S160x128.size (inb_S160x128_S160x128_0_0)).toLoadRect f0 :=
    (View.readAt_full _ _ _).symm
  have q1 : View.read (Elt F) arg1.view f1 = View.readAt (Elt F) arg1.view (Rect.unit ![0, 0] S160x128.size (inb_S160x128_S160x128_0_0)).toLoadRect f1 :=
    (View.readAt_full _ _ _).symm
  have q2 : View.read (Elt F) arg2.view f2 = View.readAt (Elt F) arg2.view (Rect.unit ![0, 0] S160x128.size (inb_S160x128_S160x128_0_0)).toLoadRect f2 :=
    (View.readAt_full _ _ _).symm
  have q3 : View.read (Elt F) arg3.view f3 = View.readAt (Elt F) arg3.view (Rect.unit ![0, 0] S160x128.size (inb_S160x128_S160x128_0_0)).toLoadRect f3 :=
    (View.readAt_full _ _ _).symm
  have q4 : View.read (Elt F) arg4.view f4 = View.readAt (Elt F) arg4.view (Rect.unit ![0, 0] S160x128.size (inb_S160x128_S160x128_0_0)).toLoadRect f4 :=
    (View.readAt_full _ _ _).symm
  have hB : bestFrom (kernelRun.sl.v43 c arg2 arg4 f2 f4) (kernelRun.sl.v48 c arg4 f4) (kernelRun.sl.v72 c arg2 arg4 f2 f4) (kernelRun.sl.v77 c arg4 f4) (kernelRun.sl.v101 c arg2 arg4 f2 f4) (kernelRun.sl.v106 c arg4 f4) (kernelRun.sl.v130 c arg2 arg4 f2 f4) (kernelRun.sl.v135 c arg4 f4) (kernelRun.sl.v159 c arg2 arg4 f2 f4) (kernelRun.sl.v164 c arg4 f4) (kernelRun.sl.v188 c arg2 arg4 f2 f4) (kernelRun.sl.v193 c arg4 f4) (kernelRun.sl.v217 c arg2 arg4 f2 f4) (kernelRun.sl.v222 c arg4 f4) (kernelRun.sl.v224 c arg4 f4) (kernelRun.sl.v232 c arg4 f4) (kernelRun.sl.v234 c arg4 f4) (kernelRun.sl.v246 c arg2 arg4 f2 f4) (kernelRun.sl.v260 c arg0 arg4 f0 f4) (kernelRun.sl.v261 c arg1 arg4 f1 f4) (kernelRun.sl.v263 c arg3 arg4 f3 f4) = bestOf (View.read (Elt F) arg0.view f0) (View.read (Elt F) arg1.view f1) (View.read (Elt F) arg2.view f2) (View.read (Elt F) arg3.view f3) (View.read (Elt F) arg4.view f4) := by
    rw [q0, q1, q2, q3, q4]; rfl
  have hP : (k0_pay2 (kernelRun.sl.r_6 c arg4 f4) (kernelRun.sl.v52 c arg4 f4) (kernelRun.sl.v81 c arg4 f4) (kernelRun.sl.v110 c arg4 f4) (kernelRun.sl.v139 c arg4 f4) (kernelRun.sl.v168 c arg4 f4) (kernelRun.sl.v197 c arg4 f4) (kernelRun.sl.v226 c arg4 f4)) = poolS (start (View.read (Elt F) arg4.view f4)) := by
    rw [q4]; rfl
  have hpois : poisoned (View.read (Elt F) arg0.view f0) (View.read (Elt F) arg1.view f1) (View.read (Elt F) arg2.view f2) (View.read (Elt F) arg3.view f3) (View.read (Elt F) arg4.view f4) = (kernelRun.sl.v276 c arg0 harg0 arg1 harg1 arg2 harg2 arg3 harg3 arg4 harg4 arg5 harg5 f0 f1 f2 f3 f4 = 1#1) := by
    unfold poisoned fastState
    rw [← hB, ← hP, ← fast_state c arg0 harg0 arg1 harg1 arg2 harg2 arg3 harg3 arg4 harg4 arg5 harg5 (kernelRun.sl.v43 c arg2 arg4 f2 f4) (kernelRun.sl.v48 c arg4 f4) (kernelRun.sl.v72 c arg2 arg4 f2 f4) (kernelRun.sl.v77 c arg4 f4) (kernelRun.sl.v101 c arg2 arg4 f2 f4) (kernelRun.sl.v106 c arg4 f4) (kernelRun.sl.v130 c arg2 arg4 f2 f4) (kernelRun.sl.v135 c arg4 f4) (kernelRun.sl.v159 c arg2 arg4 f2 f4) (kernelRun.sl.v164 c arg4 f4) (kernelRun.sl.v188 c arg2 arg4 f2 f4) (kernelRun.sl.v193 c arg4 f4) (kernelRun.sl.v217 c arg2 arg4 f2 f4) (kernelRun.sl.v222 c arg4 f4) (kernelRun.sl.v224 c arg4 f4) (kernelRun.sl.v232 c arg4 f4) (kernelRun.sl.v234 c arg4 f4) (kernelRun.sl.v246 c arg2 arg4 f2 f4) (kernelRun.sl.v260 c arg0 arg4 f0 f4) (kernelRun.sl.v261 c arg1 arg4 f1 f4) (kernelRun.sl.v263 c arg3 arg4 f3 f4) (k0_pay2 (kernelRun.sl.r_6 c arg4 f4) (kernelRun.sl.v52 c arg4 f4) (kernelRun.sl.v81 c arg4 f4) (kernelRun.sl.v110 c arg4 f4) (kernelRun.sl.v139 c arg4 f4) (kernelRun.sl.v168 c arg4 f4) (kernelRun.sl.v197 c arg4 f4) (kernelRun.sl.v226 c arg4 f4)) 100 le_rfl]
    rfl
  by_cases hc : kernelRun.sl.v276 c arg0 harg0 arg1 harg1 arg2 harg2 arg3 harg3 arg4 harg4 arg5 harg5 f0 f1 f2 f3 f4 = 1#1
  · rw [if_pos hc]
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    funext y
    rw [View.writes_append]
    refine (slow_read c arg0 harg0 arg1 harg1 arg2 harg2 arg3 harg3 arg4 harg4 arg5 harg5 (kernelRun.sl.r c arg0 f0) (kernelRun.sl.r_1 c arg1 f1) (kernelRun.sl.r_2 c arg2 f2) (kernelRun.sl.r_3 c arg3 f3)
      (kernelRun.sl.r_4 c arg4 f4) _ y).trans ?_
    rw [← hpois] at hc
    unfold result resultRow
    rw [if_pos hc, q0, q1, q2, q3, q4]
    rfl
  · rw [if_neg hc]
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    funext y
    refine (fast_read c arg0 harg0 arg1 harg1 arg2 harg2 arg3 harg3 arg4 harg4 arg5 harg5 (kernelRun.sl.v43 c arg2 arg4 f2 f4) (kernelRun.sl.v48 c arg4 f4) (kernelRun.sl.v72 c arg2 arg4 f2 f4) (kernelRun.sl.v77 c arg4 f4) (kernelRun.sl.v101 c arg2 arg4 f2 f4) (kernelRun.sl.v106 c arg4 f4) (kernelRun.sl.v130 c arg2 arg4 f2 f4) (kernelRun.sl.v135 c arg4 f4) (kernelRun.sl.v159 c arg2 arg4 f2 f4) (kernelRun.sl.v164 c arg4 f4) (kernelRun.sl.v188 c arg2 arg4 f2 f4) (kernelRun.sl.v193 c arg4 f4) (kernelRun.sl.v217 c arg2 arg4 f2 f4) (kernelRun.sl.v222 c arg4 f4) (kernelRun.sl.v224 c arg4 f4) (kernelRun.sl.v232 c arg4 f4) (kernelRun.sl.v234 c arg4 f4) (kernelRun.sl.v246 c arg2 arg4 f2 f4) (kernelRun.sl.v260 c arg0 arg4 f0 f4) (kernelRun.sl.v261 c arg1 arg4 f1 f4) (kernelRun.sl.v263 c arg3 arg4 f3 f4) (k0_pay2 (kernelRun.sl.r_6 c arg4 f4) (kernelRun.sl.v52 c arg4 f4) (kernelRun.sl.v81 c arg4 f4) (kernelRun.sl.v110 c arg4 f4) (kernelRun.sl.v139 c arg4 f4) (kernelRun.sl.v168 c arg4 f4) (kernelRun.sl.v197 c arg4 f4) (kernelRun.sl.v226 c arg4 f4)) f5 y).trans ?_
    rw [← hpois] at hc
    unfold result resultRow
    rw [if_neg hc, hB, hP]
    rfl

end Cert.Proof.BodyIdeal

end
-- ==== Proof.Run.lean ====
module

public import proofs.«01_k».proof.Proof.Gen.KernelIdeal.Frame
public import proofs.«01_k».proof.Proof.Body
public import Idealize.ShloMosaic.Lib.Tactic
public import Idealize.ShloMosaic.Lib.Pipeline.FrameSuffix
public import Idealize.ShloMosaic.Lib.Claim

@[expose] public section

set_option maxRecDepth 16384

noncomputable section

namespace Cert.Proof.BodyIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

variable (m : (ℓ : Loc nD τ sig) → Buf (Elt F) ℓ) (ρ : Dev nD → PrngReg)

local notation "𝕄" => MT nD τ sig Unit (Elt F) ℕ (UR sig nD τ) ℕ

/-- The result block of the launch, from the blocks of the inputs. -/
abbrev outBlock (c : Dev nD) (t : Fin cfg0.N) : Vec F S100x128 .f32 :=
  result (iblk m c 0 t) (iblk m c 1 t) (iblk m c 2 t) (iblk m c 3 t) (iblk m c 4 t)

/-- What the launch keeps: the input blocks as they were, the output block at the kernel's result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock m c t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outBlock m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem pointRun (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (kernelRun c Set.univ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (pointRun m c t) rfl .rfl fun _ => .rfl

set_option backward.isDefEq.respectTransparency.types false in
/-- Every run ends with the arrays as computed and all counters at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (Q' := _)

theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The arguments end unchanged and every counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run m ρ)) ((θ_run defs _ _).mono (fun _ h => h.2) (run_quiescent m ρ))

end Cert.Proof.BodyIdeal

end
-- ==== Proof.KSpec.lean ====
module

public import proofs.«01_k».proof.Proof.Gen.Kernel.Loops
public import Idealize.ShloMosaic.Lib.ValueIdxCore

@[expose] public section

set_option maxRecDepth 16384

noncomputable section

/-! What the kernel's loops compute, as functions of vectors: the extraction of each lane's eight best
    scores, the fast step over those eight, and the slow step over all rows. -/

namespace Cert.Proof.BodyKernel

open Cert.Kernel Cert.Kernel.Gen
open Idealize.ShloMosaic Idealize.ShloMosaic.TcCoe

variable {F : FTy → Type} [FloatOps F]

/-- A grid of numbers, one per box. -/
abbrev Grid (F : FTy → Type) := FVec F S160x128 .f32
/-- One number per lane. -/
abbrev Lanes (F : FTy → Type) := FVec F S1x128 .f32
/-- Eight numbers per lane. -/
abbrev Pool (F : FTy → Type) := FVec F S8x128 .f32

def third : F .f32 := Scalar.ofBits .f32 0x3EAAAAAB#32
def eps3 : F .f32 := Scalar.ofBits .f32 0x2FB7407F#32
def neg : F .f32 := Scalar.ofBits .f32 0xCE6E6B28#32
def halfNeg : F .f32 := Scalar.ofBits .f32 0xCDEE6B28#32
def zero : F .f32 := Scalar.ofBits .f32 0x00000000#32

def rowIx : IVec S160x128 32 := iota .tc S160x128 32 [0] iota_S160x128_d0_w32
def laneIx : IVec S1x128 32 := iota .tc S1x128 32 [1] iota_S1x128_d1_w32

/-- A grid as it is read. -/
def same (x : Grid F) : Grid F := shapeCast S160x128 x shapeCasts_S160x128_S160x128

/-- The scores, with those at most the threshold retired. -/
def start (s : Grid F) : Grid F :=
  select (cmpf .ogt (same s) (broadcast S160x128 (Scalar.ofBits .f32 0x3D4CCCCD#32 : F .f32))) (same s) (broadcast S160x128 neg)

/-- A third of each box's area. -/
def area {s : Shape} (x1 y1 x2 y2 : FVec F s .f32) : FVec F s .f32 :=
  mulf (mulf (subf x2 x1) (subf y2 y1)) (broadcast s third)

def ones : FVec F S128x128 .f32 := broadcast S128x128 (Scalar.ofBits .f32 0x3F800000#32 : F .f32)

/-! ## The extraction -/

def colMax (s : Grid F) : Lanes F :=
  shapeCast S1x128 (multiReduction .maximumf [0] S128 s 0xFF800000#32 reduces_S160x128_S128 (.inl rfl) rfl) shapeCasts_S128_S1x128

def firstRow (s : Grid F) : IVec S1x128 32 :=
  shapeCast S1x128 (multiReductionI .minsi [0] S128
    (select (cmpf .oeq s (broadcastTo S160x128 (colMax s) broadcasts_S1x128_S160x128)) rowIx (broadcast S160x128 160#32))
    2147483647#32 reduces_S160x128_S128 rfl) shapeCasts_S128_S1x128

def hotAt (r : IVec S1x128 32) : IVec S160x128 1 := cmpi .eq rowIx (broadcastTo S160x128 r broadcasts_S1x128_S160x128)

def pick (h : IVec S160x128 1) (x : Grid F) : Lanes F :=
  shapeCast S1x128 (multiReduction .add [0] S128 (select h x (broadcast S160x128 zero)) 0x00000000#32 reduces_S160x128_S128 (.inl rfl) rfl)
    shapeCasts_S128_S1x128

def drop (s : Grid F) : Grid F := select (hotAt (firstRow s)) (broadcast S160x128 neg) s

def level (s : Grid F) : ℕ → Grid F
  | 0 => s
  | n + 1 => drop (level s n)

def stack (f : ℕ → Lanes F) : Pool F :=
  concatenate S8x128 0 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩]
    concatenates_S1x128_S1x128_S1x128_S1x128_S1x128_S1x128_S1x128_S1x128_S8x128_d0

def poolS (s : Grid F) : Pool F := stack fun n => colMax (level s n)
def poolR (s : Grid F) : Pool F := stack fun n => sitofp .f32 (firstRow (level s n))
def poolX (s x : Grid F) : Pool F := stack fun n => pick (hotAt (firstRow (level s n))) x

/-- The best score outside the eight. -/
def rest (s : Grid F) : FVec F S1x1 .f32 :=
  shapeCast S1x1 (multiReduction .maximumf [1] S1 (colMax (level s 8)) 0xFF800000#32 reduces_S1x128_S1 (.inl rfl) rfl) shapeCasts_S1_S1x1

/-! ## The choice between two candidates -/

def betterF {s : Shape} (va ra vb rb : FVec F s .f32) : IVec s 1 :=
  ori (cmpf .ogt va vb) (andi (cmpf .oeq va vb) (cmpf .olt ra rb))

def betterI {s : Shape} (va : FVec F s .f32) (ra : IVec s 32) (vb : FVec F s .f32) (rb : IVec s 32) : IVec s 1 :=
  ori (cmpf .ogt va vb) (andi (cmpf .oeq va vb) (cmpi .slt ra rb))

def lo4 {α : Type} (u : S8x128.Idx → α) : S4x128.Idx → α := extractStridedSlice S4x128 ![0, 0] u slices_S8x128_o0_0_S4x128
def hi4 {α : Type} (u : S8x128.Idx → α) : S4x128.Idx → α := extractStridedSlice S4x128 ![4, 0] u slices_S8x128_o4_0_S4x128
def lo2 {α : Type} (u : S4x128.Idx → α) : S2x128.Idx → α := extractStridedSlice S2x128 ![0, 0] u slices_S4x128_o0_0_S2x128
def hi2 {α : Type} (u : S4x128.Idx → α) : S2x128.Idx → α := extractStridedSlice S2x128 ![2, 0] u slices_S4x128_o2_0_S2x128
def lo1 {α : Type} (u : S2x128.Idx → α) : S1x128.Idx → α := extractStridedSlice S1x128 ![0, 0] u slices_S2x128_o0_0_S1x128
def hi1 {α : Type} (u : S2x128.Idx → α) : S1x128.Idx → α := extractStridedSlice S1x128 ![1, 0] u slices_S2x128_o1_0_S1x128

/-! ## The fast step -/

def bit4 (v r : Pool F) : IVec S4x128 1 := betterF (lo4 v) (lo4 r) (hi4 v) (hi4 r)
def win4 (v r u : Pool F) : FVec F S4x128 .f32 := select (bit4 v r) (lo4 u) (hi4 u)
def bit2 (v r : Pool F) : IVec S2x128 1 := betterF (lo2 (win4 v r v)) (lo2 (win4 v r r)) (hi2 (win4 v r v)) (hi2 (win4 v r r))
def win2 (v r u : Pool F) : FVec F S2x128 .f32 := select (bit2 v r) (lo2 (win4 v r u)) (hi2 (win4 v r u))
def bit1 (v r : Pool F) : IVec S1x128 1 := betterF (lo1 (win2 v r v)) (lo1 (win2 v r r)) (hi1 (win2 v r v)) (hi1 (win2 v r r))
/-- Per lane, the entry of `u` in the slot whose score is best, the smaller row deciding. -/
def win1 (v r u : Pool F) : Lanes F := select (bit1 v r) (lo1 (win2 v r u)) (hi1 (win2 v r u))

/-- The lane of the first largest. -/
def laneHot (v : Lanes F) : IVec S1x128 1 :=
  cmpi .eq laneIx (broadcastTo S1x128 (shapeCast S1x1 (reduceIndex .argMax 1 S1 v reduces_S1x128_S1) shapeCasts_S1_S1x1) broadcasts_S1x1_S1x128)

def hot6 (h : IVec S1x128 1) (x : FVec F S6x128 .f32) : FVec F S6x128 .f32 :=
  select (broadcastTo S6x128 (shapeCast S1x128 h shapeCasts_S1x128_S1x128) broadcasts_S1x128_S6x128) x (broadcast S6x128 zero)
def hot5 (h : IVec S1x128 1) (x : FVec F S5x128 .f32) : FVec F S5x128 .f32 :=
  select (broadcastTo S5x128 (shapeCast S1x128 h shapeCasts_S1x128_S1x128) broadcasts_S1x128_S5x128) x (broadcast S5x128 zero)

/-- A number kept to sixteen bits. -/
def coarse {s : Shape} (x : FVec F s .f32) : FVec F s .f32 := extf .f32 (truncf .bf16 x bitsLt_bf16_f32) bitsLt_bf16_f32

def mul18 (x : FVec F S6x128 .f32) : FVec F S18x128 .f32 :=
  matmul dot_S18x128_S128x128_S18x128_1_0_0_1_n_n none
    (concatenate S18x128 0 [⟨S6x128, coarse x⟩, ⟨S6x128, coarse (subf x (coarse x))⟩,
      ⟨S6x128, subf (subf x (coarse x)) (coarse (subf x (coarse x)))⟩] concatenates_S6x128_S6x128_S6x128_S18x128_d0)
    ones (constant S18x128 .f32 0x00000000#32)
def mul15 (x : FVec F S5x128 .f32) : FVec F S15x128 .f32 :=
  matmul dot_S15x128_S128x128_S15x128_1_0_0_1_n_n none
    (concatenate S15x128 0 [⟨S5x128, coarse x⟩, ⟨S5x128, coarse (subf x (coarse x))⟩,
      ⟨S5x128, subf (subf x (coarse x)) (coarse (subf x (coarse x)))⟩] concatenates_S5x128_S5x128_S5x128_S15x128_d0)
    ones (constant S15x128 .f32 0x00000000#32)

/-- The chosen lane of each row, on all lanes. -/
def spread6 (h : IVec S1x128 1) (x : FVec F S6x128 .f32) : FVec F S6x128 .f32 :=
  addf (addf (extractStridedSlice S6x128 ![0, 0] (mul18 (hot6 h x)) slices_S18x128_o0_0_S6x128)
    (extractStridedSlice S6x128 ![6, 0] (mul18 (hot6 h x)) slices_S18x128_o6_0_S6x128))
    (extractStridedSlice S6x128 ![12, 0] (mul18 (hot6 h x)) slices_S18x128_o12_0_S6x128)
def spread5 (h : IVec S1x128 1) (x : FVec F S5x128 .f32) : FVec F S5x128 .f32 :=
  addf (addf (extractStridedSlice S5x128 ![0, 0] (mul15 (hot5 h x)) slices_S15x128_o0_0_S5x128)
    (extractStridedSlice S5x128 ![5, 0] (mul15 (hot5 h x)) slices_S15x128_o5_0_S5x128))
    (extractStridedSlice S5x128 ![10, 0] (mul15 (hot5 h x)) slices_S15x128_o10_0_S5x128)

/-- The row of a result: five numbers in the first five lanes. -/
def rowOf (a b c d e : Lanes F) : Lanes F :=
  select (cmpf .ogt e (broadcast S1x128 halfNeg))
    (addf (addf (addf (addf (select (cmpi .eq laneIx (broadcast S1x128 0#32)) a (broadcast S1x128 zero))
      (select (cmpi .eq laneIx (broadcast S1x128 1#32)) b (broadcast S1x128 zero)))
      (select (cmpi .eq laneIx (broadcast S1x128 2#32)) c (broadcast S1x128 zero)))
      (select (cmpi .eq laneIx (broadcast S1x128 3#32)) d (broadcast S1x128 zero)))
      (select (cmpi .eq laneIx (broadcast S1x128 4#32)) e (broadcast S1x128 zero)))
    (broadcast S1x128 zero)

/-- The eight best per lane, as the fast loop holds them. -/
structure Best (F : FTy → Type) where
  r : Pool F
  x1 : Pool F
  y1 : Pool F
  x2 : Pool F
  y2 : Pool F
  a : Pool F
  t : FVec F S1x1 .f32

def fast6 (B : Best F) (v : Pool F) : FVec F S6x128 .f32 :=
  spread6 (laneHot (win1 v B.r v))
    (concatenate S6x128 0 [⟨S1x128, win1 v B.r B.x1⟩, ⟨S1x128, win1 v B.r B.y1⟩, ⟨S1x128, win1 v B.r B.x2⟩, ⟨S1x128, win1 v B.r B.y2⟩,
      ⟨S1x128, win1 v B.r v⟩, ⟨S1x128, win1 v B.r B.r⟩] concatenates_S1x128_S1x128_S1x128_S1x128_S1x128_S1x128_S6x128_d0)

def fx1 (B : Best F) (v : Pool F) : Lanes F := extractStridedSlice S1x128 ![0, 0] (fast6 B v) slices_S6x128_o0_0_S1x128
def fy1 (B : Best F) (v : Pool F) : Lanes F := extractStridedSlice S1x128 ![1, 0] (fast6 B v) slices_S6x128_o1_0_S1x128
def fx2 (B : Best F) (v : Pool F) : Lanes F := extractStridedSlice S1x128 ![2, 0] (fast6 B v) slices_S6x128_o2_0_S1x128
def fy2 (B : Best F) (v : Pool F) : Lanes F := extractStridedSlice S1x128 ![3, 0] (fast6 B v) slices_S6x128_o3_0_S1x128
def fm (B : Best F) (v : Pool F) : Lanes F := extractStridedSlice S1x128 ![4, 0] (fast6 B v) slices_S6x128_o4_0_S1x128
def fr (B : Best F) (v : Pool F) : Lanes F := extractStridedSlice S1x128 ![5, 0] (fast6 B v) slices_S6x128_o5_0_S1x128

/-- Which entries a box `x1 y1 x2 y2`, given once per lane, suppresses. -/
def covers {s : Shape} (hb : S1x128.Broadcasts s) (x1 y1 x2 y2 : Lanes F) (X1 Y1 X2 Y2 A : FVec F s .f32) : IVec s 1 :=
  cmpf .ogt
    (mulf (maximumf (subf (minimumf (broadcastTo s x2 hb) X2) (maximumf (broadcastTo s x1 hb) X1)) (broadcast s zero))
      (maximumf (subf (minimumf (broadcastTo s y2 hb) Y2) (maximumf (broadcastTo s y1 hb) Y1)) (broadcast s zero)))
    (addf A (broadcastTo s (addf (area x1 y1 x2 y2) (broadcast S1x128 eps3)) hb))

def fastNext (B : Best F) (v : Pool F) : Pool F :=
  select (ori (covers (s := S8x128) broadcasts_S1x128_S8x128 (fx1 B v) (fy1 B v) (fx2 B v) (fy2 B v) B.x1 B.y1 B.x2 B.y2 B.a)
      (andi (andi (broadcastTo S8x128 (laneHot (win1 v B.r v)) broadcasts_S1x128_S8x128)
          (cmpf .oeq v (broadcastTo S8x128 (fm B v) broadcasts_S1x128_S8x128)))
        (cmpf .oeq B.r (broadcastTo S8x128 (fr B v) broadcasts_S1x128_S8x128))))
    (broadcast S8x128 neg) v

/-- Whether the eight may have missed the best. -/
def fastBad (B : Best F) (v : Pool F) : FVec F S1x1 .f32 :=
  sitofp .f32 (extui 32 (andi (cmpf .ole (extractStridedSlice S1x1 ![0, 0] (fm B v) slices_S1x128_o0_0_S1x1) B.t)
    (cmpf .ogt B.t (broadcast S1x1 halfNeg))) natLt_1_32)

def fastRow (B : Best F) (v : Pool F) : Lanes F := rowOf (fx1 B v) (fy1 B v) (fx2 B v) (fy2 B v) (fm B v)

def fastStep (B : Best F) (p : Pool F × FVec F S1x1 .f32) : Pool F × FVec F S1x1 .f32 :=
  (fastNext B p.1, maximumf p.2 (fastBad B p.1))

def fastIter (B : Best F) (v : Pool F) : ℕ → Pool F × FVec F S1x1 .f32
  | 0 => (v, broadcast S1x1 zero)
  | n + 1 => fastStep B (fastIter B v n)

/-! ## The slow step -/

/-- What a trip of the slow loop carries on. -/
def slowNext (x1 y1 x2 y2 v : Grid F) : Grid F := trip_k0_t2.sl.r_34 x1 y1 x2 y2 (area x1 y1 x2 y2) rowIx laneIx ones v

/-- The row a trip of the slow loop stores. -/
def slowRow (x1 y1 x2 y2 v : Grid F) : Lanes F :=
  k0_pay9 laneIx (trip_k0_t2.sl.r_28 x1 y1 x2 y2 rowIx laneIx ones v) (trip_k0_t2.sl.r_29 x1 y1 x2 y2 rowIx laneIx ones v) (trip_k0_t2.sl.r_30 x1 y1 x2 y2 rowIx laneIx ones v) (trip_k0_t2.sl.r_31 x1 y1 x2 y2 rowIx laneIx ones v)
    (trip_k0_t2.sl.r_32 x1 y1 x2 y2 rowIx laneIx ones v) (trip_k0_t2.sl.r_33 x1 y1 x2 y2 rowIx laneIx ones v) (k0_pay190 laneIx)

def slowIter (x1 y1 x2 y2 v : Grid F) : ℕ → Grid F
  | 0 => v
  | n + 1 => slowNext x1 y1 x2 y2 (slowIter x1 y1 x2 y2 v n)

/-! ## The result -/

def bestOf (x1 y1 x2 y2 s : Grid F) : Best F :=
  { r := poolR (start s)
    x1 := poolX (start s) (same x1)
    y1 := poolX (start s) (same y1)
    x2 := poolX (start s) (same x2)
    y2 := poolX (start s) (same y2)
    a := area (poolX (start s) (same x1)) (poolX (start s) (same y1)) (poolX (start s) (same x2)) (poolX (start s) (same y2))
    t := rest (start s) }

def fastState (x1 y1 x2 y2 s : Grid F) (n : ℕ) : Pool F × FVec F S1x1 .f32 :=
  fastIter (bestOf x1 y1 x2 y2 s) (poolS (start s)) n

/-- Whether the fast loop was certain of every step. -/
def poisoned (x1 y1 x2 y2 s : Grid F) : Prop :=
  Scalar.cmpi .ne (Scalar.extui (Scalar.cmpi .ne (extractAt ![0, 0] (fptosi 32 (fastState x1 y1 x2 y2 s 100).2) inpos_S1x1_p0_0) 0#32)) 0#32 = 1#1

/-- The row number `n` of the result. -/
def resultRow (x1 y1 x2 y2 s : Grid F) (n : ℕ) : Lanes F :=
  open Classical in
  if poisoned x1 y1 x2 y2 s then
    slowRow (same x1) (same y1) (same x2) (same y2) (slowIter (same x1) (same y1) (same x2) (same y2) (start s) n)
  else fastRow (bestOf x1 y1 x2 y2 s) (fastState x1 y1 x2 y2 s n).1

/-- The kernel's block of results. -/
def result (x1 y1 x2 y2 s : Grid F) : Vec F S100x128 .f32 := fun y => resultRow x1 y1 x2 y2 s (y 0).val (ValueIdx.ix2 (n0 := 1) (n1 := 128) 0 (y 1))

end Cert.Proof.BodyKernel
-- ==== Proof.KRows.lean ====
module

public import proofs.«01_k».proof.Proof.KSpec
public import proofs.«01_k».proof.Proof.Gen.Kernel.Loops
public import Idealize.ShloMosaic.Lib.Tactic
public import Idealize.ShloMosaic.Lib.WritesUnit

@[expose] public section

set_option maxRecDepth 16384

noncomputable section

/-! The trips of the kernel's two loops in terms of the steps: what a trip carries on and the row it stores. -/

namespace Cert.Proof.BodyKernel

open Cert.Kernel Cert.Kernel.Gen
open Idealize.ShloMosaic Idealize.ShloMosaic.TcCoe

variable {F : FTy → Type} [FloatOps F]

section Writes

variable {sig : RefSig} {κ : Kind} {sp : Space}

/-- Rows stored one after another, each at its number, are all there afterwards. -/
theorem read_rows (v : View sig κ sp S100x128 .f32) (f : v.ty.Contents (Elt F))
    (L : ℕ → List (View.Piece (Elt F) S100x128 .f32)) (w : ℕ → Lanes F) (N : ℕ)
    (h : ∀ k, k < N → ∃ (off : Fin 2 → ℕ) (inb : ∀ a : Fin 2, off a + S1x128.size a ≤ S100x128.size a), off = ![k, 0]
      ∧ L (k + 1) = ⟨Rect.unit (s := S100x128) off S1x128.size inb, w k⟩ :: L k) :
    ∀ k, k ≤ N → ∀ y : S100x128.Idx, (y 0).val < k →
      v.read (Elt F) (v.writes (Elt F) f (L k)) y = w (y 0).val (ValueIdx.ix2 (n0 := 1) (n1 := 128) 0 (y 1)) := by
  intro k
  induction k with
  | zero => intro _ y hy; exact absurd hy (Nat.not_lt_zero _)
  | succ k ih =>
    intro hk y hy
    obtain ⟨off, inb, hoff, hL⟩ := h k (by omega)
    rw [hL]
    by_cases e : (y 0).val = k
    · rw [View.read_writes_cons_rows_of_mem v f inb (w k) (L k) y (ValueIdx.ix2 (n0 := 1) (n1 := 128) 0 (y 1)) hoff (by show _ = k + 0; omega) rfl, e]
    · rw [View.read_writes_cons_rows_of_not_mem v f inb (w k) (L k) y hoff (W := 1) rfl (by left; omega)]
      exact ih (by omega) y (by omega)

end Writes

theorem trips1 : k0_t1_loop.trips = 100 := by decide
theorem trips2 : k0_t2_loop.trips = 100 := by decide

section Slow

variable (c : Dev nD) (arg0 : Memref sig .tc .vmem S160x128 .f32) (harg0 : arg0.IsWhole)
    (arg1 : Memref sig .tc .vmem S160x128 .f32) (harg1 : arg1.IsWhole) (arg2 : Memref sig .tc .vmem S160x128 .f32) (harg2 : arg2.IsWhole)
    (arg3 : Memref sig .tc .vmem S160x128 .f32) (harg3 : arg3.IsWhole) (arg4 : Memref sig .tc .vmem S160x128 .f32) (harg4 : arg4.IsWhole)
    (arg5 : Memref sig .tc .vmem S100x128 .f32) (harg5 : arg5.IsWhole)
    (x1 y1 x2 y2 v : Grid F)

theorem slow_trip (k : Fin k0_t2_loop.trips) (acc : Grid F) :
    tripR_k0_t2 Variants.none c none arg0 harg0 arg1 harg1 arg2 harg2 arg3 harg3 arg4 harg4 arg5 harg5 x1 y1 x2 y2 (area x1 y1 x2 y2) rowIx laneIx ones k acc
      = slowNext x1 y1 x2 y2 acc
    ∧ tripL_k0_t2 Variants.none c none arg0 harg0 arg1 harg1 arg2 harg2 arg3 harg3 arg4 harg4 arg5 harg5 x1 y1 x2 y2 (area x1 y1 x2 y2) rowIx laneIx ones k acc
      = [⟨Rect.unit (s := S100x128) (k0_off2 k) S1x128.size (k0_off2_inb k), slowRow x1 y1 x2 y2 acc⟩] := by
  unfold tripR_k0_t2 tripL_k0_t2 trip_k0_t2
  exact ⟨rfl, rfl⟩

theorem slow_state (k : ℕ) (hk : k ≤ 100) :
    (st_k0_t2 Variants.none c none arg0 harg0 arg1 harg1 arg2 harg2 arg3 harg3 arg4 harg4 arg5 harg5 x1 y1 x2 y2 (area x1 y1 x2 y2) rowIx laneIx ones v k).1
      = slowIter x1 y1 x2 y2 v k := by
  induction k with
  | zero => rfl
  | succ k ih =>
    rw [st_k0_t2_succ Variants.none c none arg0 harg0 arg1 harg1 arg2 harg2 arg3 harg3 arg4 harg4 arg5 harg5 x1 y1 x2 y2 (area x1 y1 x2 y2) rowIx laneIx ones v ⟨k, by rw [trips2]; omega⟩]
    dsimp only
    rw [(slow_trip c arg0 harg0 arg1 harg1 arg2 harg2 arg3 harg3 arg4 harg4 arg5 harg5 x1 y1 x2 y2 _ _).1, ih (by omega)]
    rfl

/-- After the slow loop the rows read are the slow rows, whatever was there. -/
theorem slow_read (f : BufTy.Contents (Elt F) arg5.view.ty) (y : S100x128.Idx) :
    arg5.view.read (Elt F) (arg5.view.writes (Elt F) f
        (st_k0_t2 Variants.none c none arg0 harg0 arg1 harg1 arg2 harg2 arg3 harg3 arg4 harg4 arg5 harg5 x1 y1 x2 y2 (area x1 y1 x2 y2) rowIx laneIx ones v 100).2) y
      = slowRow x1 y1 x2 y2 (slowIter x1 y1 x2 y2 v (y 0).val) (ValueIdx.ix2 (n0 := 1) (n1 := 128) 0 (y 1)) := by
  refine read_rows arg5.view f (fun k => (st_k0_t2 Variants.none c none arg0 harg0 arg1 harg1 arg2 harg2 arg3 harg3 arg4 harg4 arg5 harg5 x1 y1 x2 y2 (area x1 y1 x2 y2) rowIx laneIx ones v k).2)
    (fun k => slowRow x1 y1 x2 y2 (slowIter x1 y1 x2 y2 v k)) 100 (fun k hk => ?_) 100 le_rfl y (y 0).isLt
  have hk' : k < k0_t2_loop.trips := by rw [trips2]; omega
  refine ⟨k0_off2 ⟨k, hk'⟩, k0_off2_inb ⟨k, hk'⟩, k0_off2_eq ⟨k, hk'⟩, ?_⟩
  dsimp only
  rw [st_k0_t2_succ Variants.none c none arg0 harg0 arg1 harg1 arg2 harg2 arg3 harg3 arg4 harg4 arg5 harg5 x1 y1 x2 y2 (area x1 y1 x2 y2) rowIx laneIx ones v ⟨k, hk'⟩]
  dsimp only
  rw [(slow_trip c arg0 harg0 arg1 harg1 arg2 harg2 arg3 harg3 arg4 harg4 arg5 harg5 x1 y1 x2 y2 _ _).2, slow_state c arg0 harg0 arg1 harg1 arg2 harg2 arg3 harg3 arg4 harg4 arg5 harg5 x1 y1 x2 y2 v k (by omega)]
  rfl

end Slow

section Fast

variable (c : Dev nD) (arg0 : Memref sig .tc .vmem S160x128 .f32) (harg0 : arg0.IsWhole)
    (arg1 : Memref sig .tc .vmem S160x128 .f32) (harg1 : arg1.IsWhole) (arg2 : Memref sig .tc .vmem S160x128 .f32) (harg2 : arg2.IsWhole)
    (arg3 : Memref sig .tc .vmem S160x128 .f32) (harg3 : arg3.IsWhole) (arg4 : Memref sig .tc .vmem S160x128 .f32) (harg4 : arg4.IsWhole)
    (arg5 : Memref sig .tc .vmem S100x128 .f32) (harg5 : arg5.IsWhole)
    (v43 v48 v72 v77 v101 v106 v130 v135 v159 v164 v188 v193 v217 v222 : Lanes F) (v224 : Grid F) (v232 : IVec S1x128 32)
    (v234 : IVec S160x128 1) (v246 : Lanes F) (v260 v261 v263 : Pool F)

/-- The eight best per lane, from the pieces the loop is handed. -/
def bestFrom : Best F :=
  { r := k0_pay3 v48 v77 v106 v135 v164 v193 v222 v232
    x1 := v260
    y1 := v261
    x2 := k0_pay4 v43 v72 v101 v130 v159 v188 v217 v246
    y2 := v263
    a := k0_pay5 v43 v72 v101 v130 v159 v188 v217 v246 v260 v261 v263
    t := k0_pay1 v224 v234 }

theorem fast_trip (k : Fin k0_t1_loop.trips) (acc : Pool F × FVec F S1x1 .f32) :
    tripR_k0_t1 Variants.none c none arg0 harg0 arg1 harg1 arg2 harg2 arg3 harg3 arg4 harg4 arg5 harg5 laneIx ones v43 v48 v72 v77 v101 v106 v130 v135 v159 v164 v188 v193 v217 v222 v224 v232 v234 v246 v260 v261 v263 k acc = fastStep (bestFrom v43 v48 v72 v77 v101 v106 v130 v135 v159 v164 v188 v193 v217 v222 v224 v232 v234 v246 v260 v261 v263) acc
    ∧ tripL_k0_t1 Variants.none c none arg0 harg0 arg1 harg1 arg2 harg2 arg3 harg3 arg4 harg4 arg5 harg5 laneIx ones v43 v48 v72 v77 v101 v106 v130 v135 v159 v164 v188 v193 v217 v222 v224 v232 v234 v246 v260 v261 v263 k acc
      = [⟨Rect.unit (s := S100x128) (k0_off1 k) S1x128.size (k0_off1_inb k), fastRow (bestFrom v43 v48 v72 v77 v101 v106 v130 v135 v159 v164 v188 v193 v217 v222 v224 v232 v234 v246 v260 v261 v263) acc.1⟩] := by
  unfold tripR_k0_t1 tripL_k0_t1 trip_k0_t1
  exact ⟨rfl, rfl⟩

theorem fast_state (v : Pool F) (k : ℕ) (hk : k ≤ 100) :
    (st_k0_t1 Variants.none c none arg0 harg0 arg1 harg1 arg2 harg2 arg3 harg3 arg4 harg4 arg5 harg5 laneIx ones v43 v48 v72 v77 v101 v106 v130 v135 v159 v164 v188 v193 v217 v222 v224 v232 v234 v246 v260 v261 v263 (v, k0_pay6) k).1 = fastIter (bestFrom v43 v48 v72 v77 v101 v106 v130 v135 v159 v164 v188 v193 v217 v222 v224 v232 v234 v246 v260 v261 v263) v k := by
  induction k with
  | zero => rfl
  | succ k ih =>
    rw [st_k0_t1_succ Variants.none c none arg0 harg0 arg1 harg1 arg2 harg2 arg3 harg3 arg4 harg4 arg5 harg5 laneIx ones v43 v48 v72 v77 v101 v106 v130 v135 v159 v164 v188 v193 v217 v222 v224 v232 v234 v246 v260 v261 v263 (v, k0_pay6) ⟨k, by rw [trips1]; omega⟩]
    dsimp only
    rw [(fast_trip c arg0 harg0 arg1 harg1 arg2 harg2 arg3 harg3 arg4 harg4 arg5 harg5 v43 v48 v72 v77 v101 v106 v130 v135 v159 v164 v188 v193 v217 v222 v224 v232 v234 v246 v260 v261 v263 _ _).1, ih (by omega)]
    rfl

/-- After the fast loop the rows read are the fast rows, whatever was there. -/
theorem fast_read (v : Pool F) (f : BufTy.Contents (Elt F) arg5.view.ty) (y : S100x128.Idx) :
    arg5.view.read (Elt F) (arg5.view.writes (Elt F) f (st_k0_t1 Variants.none c none arg0 harg0 arg1 harg1 arg2 harg2 arg3 harg3 arg4 harg4 arg5 harg5 laneIx ones v43 v48 v72 v77 v101 v106 v130 v135 v159 v164 v188 v193 v217 v222 v224 v232 v234 v246 v260 v261 v263 (v, k0_pay6) 100).2) y
      = fastRow (bestFrom v43 v48 v72 v77 v101 v106 v130 v135 v159 v164 v188 v193 v217 v222 v224 v232 v234 v246 v260 v261 v263) (fastIter (bestFrom v43 v48 v72 v77 v101 v106 v130 v135 v159 v164 v188 v193 v217 v222 v224 v232 v234 v246 v260 v261 v263) v (y 0).val).1 (ValueIdx.ix2 (n0 := 1) (n1 := 128) 0 (y 1)) := by
  refine read_rows arg5.view f (fun k => (st_k0_t1 Variants.none c none arg0 harg0 arg1 harg1 arg2 harg2 arg3 harg3 arg4 harg4 arg5 harg5 laneIx ones v43 v48 v72 v77 v101 v106 v130 v135 v159 v164 v188 v193 v217 v222 v224 v232 v234 v246 v260 v261 v263 (v, k0_pay6) k).2)
    (fun k => fastRow (bestFrom v43 v48 v72 v77 v101 v106 v130 v135 v159 v164 v188 v193 v217 v222 v224 v232 v234 v246 v260 v261 v263) (fastIter (bestFrom v43 v48 v72 v77 v101 v106 v130 v135 v159 v164 v188 v193 v217 v222 v224 v232 v234 v246 v260 v261 v263) v k).1) 100 (fun k hk => ?_) 100 le_rfl y (y 0).isLt
  have hk' : k < k0_t1_loop.trips := by rw [trips1]; omega
  refine ⟨k0_off1 ⟨k, hk'⟩, k0_off1_inb ⟨k, hk'⟩, k0_off1_eq ⟨k, hk'⟩, ?_⟩
  dsimp only
  rw [st_k0_t1_succ Variants.none c none arg0 harg0 arg1 harg1 arg2 harg2 arg3 harg3 arg4 harg4 arg5 harg5 laneIx ones v43 v48 v72 v77 v101 v106 v130 v135 v159 v164 v188 v193 v217 v222 v224 v232 v234 v246 v260 v261 v263 (v, k0_pay6) ⟨k, hk'⟩]
  dsimp only
  rw [(fast_trip c arg0 harg0 arg1 harg1 arg2 harg2 arg3 harg3 arg4 harg4 arg5 harg5 v43 v48 v72 v77 v101 v106 v130 v135 v159 v164 v188 v193 v217 v222 v224 v232 v234 v246 v260 v261 v263 _ _).2, fast_state c arg0 harg0 arg1 harg1 arg2 harg2 arg3 harg3 arg4 harg4 arg5 harg5 v43 v48 v72 v77 v101 v106 v130 v135 v159 v164 v188 v193 v217 v222 v224 v232 v234 v246 v260 v261 v263 v k (by omega)]
  rfl

end Fast

end Cert.Proof.BodyKernel
-- ==== Proof.KBody.lean ====
module

public import proofs.«01_k».proof.Proof.Gen.Kernel.Frame
public import proofs.«01_k».proof.Proof.KRows
public import Idealize.ShloMosaic.Lib.VecWindow
public import Idealize.ShloMosaic.Lib.Tactic

@[expose] public section

set_option maxRecDepth 16384

noncomputable section

namespace Cert.Proof.BodyKernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-- The kernel on any buffers: the inputs stay, the output buffer is left with `result`. -/
theorem kernelRun (c : Dev nD) (E : Set ℕ) (arg0 : Memref sig .tc .vmem S160x128 .f32) (harg0 : arg0.IsWhole)
    (arg1 : Memref sig .tc .vmem S160x128 .f32) (harg1 : arg1.IsWhole) (arg2 : Memref sig .tc .vmem S160x128 .f32) (harg2 : arg2.IsWhole)
    (arg3 : Memref sig .tc .vmem S160x128 .f32) (harg3 : arg3.IsWhole) (arg4 : Memref sig .tc .vmem S160x128 .f32) (harg4 : arg4.IsWhole)
    (arg5 : Memref sig .tc .vmem S100x128 .f32) (harg5 : arg5.IsWhole)
    (x0 x1 x2 x3 x4 : Vec F S160x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
          ∗ owns (c : Thread nD τ) arg3 fullShare x3 ∗ owns (c : Thread nD τ) arg4 fullShare x4
          ∗ owns (c : Thread nD τ) arg5 fullShare (result x0 x1 x2 x3 x4)) -∗ K ⟨⟩))
      ⊢ wp frame (wpE (defs₀ (F := F)) Variants.none c none) E (cc0__nms_body arg0 harg0 arg1 harg1 arg2 harg2 arg3 harg3 arg4 harg4 arg5 harg5) K := by
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_unfold [cc0__nms_body]
  sl_exec
  have q0 : View.read (Elt F) arg0.view f0 = View.readAt (Elt F) arg0.view (Rect.unit ![0, 0] S160x128.size (inb_S160x128_S160x128_0_0)).toLoadRect f0 :=
    (View.readAt_full _ _ _).symm
  have q1 : View.read (Elt F) arg1.view f1 = View.readAt (Elt F) arg1.view (Rect.unit ![0, 0] S160x128.size (inb_S160x128_S160x128_0_0)).toLoadRect f1 :=
    (View.readAt_full _ _ _).symm
  have q2 : View.read (Elt F) arg2.view f2 = View.readAt (Elt F) arg2.view (Rect.unit ![0, 0] S160x128.size (inb_S160x128_S160x128_0_0)).toLoadRect f2 :=
    (View.readAt_full _ _ _).symm
  have q3 : View.read (Elt F) arg3.view f3 = View.readAt (Elt F) arg3.view (Rect.unit ![0, 0] S160x128.size (inb_S160x128_S160x128_0_0)).toLoadRect f3 :=
    (View.readAt_full _ _ _).symm
  have q4 : View.read (Elt F) arg4.view f4 = View.readAt (Elt F) arg4.view (Rect.unit ![0, 0] S160x128.size (inb_S160x128_S160x128_0_0)).toLoadRect f4 :=
    (View.readAt_full _ _ _).symm
  have hB : bestFrom (kernelRun.sl.r_12 c arg2 arg4 f2 f4) (kernelRun.sl.r_14 c arg4 f4) (kernelRun.sl.r_18 c arg2 arg4 f2 f4) (kernelRun.sl.r_20 c arg4 f4) (kernelRun.sl.r_26 c arg2 arg4 f2 f4) (kernelRun.sl.r_28 c arg4 f4) (kernelRun.sl.r_35 c arg2 arg4 f2 f4) (kernelRun.sl.r_37 c arg4 f4) (kernelRun.sl.r_43 c arg2 arg4 f2 f4) (kernelRun.sl.r_45 c arg4 f4) (kernelRun.sl.r_49 c arg2 arg4 f2 f4) (kernelRun.sl.r_51 c arg4 f4) (kernelRun.sl.r_59 c arg2 arg4 f2 f4) (kernelRun.sl.r_61 c arg4 f4) (kernelRun.sl.r_62 c arg4 f4) (kernelRun.sl.r_64 c arg4 f4) (kernelRun.sl.r_65 c arg4 f4) (kernelRun.sl.r_68 c arg2 arg4 f2 f4) (kernelRun.sl.v260 c arg0 arg4 f0 f4) (kernelRun.sl.v261 c arg1 arg4 f1 f4) (kernelRun.sl.v263 c arg3 arg4 f3 f4) = bestOf (View.read (Elt F) arg0.view f0) (View.read (Elt F) arg1.view f1) (View.read (Elt F) arg2.view f2) (View.read (Elt F) arg3.view f3) (View.read (Elt F) arg4.view f4) := by
    rw [q0, q1, q2, q3, q4]; rfl
  have hP : (k0_pay2 (kernelRun.sl.r_6 c arg4 f4) (kernelRun.sl.r_15 c arg4 f4) (kernelRun.sl.r_23 c arg4 f4) (kernelRun.sl.r_30 c arg4 f4) (kernelRun.sl.r_39 c arg4 f4) (kernelRun.sl.r_46 c arg4 f4) (kernelRun.sl.r_53 c arg4 f4) (kernelRun.sl.r_63 c arg4 f4)) = poolS (start (View.read (Elt F) arg4.view f4)) := by
    rw [q4]; rfl
  have hpois : poisoned (View.read (Elt F) arg0.view f0) (View.read (Elt F) arg1.view f1) (View.read (Elt F) arg2.view f2) (View.read (Elt F) arg3.view f3) (View.read (Elt F) arg4.view f4) = (kernelRun.sl.v276 c arg0 harg0 arg1 harg1 arg2 harg2 arg3 harg3 arg4 harg4 arg5 harg5 f0 f1 f2 f3 f4 = 1#1) := by
    unfold poisoned fastState
    rw [← hB, ← hP, ← fast_state c arg0 harg0 arg1 harg1 arg2 harg2 arg3 harg3 arg4 harg4 arg5 harg5 (kernelRun.sl.r_12 c arg2 arg4 f2 f4) (kernelRun.sl.r_14 c arg4 f4) (kernelRun.sl.r_18 c arg2 arg4 f2 f4) (kernelRun.sl.r_20 c arg4 f4) (kernelRun.sl.r_26 c arg2 arg4 f2 f4) (kernelRun.sl.r_28 c arg4 f4) (kernelRun.sl.r_35 c arg2 arg4 f2 f4) (kernelRun.sl.r_37 c arg4 f4) (kernelRun.sl.r_43 c arg2 arg4 f2 f4) (kernelRun.sl.r_45 c arg4 f4) (kernelRun.sl.r_49 c arg2 arg4 f2 f4) (kernelRun.sl.r_51 c arg4 f4) (kernelRun.sl.r_59 c arg2 arg4 f2 f4) (kernelRun.sl.r_61 c arg4 f4) (kernelRun.sl.r_62 c arg4 f4) (kernelRun.sl.r_64 c arg4 f4) (kernelRun.sl.r_65 c arg4 f4) (kernelRun.sl.r_68 c arg2 arg4 f2 f4) (kernelRun.sl.v260 c arg0 arg4 f0 f4) (kernelRun.sl.v261 c arg1 arg4 f1 f4) (kernelRun.sl.v263 c arg3 arg4 f3 f4) (k0_pay2 (kernelRun.sl.r_6 c arg4 f4) (kernelRun.sl.r_15 c arg4 f4) (kernelRun.sl.r_23 c arg4 f4) (kernelRun.sl.r_30 c arg4 f4) (kernelRun.sl.r_39 c arg4 f4) (kernelRun.sl.r_46 c arg4 f4) (kernelRun.sl.r_53 c arg4 f4) (kernelRun.sl.r_63 c arg4 f4)) 100 le_rfl]
    rfl
  by_cases hc : kernelRun.sl.v276 c arg0 harg0 arg1 harg1 arg2 harg2 arg3 harg3 arg4 harg4 arg5 harg5 f0 f1 f2 f3 f4 = 1#1
  · rw [if_pos hc]
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    funext y
    rw [View.writes_append]
    refine (slow_read c arg0 harg0 arg1 harg1 arg2 harg2 arg3 harg3 arg4 harg4 arg5 harg5 (kernelRun.sl.r c arg0 f0) (kernelRun.sl.r_1 c arg1 f1) (kernelRun.sl.r_2 c arg2 f2) (kernelRun.sl.r_3 c arg3 f3)
      (kernelRun.sl.r_4 c arg4 f4) _ y).trans ?_
    rw [← hpois] at hc
    unfold result resultRow
    rw [if_pos hc, q0, q1, q2, q3, q4]
    rfl
  · rw [if_neg hc]
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    funext y
    refine (fast_read c arg0 harg0 arg1 harg1 arg2 harg2 arg3 harg3 arg4 harg4 arg5 harg5 (kernelRun.sl.r_12 c arg2 arg4 f2 f4) (kernelRun.sl.r_14 c arg4 f4) (kernelRun.sl.r_18 c arg2 arg4 f2 f4) (kernelRun.sl.r_20 c arg4 f4) (kernelRun.sl.r_26 c arg2 arg4 f2 f4) (kernelRun.sl.r_28 c arg4 f4) (kernelRun.sl.r_35 c arg2 arg4 f2 f4) (kernelRun.sl.r_37 c arg4 f4) (kernelRun.sl.r_43 c arg2 arg4 f2 f4) (kernelRun.sl.r_45 c arg4 f4) (kernelRun.sl.r_49 c arg2 arg4 f2 f4) (kernelRun.sl.r_51 c arg4 f4) (kernelRun.sl.r_59 c arg2 arg4 f2 f4) (kernelRun.sl.r_61 c arg4 f4) (kernelRun.sl.r_62 c arg4 f4) (kernelRun.sl.r_64 c arg4 f4) (kernelRun.sl.r_65 c arg4 f4) (kernelRun.sl.r_68 c arg2 arg4 f2 f4) (kernelRun.sl.v260 c arg0 arg4 f0 f4) (kernelRun.sl.v261 c arg1 arg4 f1 f4) (kernelRun.sl.v263 c arg3 arg4 f3 f4) (k0_pay2 (kernelRun.sl.r_6 c arg4 f4) (kernelRun.sl.r_15 c arg4 f4) (kernelRun.sl.r_23 c arg4 f4) (kernelRun.sl.r_30 c arg4 f4) (kernelRun.sl.r_39 c arg4 f4) (kernelRun.sl.r_46 c arg4 f4) (kernelRun.sl.r_53 c arg4 f4) (kernelRun.sl.r_63 c arg4 f4)) f5 y).trans ?_
    rw [← hpois] at hc
    unfold result resultRow
    rw [if_neg hc, hB, hP]
    rfl

end Cert.Proof.BodyKernel

end
-- ==== Proof.RefRun.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import Idealize.ShloMosaic.Lib.Quiescent
public import Idealize.ShloMosaic.Lib.Claim

@[expose] public section

set_option maxRecDepth 1048

/-! The run of the reference: its operations in stretches, and the loop as a fold over them. -/

noncomputable section

namespace Cert.Proof.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- The operations before the loop, part 0. -/
abbrev entry0 : List (HloOp τ sig (Elt F)) :=
  [ StableHlo.nullary main_cst (constant S_ .f32 0x3D4CCCCD#32),
    StableHlo.unary main_cst main_v0 (broadcastInDim S20000 ![] bcast_S_S20000 : (⟨S_, .f32⟩ : BufTy).Contents (Elt F) → (⟨S20000, .f32⟩ : BufTy).Contents (Elt F)),
    StableHlo.binary main_arg1 main_v0 main_v1 (cmpf .ogt : (⟨S20000, .f32⟩ : BufTy).Contents (Elt F) → (⟨S20000, .f32⟩ : BufTy).Contents (Elt F) → (⟨S20000, .i1⟩ : BufTy).Contents (Elt F)),
    StableHlo.nullary main_cst_0 (constant S_ .f32 0xCE6E6B28#32) ]
theorem entry0_sub : (entry0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem entry0_fresh : (entry0 : List (HloOp τ sig (Elt F))).Forall fun op => op.fresh = ∅ :=
  StableHlo.forall_fresh_of_map rfl
/-- What `entry0` writes. -/
abbrev entry0_W : List (Ref sig .tc) := [main_cst, main_v0, main_v1, main_cst_0]
theorem entry0_writes : (entry0 : List (HloOp τ sig (Elt F))).Forall fun op => op.writes ⊆ (entry0_W.map (Proc.devRef (τ := τ) .tc)).toFinset :=
  StableHlo.forall_writes_sub_of_map rfl

/-- The operations before the loop, part 1. -/
abbrev entry1 : List (HloOp τ sig (Elt F)) :=
  [ StableHlo.TRef.unary (.of main_cst_0 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S20000, .f32⟩) (broadcastInDim S20000 ![] bcast_S_S20000),
    StableHlo.TRef.ternary (.of main_v1 : StableHlo.TRef sig ⟨S20000, .i1⟩) (.of main_arg1 : StableHlo.TRef sig ⟨S20000, .f32⟩) (.of main_call0_v1 : StableHlo.TRef sig ⟨S20000, .f32⟩) (.of main_v2 : StableHlo.TRef sig ⟨S20000, .f32⟩) select ]
theorem entry1_sub : (entry1 : List (HloOp τ sig (Elt F))).Forall fun op => op.bufs ⊆ StableHlo.tcRefs τ sig :=
  ⟨StableHlo.unary_bufs_sub .., StableHlo.unary_bufs_sub .., StableHlo.ternary_bufs_sub ..⟩
theorem entry1_fresh : (entry1 : List (HloOp τ sig (Elt F))).Forall fun op => op.fresh = ∅ :=
  StableHlo.forall_fresh_of_map rfl
/-- What `entry1` writes. -/
abbrev entry1_W : List (Ref sig .tc) := [main_call0_v0, main_call0_v1, main_v2]
theorem entry1_writes : (entry1 : List (HloOp τ sig (Elt F))).Forall fun op => op.writes ⊆ (entry1_W.map (Proc.devRef (τ := τ) .tc)).toFinset :=
  StableHlo.forall_writes_sub_of_map rfl

/-- The operations before the loop, part 2. -/
abbrev entry2 : List (HloOp τ sig (Elt F)) :=
  [ StableHlo.nullary main_v3 (iotaInDim S20000 32 0),
    StableHlo.nullary main_cst_1 (constant S_ .f32 0x00000000#32),
    StableHlo.unary main_cst_1 main_v4 (broadcastInDim S100x5 ![] bcast_S_S100x5 : (⟨S_, .f32⟩ : BufTy).Contents (Elt F) → (⟨S100x5, .f32⟩ : BufTy).Contents (Elt F)),
    StableHlo.nullary main_c (constantI S_ 32 0#32),
    StableHlo.unary main_arg0 main_v5_0 id,
    StableHlo.unary main_arg1 main_v5_1 id,
    StableHlo.unary main_v3 main_v5_2 id,
    StableHlo.unary main_c main_v5_3 id,
    StableHlo.unary main_v2 main_v5_4 id,
    StableHlo.unary main_v4 main_v5_5 id ]
theorem entry2_sub : (entry2 : List (HloOp τ sig (Elt F))).Forall fun op => op.bufs ⊆ StableHlo.tcRefs τ sig :=
  ⟨StableHlo.nullary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
theorem entry2_fresh : (entry2 : List (HloOp τ sig (Elt F))).Forall fun op => op.fresh = ∅ :=
  StableHlo.forall_fresh_of_map rfl
/-- What `entry2` writes. -/
abbrev entry2_W : List (Ref sig .tc) := [main_v3, main_cst_1, main_v4, main_c, main_v5_0, main_v5_1, main_v5_2, main_v5_3, main_v5_4, main_v5_5]
theorem entry2_writes : (entry2 : List (HloOp τ sig (Elt F))).Forall fun op => op.writes ⊆ (entry2_W.map (Proc.devRef (τ := τ) .tc)).toFinset :=
  StableHlo.forall_writes_sub_of_map rfl

/-- The operations of one trip of the loop, part 0. -/
abbrev trip0 : List (HloOp τ sig (Elt F)) :=
  [ StableHlo.TRef.nullary (.of main_while0b_call1_v0 : StableHlo.TRef sig ⟨S20000, .i32⟩) (iotaInDim S20000 32 0),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_v5_4 : StableHlo.TRef sig ⟨S20000, .f32⟩) (.of main_while0b_call1_v0 : StableHlo.TRef sig ⟨S20000, .i32⟩) (.of main_while0b_call1_cst : StableHlo.TRef sig ⟨S_, .f32⟩) (.of main_while0b_call1_c : StableHlo.TRef sig ⟨S_, .i32⟩) (.of main_while0b_call1_v1_0 : StableHlo.TRef sig ⟨S_, .f32⟩) (fun x y u v j => (Host.argReduce reducer_argmax_f32_i32 x y u v reducesTo_S20000_S_d0 h_S_ j).1),
    StableHlo.TRef.quaternary (.of main_v5_4 : StableHlo.TRef sig ⟨S20000, .f32⟩) (.of main_while0b_call1_v0 : StableHlo.TRef sig ⟨S20000, .i32⟩) (.of main_while0b_call1_cst : StableHlo.TRef sig ⟨S_, .f32⟩) (.of main_while0b_call1_c : StableHlo.TRef sig ⟨S_, .i32⟩) (.of main_while0b_v6 : StableHlo.TRef sig ⟨S_, .i32⟩) (fun x y u v j => (Host.argReduce reducer_argmax_f32_i32 x y u v reducesTo_S20000_S_d0 h_S_ j).2) ]
theorem trip0_sub : (trip0 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
theorem trip0_fresh : (trip0 : List (HloOp τ sig (Elt F))).Forall fun op => op.fresh = ∅ :=
  StableHlo.forall_fresh_of_map rfl
/-- What `trip0` writes. -/
abbrev trip0_W : List (Ref sig .tc) := [main_while0b_call1_v0, main_while0b_call1_cst, main_while0b_call1_c, main_while0b_call1_v1_0, main_while0b_v6]
theorem trip0_writes : (trip0 : List (HloOp τ sig (Elt F))).Forall fun op => op.writes ⊆ (trip0_W.map (Proc.devRef (τ := τ) .tc)).toFinset :=
  StableHlo.forall_writes_sub_of_map rfl

/-- The operations of one trip of the loop, part 1. -/
abbrev trip1 : List (HloOp τ sig (Elt F)) :=
  [ StableHlo.nullary main_while0b_c_7 (constantI S_ 32 0#32),
    StableHlo.binary main_while0b_v6 main_while0b_c_7 main_while0b_v7 (cmpi .slt : (⟨S_, .i32⟩ : BufTy).Contents (Elt F) → (⟨S_, .i32⟩ : BufTy).Contents (Elt F) → (⟨S_, .i1⟩ : BufTy).Contents (Elt F)),
    StableHlo.nullary main_while0b_c_8 (constantI S_ 32 20000#32),
    StableHlo.binary main_while0b_v6 main_while0b_c_8 main_while0b_v8 (addi : (⟨S_, .i32⟩ : BufTy).Contents (Elt F) → (⟨S_, .i32⟩ : BufTy).Contents (Elt F) → (⟨S_, .i32⟩ : BufTy).Contents (Elt F)),
    StableHlo.ternary main_while0b_v7 main_while0b_v8 main_while0b_v6 main_while0b_v9 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v5_4 ![main_while0b_v9] ⟨S_, .i32⟩ main_while0b_v10 ((fun x i => Host.dynamicSlice S1 x (fun k => (i k (Shape.Idx.first h_S_)).toInt) sliceFits_S20000_S1) : (⟨S20000, .f32⟩ : BufTy).Contents (Elt F) → (Fin 1 → (⟨S_, .i32⟩ : BufTy).Contents (Elt F)) → (⟨S1, .f32⟩ : BufTy).Contents (Elt F)),
    StableHlo.reshape main_while0b_v10 main_while0b_v11 (rfl : (.f32 : EltTy) = .f32) shapeCasts_S1_S_,
    StableHlo.nullary main_while0b_cst_9 (constant S_ .f32 0xCDEE6B28#32),
    StableHlo.binary main_while0b_v11 main_while0b_cst_9 main_while0b_v12 (cmpf .ogt : (⟨S_, .f32⟩ : BufTy).Contents (Elt F) → (⟨S_, .f32⟩ : BufTy).Contents (Elt F) → (⟨S_, .i1⟩ : BufTy).Contents (Elt F)),
    StableHlo.nullary main_while0b_c_10 (constantI S_ 32 0#32),
    StableHlo.binary main_while0b_v6 main_while0b_c_10 main_while0b_v13 (cmpi .slt : (⟨S_, .i32⟩ : BufTy).Contents (Elt F) → (⟨S_, .i32⟩ : BufTy).Contents (Elt F) → (⟨S_, .i1⟩ : BufTy).Contents (Elt F)),
    StableHlo.nullary main_while0b_c_11 (constantI S_ 32 20000#32),
    StableHlo.binary main_while0b_v6 main_while0b_c_11 main_while0b_v14 (addi : (⟨S_, .i32⟩ : BufTy).Contents (Elt F) → (⟨S_, .i32⟩ : BufTy).Contents (Elt F) → (⟨S_, .i32⟩ : BufTy).Contents (Elt F)),
    StableHlo.ternary main_while0b_v13 main_while0b_v14 main_while0b_v6 main_while0b_v15 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_12 (constantI S_ 32 0#32),
    StableHlo.nullary main_while0b_c_13 (constantI S_ 32 0#32),
    StableHlo.binary main_while0b_c_12 main_while0b_c_13 main_while0b_v16 (cmpi .slt : (⟨S_, .i32⟩ : BufTy).Contents (Elt F) → (⟨S_, .i32⟩ : BufTy).Contents (Elt F) → (⟨S_, .i1⟩ : BufTy).Contents (Elt F)),
    StableHlo.nullary main_while0b_c_14 (constantI S_ 32 0#32),
    StableHlo.nullary main_while0b_c_15 (constantI S_ 32 4#32),
    StableHlo.binary main_while0b_c_14 main_while0b_c_15 main_while0b_v17 (addi : (⟨S_, .i32⟩ : BufTy).Contents (Elt F) → (⟨S_, .i32⟩ : BufTy).Contents (Elt F) → (⟨S_, .i32⟩ : BufTy).Contents (Elt F)),
    StableHlo.nullary main_while0b_c_16 (constantI S_ 32 0#32),
    StableHlo.ternary main_while0b_v16 main_while0b_v17 main_while0b_c_16 main_while0b_v18 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v5_0 ![main_while0b_v15, main_while0b_v18] ⟨S_, .i32⟩ main_while0b_v19 ((fun x i => Host.dynamicSlice S1x4 x (fun k => (i k (Shape.Idx.first h_S_)).toInt) sliceFits_S20000x4_S1x4) : (⟨S20000x4, .f32⟩ : BufTy).Contents (Elt F) → (Fin 2 → (⟨S_, .i32⟩ : BufTy).Contents (Elt F)) → (⟨S1x4, .f32⟩ : BufTy).Contents (Elt F)),
    StableHlo.reshape main_while0b_v19 main_while0b_v20 (rfl : (.f32 : EltTy) = .f32) shapeCasts_S1x4_S4,
    StableHlo.nullary main_while0b_c_17 (constantI S_ 32 0#32),
    StableHlo.binary main_while0b_v6 main_while0b_c_17 main_while0b_v21 (cmpi .slt : (⟨S_, .i32⟩ : BufTy).Contents (Elt F) → (⟨S_, .i32⟩ : BufTy).Contents (Elt F) → (⟨S_, .i1⟩ : BufTy).Contents (Elt F)),
    StableHlo.nullary main_while0b_c_18 (constantI S_ 32 20000#32),
    StableHlo.binary main_while0b_v6 main_while0b_c_18 main_while0b_v22 (addi : (⟨S_, .i32⟩ : BufTy).Contents (Elt F) → (⟨S_, .i32⟩ : BufTy).Contents (Elt F) → (⟨S_, .i32⟩ : BufTy).Contents (Elt F)),
    StableHlo.ternary main_while0b_v21 main_while0b_v22 main_while0b_v6 main_while0b_v23 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v5_1 ![main_while0b_v23] ⟨S_, .i32⟩ main_while0b_v24 ((fun x i => Host.dynamicSlice S1 x (fun k => (i k (Shape.Idx.first h_S_)).toInt) sliceFits_S20000_S1) : (⟨S20000, .f32⟩ : BufTy).Contents (Elt F) → (Fin 1 → (⟨S_, .i32⟩ : BufTy).Contents (Elt F)) → (⟨S1, .f32⟩ : BufTy).Contents (Elt F)),
    StableHlo.reshape main_while0b_v24 main_while0b_v25 (rfl : (.f32 : EltTy) = .f32) shapeCasts_S1_S_,
    StableHlo.nullary main_while0b_cst_19 (constant S_ .f32 0x00000000#32) ]
theorem trip1_sub : (trip1 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.nullary_bufs_sub ..⟩
theorem trip1_fresh : (trip1 : List (HloOp τ sig (Elt F))).Forall fun op => op.fresh = ∅ :=
  StableHlo.forall_fresh_of_map rfl
/-- What `trip1` writes. -/
abbrev trip1_W : List (Ref sig .tc) := [main_while0b_c_7, main_while0b_v7, main_while0b_c_8, main_while0b_v8, main_while0b_v9, main_while0b_v10, main_while0b_v11, main_while0b_cst_9, main_while0b_v12, main_while0b_c_10, main_while0b_v13, main_while0b_c_11, main_while0b_v14, main_while0b_v15, main_while0b_c_12, main_while0b_c_13, main_while0b_v16, main_while0b_c_14, main_while0b_c_15, main_while0b_v17, main_while0b_c_16, main_while0b_v18, main_while0b_v19, main_while0b_v20, main_while0b_c_17, main_while0b_v21, main_while0b_c_18, main_while0b_v22, main_while0b_v23, main_while0b_v24, main_while0b_v25, main_while0b_cst_19]
theorem trip1_writes : (trip1 : List (HloOp τ sig (Elt F))).Forall fun op => op.writes ⊆ (trip1_W.map (Proc.devRef (τ := τ) .tc)).toFinset :=
  StableHlo.forall_writes_sub_of_map rfl

/-- The operations of one trip of the loop, part 2. -/
abbrev trip2 : List (HloOp τ sig (Elt F)) :=
  [ StableHlo.TRef.unary (.of main_while0b_cst_19 : StableHlo.TRef sig ⟨S_, .f32⟩) (.of main_while0b_call2_v0 : StableHlo.TRef sig ⟨S_, .f32⟩) id,
    StableHlo.TRef.ternary (.of main_while0b_v12 : StableHlo.TRef sig ⟨S_, .i1⟩) (.of main_while0b_v25 : StableHlo.TRef sig ⟨S_, .f32⟩) (.of main_while0b_call2_v0 : StableHlo.TRef sig ⟨S_, .f32⟩) (.of main_while0b_v26 : StableHlo.TRef sig ⟨S_, .f32⟩) select ]
theorem trip2_sub : (trip2 : List (HloOp τ sig (Elt F))).Forall fun op => op.bufs ⊆ StableHlo.tcRefs τ sig :=
  ⟨StableHlo.unary_bufs_sub .., StableHlo.ternary_bufs_sub ..⟩
theorem trip2_fresh : (trip2 : List (HloOp τ sig (Elt F))).Forall fun op => op.fresh = ∅ :=
  StableHlo.forall_fresh_of_map rfl
/-- What `trip2` writes. -/
abbrev trip2_W : List (Ref sig .tc) := [main_while0b_call2_v0, main_while0b_v26]
theorem trip2_writes : (trip2 : List (HloOp τ sig (Elt F))).Forall fun op => op.writes ⊆ (trip2_W.map (Proc.devRef (τ := τ) .tc)).toFinset :=
  StableHlo.forall_writes_sub_of_map rfl

/-- The operations of one trip of the loop, part 3. -/
abbrev trip3 : List (HloOp τ sig (Elt F)) :=
  [ StableHlo.unary main_while0b_v20 main_while0b_v27 ((extractStridedSlice S1 ![2] · slices_S4_S1_2) : (⟨S4, .f32⟩ : BufTy).Contents (Elt F) → (⟨S1, .f32⟩ : BufTy).Contents (Elt F)),
    StableHlo.reshape main_while0b_v27 main_while0b_v28 (rfl : (.f32 : EltTy) = .f32) shapeCasts_S1_S_,
    StableHlo.unary main_while0b_v20 main_while0b_v29 ((extractStridedSlice S1 ![0] · slices_S4_S1_0) : (⟨S4, .f32⟩ : BufTy).Contents (Elt F) → (⟨S1, .f32⟩ : BufTy).Contents (Elt F)),
    StableHlo.reshape main_while0b_v29 main_while0b_v30 (rfl : (.f32 : EltTy) = .f32) shapeCasts_S1_S_,
    StableHlo.binary main_while0b_v28 main_while0b_v30 main_while0b_v31 (subf : (⟨S_, .f32⟩ : BufTy).Contents (Elt F) → (⟨S_, .f32⟩ : BufTy).Contents (Elt F) → (⟨S_, .f32⟩ : BufTy).Contents (Elt F)),
    StableHlo.unary main_while0b_v20 main_while0b_v32 ((extractStridedSlice S1 ![3] · slices_S4_S1_3) : (⟨S4, .f32⟩ : BufTy).Contents (Elt F) → (⟨S1, .f32⟩ : BufTy).Contents (Elt F)),
    StableHlo.reshape main_while0b_v32 main_while0b_v33 (rfl : (.f32 : EltTy) = .f32) shapeCasts_S1_S_,
    StableHlo.unary main_while0b_v20 main_while0b_v34 ((extractStridedSlice S1 ![1] · slices_S4_S1_1) : (⟨S4, .f32⟩ : BufTy).Contents (Elt F) → (⟨S1, .f32⟩ : BufTy).Contents (Elt F)),
    StableHlo.reshape main_while0b_v34 main_while0b_v35 (rfl : (.f32 : EltTy) = .f32) shapeCasts_S1_S_,
    StableHlo.binary main_while0b_v33 main_while0b_v35 main_while0b_v36 (subf : (⟨S_, .f32⟩ : BufTy).Contents (Elt F) → (⟨S_, .f32⟩ : BufTy).Contents (Elt F) → (⟨S_, .f32⟩ : BufTy).Contents (Elt F)),
    StableHlo.binary main_while0b_v31 main_while0b_v36 main_while0b_v37 (mulf : (⟨S_, .f32⟩ : BufTy).Contents (Elt F) → (⟨S_, .f32⟩ : BufTy).Contents (Elt F) → (⟨S_, .f32⟩ : BufTy).Contents (Elt F)) ]
theorem trip3_sub : (trip3 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub ..⟩
theorem trip3_fresh : (trip3 : List (HloOp τ sig (Elt F))).Forall fun op => op.fresh = ∅ :=
  StableHlo.forall_fresh_of_map rfl
/-- What `trip3` writes. -/
abbrev trip3_W : List (Ref sig .tc) := [main_while0b_v27, main_while0b_v28, main_while0b_v29, main_while0b_v30, main_while0b_v31, main_while0b_v32, main_while0b_v33, main_while0b_v34, main_while0b_v35, main_while0b_v36, main_while0b_v37]
theorem trip3_writes : (trip3 : List (HloOp τ sig (Elt F))).Forall fun op => op.writes ⊆ (trip3_W.map (Proc.devRef (τ := τ) .tc)).toFinset :=
  StableHlo.forall_writes_sub_of_map rfl

/-- The operations of one trip of the loop, part 4. -/
abbrev trip4 : List (HloOp τ sig (Elt F)) :=
  [ StableHlo.unary main_v5_0 main_while0b_v38 ((extractStridedSlice S20000x1 ![0, 2] · slices_S20000x4_S20000x1_0_2) : (⟨S20000x4, .f32⟩ : BufTy).Contents (Elt F) → (⟨S20000x1, .f32⟩ : BufTy).Contents (Elt F)),
    StableHlo.reshape main_while0b_v38 main_while0b_v39 (rfl : (.f32 : EltTy) = .f32) shapeCasts_S20000x1_S20000,
    StableHlo.unary main_v5_0 main_while0b_v40 ((extractStridedSlice S20000x1 ![0, 0] · slices_S20000x4_S20000x1_0_0) : (⟨S20000x4, .f32⟩ : BufTy).Contents (Elt F) → (⟨S20000x1, .f32⟩ : BufTy).Contents (Elt F)),
    StableHlo.reshape main_while0b_v40 main_while0b_v41 (rfl : (.f32 : EltTy) = .f32) shapeCasts_S20000x1_S20000,
    StableHlo.binary main_while0b_v39 main_while0b_v41 main_while0b_v42 (subf : (⟨S20000, .f32⟩ : BufTy).Contents (Elt F) → (⟨S20000, .f32⟩ : BufTy).Contents (Elt F) → (⟨S20000, .f32⟩ : BufTy).Contents (Elt F)),
    StableHlo.unary main_v5_0 main_while0b_v43 ((extractStridedSlice S20000x1 ![0, 3] · slices_S20000x4_S20000x1_0_3) : (⟨S20000x4, .f32⟩ : BufTy).Contents (Elt F) → (⟨S20000x1, .f32⟩ : BufTy).Contents (Elt F)),
    StableHlo.reshape main_while0b_v43 main_while0b_v44 (rfl : (.f32 : EltTy) = .f32) shapeCasts_S20000x1_S20000,
    StableHlo.unary main_v5_0 main_while0b_v45 ((extractStridedSlice S20000x1 ![0, 1] · slices_S20000x4_S20000x1_0_1) : (⟨S20000x4, .f32⟩ : BufTy).Contents (Elt F) → (⟨S20000x1, .f32⟩ : BufTy).Contents (Elt F)),
    StableHlo.reshape main_while0b_v45 main_while0b_v46 (rfl : (.f32 : EltTy) = .f32) shapeCasts_S20000x1_S20000,
    StableHlo.binary main_while0b_v44 main_while0b_v46 main_while0b_v47 (subf : (⟨S20000, .f32⟩ : BufTy).Contents (Elt F) → (⟨S20000, .f32⟩ : BufTy).Contents (Elt F) → (⟨S20000, .f32⟩ : BufTy).Contents (Elt F)),
    StableHlo.binary main_while0b_v42 main_while0b_v47 main_while0b_v48 (mulf : (⟨S20000, .f32⟩ : BufTy).Contents (Elt F) → (⟨S20000, .f32⟩ : BufTy).Contents (Elt F) → (⟨S20000, .f32⟩ : BufTy).Contents (Elt F)) ]
theorem trip4_sub : (trip4 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub ..⟩
theorem trip4_fresh : (trip4 : List (HloOp τ sig (Elt F))).Forall fun op => op.fresh = ∅ :=
  StableHlo.forall_fresh_of_map rfl
/-- What `trip4` writes. -/
abbrev trip4_W : List (Ref sig .tc) := [main_while0b_v38, main_while0b_v39, main_while0b_v40, main_while0b_v41, main_while0b_v42, main_while0b_v43, main_while0b_v44, main_while0b_v45, main_while0b_v46, main_while0b_v47, main_while0b_v48]
theorem trip4_writes : (trip4 : List (HloOp τ sig (Elt F))).Forall fun op => op.writes ⊆ (trip4_W.map (Proc.devRef (τ := τ) .tc)).toFinset :=
  StableHlo.forall_writes_sub_of_map rfl

/-- The operations of one trip of the loop, part 5. -/
abbrev trip5 : List (HloOp τ sig (Elt F)) :=
  [ StableHlo.unary main_while0b_v20 main_while0b_v49 ((extractStridedSlice S2 ![0] · slices_S4_S2_0) : (⟨S4, .f32⟩ : BufTy).Contents (Elt F) → (⟨S2, .f32⟩ : BufTy).Contents (Elt F)),
    StableHlo.unary main_v5_0 main_while0b_v50 ((extractStridedSlice S20000x2 ![0, 0] · slices_S20000x4_S20000x2_0_0) : (⟨S20000x4, .f32⟩ : BufTy).Contents (Elt F) → (⟨S20000x2, .f32⟩ : BufTy).Contents (Elt F)),
    StableHlo.unary main_while0b_v49 main_while0b_v51 (broadcastInDim S1x2 ![1] bcast_S2_S1x2_1 : (⟨S2, .f32⟩ : BufTy).Contents (Elt F) → (⟨S1x2, .f32⟩ : BufTy).Contents (Elt F)),
    StableHlo.unary main_while0b_v51 main_while0b_v52 (broadcastInDim S20000x2 ![0, 1] bcast_S1x2_S20000x2_0_1 : (⟨S1x2, .f32⟩ : BufTy).Contents (Elt F) → (⟨S20000x2, .f32⟩ : BufTy).Contents (Elt F)),
    StableHlo.binary main_while0b_v52 main_while0b_v50 main_while0b_v53 (maximumf : (⟨S20000x2, .f32⟩ : BufTy).Contents (Elt F) → (⟨S20000x2, .f32⟩ : BufTy).Contents (Elt F) → (⟨S20000x2, .f32⟩ : BufTy).Contents (Elt F)),
    StableHlo.unary main_while0b_v20 main_while0b_v54 ((extractStridedSlice S2 ![2] · slices_S4_S2_2) : (⟨S4, .f32⟩ : BufTy).Contents (Elt F) → (⟨S2, .f32⟩ : BufTy).Contents (Elt F)),
    StableHlo.unary main_v5_0 main_while0b_v55 ((extractStridedSlice S20000x2 ![0, 2] · slices_S20000x4_S20000x2_0_2) : (⟨S20000x4, .f32⟩ : BufTy).Contents (Elt F) → (⟨S20000x2, .f32⟩ : BufTy).Contents (Elt F)),
    StableHlo.unary main_while0b_v54 main_while0b_v56 (broadcastInDim S1x2 ![1] bcast_S2_S1x2_1 : (⟨S2, .f32⟩ : BufTy).Contents (Elt F) → (⟨S1x2, .f32⟩ : BufTy).Contents (Elt F)),
    StableHlo.unary main_while0b_v56 main_while0b_v57 (broadcastInDim S20000x2 ![0, 1] bcast_S1x2_S20000x2_0_1 : (⟨S1x2, .f32⟩ : BufTy).Contents (Elt F) → (⟨S20000x2, .f32⟩ : BufTy).Contents (Elt F)),
    StableHlo.binary main_while0b_v57 main_while0b_v55 main_while0b_v58 (minimumf : (⟨S20000x2, .f32⟩ : BufTy).Contents (Elt F) → (⟨S20000x2, .f32⟩ : BufTy).Contents (Elt F) → (⟨S20000x2, .f32⟩ : BufTy).Contents (Elt F)),
    StableHlo.binary main_while0b_v58 main_while0b_v53 main_while0b_v59 (subf : (⟨S20000x2, .f32⟩ : BufTy).Contents (Elt F) → (⟨S20000x2, .f32⟩ : BufTy).Contents (Elt F) → (⟨S20000x2, .f32⟩ : BufTy).Contents (Elt F)),
    StableHlo.nullary main_while0b_cst_20 (constant S_ .f32 0x00000000#32) ]
theorem trip5_sub : (trip5 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub ..⟩
theorem trip5_fresh : (trip5 : List (HloOp τ sig (Elt F))).Forall fun op => op.fresh = ∅ :=
  StableHlo.forall_fresh_of_map rfl
/-- What `trip5` writes. -/
abbrev trip5_W : List (Ref sig .tc) := [main_while0b_v49, main_while0b_v50, main_while0b_v51, main_while0b_v52, main_while0b_v53, main_while0b_v54, main_while0b_v55, main_while0b_v56, main_while0b_v57, main_while0b_v58, main_while0b_v59, main_while0b_cst_20]
theorem trip5_writes : (trip5 : List (HloOp τ sig (Elt F))).Forall fun op => op.writes ⊆ (trip5_W.map (Proc.devRef (τ := τ) .tc)).toFinset :=
  StableHlo.forall_writes_sub_of_map rfl

/-- The operations of one trip of the loop, part 6. -/
abbrev trip6 : List (HloOp τ sig (Elt F)) :=
  [ StableHlo.TRef.unary (.of main_while0b_cst_20 : StableHlo.TRef sig ⟨S_, .f32⟩) (.of main_while0b_call3_v0 : StableHlo.TRef sig ⟨S_, .f32⟩) id,
    StableHlo.TRef.unary (.of main_while0b_call3_v0 : StableHlo.TRef sig ⟨S_, .f32⟩) (.of main_while0b_call3_v1 : StableHlo.TRef sig ⟨S20000x2, .f32⟩) (broadcastInDim S20000x2 ![] bcast_S_S20000x2),
    StableHlo.TRef.binary (.of main_while0b_call3_v1 : StableHlo.TRef sig ⟨S20000x2, .f32⟩) (.of main_while0b_v59 : StableHlo.TRef sig ⟨S20000x2, .f32⟩) (.of main_while0b_v60 : StableHlo.TRef sig ⟨S20000x2, .f32⟩) maximumf ]
theorem trip6_sub : (trip6 : List (HloOp τ sig (Elt F))).Forall fun op => op.bufs ⊆ StableHlo.tcRefs τ sig :=
  ⟨StableHlo.unary_bufs_sub .., StableHlo.unary_bufs_sub .., StableHlo.binary_bufs_sub ..⟩
theorem trip6_fresh : (trip6 : List (HloOp τ sig (Elt F))).Forall fun op => op.fresh = ∅ :=
  StableHlo.forall_fresh_of_map rfl
/-- What `trip6` writes. -/
abbrev trip6_W : List (Ref sig .tc) := [main_while0b_call3_v0, main_while0b_call3_v1, main_while0b_v60]
theorem trip6_writes : (trip6 : List (HloOp τ sig (Elt F))).Forall fun op => op.writes ⊆ (trip6_W.map (Proc.devRef (τ := τ) .tc)).toFinset :=
  StableHlo.forall_writes_sub_of_map rfl

/-- The operations of one trip of the loop, part 7. -/
abbrev trip7 : List (HloOp τ sig (Elt F)) :=
  [ StableHlo.unary main_while0b_v60 main_while0b_v61 ((extractStridedSlice S20000x1 ![0, 0] · slices_S20000x2_S20000x1_0_0) : (⟨S20000x2, .f32⟩ : BufTy).Contents (Elt F) → (⟨S20000x1, .f32⟩ : BufTy).Contents (Elt F)),
    StableHlo.reshape main_while0b_v61 main_while0b_v62 (rfl : (.f32 : EltTy) = .f32) shapeCasts_S20000x1_S20000,
    StableHlo.unary main_while0b_v60 main_while0b_v63 ((extractStridedSlice S20000x1 ![0, 1] · slices_S20000x2_S20000x1_0_1) : (⟨S20000x2, .f32⟩ : BufTy).Contents (Elt F) → (⟨S20000x1, .f32⟩ : BufTy).Contents (Elt F)),
    StableHlo.reshape main_while0b_v63 main_while0b_v64 (rfl : (.f32 : EltTy) = .f32) shapeCasts_S20000x1_S20000,
    StableHlo.binary main_while0b_v62 main_while0b_v64 main_while0b_v65 (mulf : (⟨S20000, .f32⟩ : BufTy).Contents (Elt F) → (⟨S20000, .f32⟩ : BufTy).Contents (Elt F) → (⟨S20000, .f32⟩ : BufTy).Contents (Elt F)),
    StableHlo.unary main_while0b_v37 main_while0b_v66 (broadcastInDim S20000 ![] bcast_S_S20000 : (⟨S_, .f32⟩ : BufTy).Contents (Elt F) → (⟨S20000, .f32⟩ : BufTy).Contents (Elt F)),
    StableHlo.binary main_while0b_v66 main_while0b_v48 main_while0b_v67 (addf : (⟨S20000, .f32⟩ : BufTy).Contents (Elt F) → (⟨S20000, .f32⟩ : BufTy).Contents (Elt F) → (⟨S20000, .f32⟩ : BufTy).Contents (Elt F)),
    StableHlo.binary main_while0b_v67 main_while0b_v65 main_while0b_v68 (subf : (⟨S20000, .f32⟩ : BufTy).Contents (Elt F) → (⟨S20000, .f32⟩ : BufTy).Contents (Elt F) → (⟨S20000, .f32⟩ : BufTy).Contents (Elt F)),
    StableHlo.nullary main_while0b_cst_21 (constant S_ .f32 0x3089705F#32),
    StableHlo.unary main_while0b_cst_21 main_while0b_v69 (broadcastInDim S20000 ![] bcast_S_S20000 : (⟨S_, .f32⟩ : BufTy).Contents (Elt F) → (⟨S20000, .f32⟩ : BufTy).Contents (Elt F)),
    StableHlo.binary main_while0b_v68 main_while0b_v69 main_while0b_v70 (addf : (⟨S20000, .f32⟩ : BufTy).Contents (Elt F) → (⟨S20000, .f32⟩ : BufTy).Contents (Elt F) → (⟨S20000, .f32⟩ : BufTy).Contents (Elt F)),
    StableHlo.binary main_while0b_v65 main_while0b_v70 main_while0b_v71 (Host.divf : (⟨S20000, .f32⟩ : BufTy).Contents (Elt F) → (⟨S20000, .f32⟩ : BufTy).Contents (Elt F) → (⟨S20000, .f32⟩ : BufTy).Contents (Elt F)),
    StableHlo.nullary main_while0b_cst_22 (constant S_ .f32 0x3F000000#32),
    StableHlo.unary main_while0b_cst_22 main_while0b_v72 (broadcastInDim S20000 ![] bcast_S_S20000 : (⟨S_, .f32⟩ : BufTy).Contents (Elt F) → (⟨S20000, .f32⟩ : BufTy).Contents (Elt F)),
    StableHlo.binary main_while0b_v71 main_while0b_v72 main_while0b_v73 (cmpf .ogt : (⟨S20000, .f32⟩ : BufTy).Contents (Elt F) → (⟨S20000, .f32⟩ : BufTy).Contents (Elt F) → (⟨S20000, .i1⟩ : BufTy).Contents (Elt F)),
    StableHlo.unary main_while0b_v6 main_while0b_v74 (broadcastInDim S20000 ![] bcast_S_S20000 : (⟨S_, .i32⟩ : BufTy).Contents (Elt F) → (⟨S20000, .i32⟩ : BufTy).Contents (Elt F)),
    StableHlo.binary main_v5_2 main_while0b_v74 main_while0b_v75 (cmpi .eq : (⟨S20000, .i32⟩ : BufTy).Contents (Elt F) → (⟨S20000, .i32⟩ : BufTy).Contents (Elt F) → (⟨S20000, .i1⟩ : BufTy).Contents (Elt F)),
    StableHlo.binary main_while0b_v73 main_while0b_v75 main_while0b_v76 (ori : (⟨S20000, .i1⟩ : BufTy).Contents (Elt F) → (⟨S20000, .i1⟩ : BufTy).Contents (Elt F) → (⟨S20000, .i1⟩ : BufTy).Contents (Elt F)),
    StableHlo.nullary main_while0b_cst_23 (constant S_ .f32 0xCE6E6B28#32) ]
theorem trip7_sub : (trip7 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub ..⟩
theorem trip7_fresh : (trip7 : List (HloOp τ sig (Elt F))).Forall fun op => op.fresh = ∅ :=
  StableHlo.forall_fresh_of_map rfl
/-- What `trip7` writes. -/
abbrev trip7_W : List (Ref sig .tc) := [main_while0b_v61, main_while0b_v62, main_while0b_v63, main_while0b_v64, main_while0b_v65, main_while0b_v66, main_while0b_v67, main_while0b_v68, main_while0b_cst_21, main_while0b_v69, main_while0b_v70, main_while0b_v71, main_while0b_cst_22, main_while0b_v72, main_while0b_v73, main_while0b_v74, main_while0b_v75, main_while0b_v76, main_while0b_cst_23]
theorem trip7_writes : (trip7 : List (HloOp τ sig (Elt F))).Forall fun op => op.writes ⊆ (trip7_W.map (Proc.devRef (τ := τ) .tc)).toFinset :=
  StableHlo.forall_writes_sub_of_map rfl

/-- The operations of one trip of the loop, part 8. -/
abbrev trip8 : List (HloOp τ sig (Elt F)) :=
  [ StableHlo.TRef.unary (.of main_while0b_cst_23 : StableHlo.TRef sig ⟨S_, .f32⟩) (.of main_while0b_call4_v0 : StableHlo.TRef sig ⟨S_, .f32⟩) id,
    StableHlo.TRef.unary (.of main_while0b_call4_v0 : StableHlo.TRef sig ⟨S_, .f32⟩) (.of main_while0b_call4_v1 : StableHlo.TRef sig ⟨S20000, .f32⟩) (broadcastInDim S20000 ![] bcast_S_S20000),
    StableHlo.TRef.ternary (.of main_while0b_v76 : StableHlo.TRef sig ⟨S20000, .i1⟩) (.of main_while0b_call4_v1 : StableHlo.TRef sig ⟨S20000, .f32⟩) (.of main_v5_4 : StableHlo.TRef sig ⟨S20000, .f32⟩) (.of main_while0b_v77 : StableHlo.TRef sig ⟨S20000, .f32⟩) select ]
theorem trip8_sub : (trip8 : List (HloOp τ sig (Elt F))).Forall fun op => op.bufs ⊆ StableHlo.tcRefs τ sig :=
  ⟨StableHlo.unary_bufs_sub .., StableHlo.unary_bufs_sub .., StableHlo.ternary_bufs_sub ..⟩
theorem trip8_fresh : (trip8 : List (HloOp τ sig (Elt F))).Forall fun op => op.fresh = ∅ :=
  StableHlo.forall_fresh_of_map rfl
/-- What `trip8` writes. -/
abbrev trip8_W : List (Ref sig .tc) := [main_while0b_call4_v0, main_while0b_call4_v1, main_while0b_v77]
theorem trip8_writes : (trip8 : List (HloOp τ sig (Elt F))).Forall fun op => op.writes ⊆ (trip8_W.map (Proc.devRef (τ := τ) .tc)).toFinset :=
  StableHlo.forall_writes_sub_of_map rfl

/-- The operations of one trip of the loop, part 9. -/
abbrev trip9 : List (HloOp τ sig (Elt F)) :=
  [ StableHlo.nullary main_while0b_cst_24 (constant S_ .f32 0x00000000#32),
    StableHlo.unary main_while0b_cst_24 main_while0b_v78 (broadcastInDim S4 ![] bcast_S_S4 : (⟨S_, .f32⟩ : BufTy).Contents (Elt F) → (⟨S4, .f32⟩ : BufTy).Contents (Elt F)) ]
theorem trip9_sub : (trip9 : List (HloOp τ sig (Elt F))).Forall fun op => op.bufs ⊆ StableHlo.tcRefs τ sig :=
  ⟨StableHlo.nullary_bufs_sub .., StableHlo.unary_bufs_sub ..⟩
theorem trip9_fresh : (trip9 : List (HloOp τ sig (Elt F))).Forall fun op => op.fresh = ∅ :=
  StableHlo.forall_fresh_of_map rfl
/-- What `trip9` writes. -/
abbrev trip9_W : List (Ref sig .tc) := [main_while0b_cst_24, main_while0b_v78]
theorem trip9_writes : (trip9 : List (HloOp τ sig (Elt F))).Forall fun op => op.writes ⊆ (trip9_W.map (Proc.devRef (τ := τ) .tc)).toFinset :=
  StableHlo.forall_writes_sub_of_map rfl

/-- The operations of one trip of the loop, part 10. -/
abbrev trip10 : List (HloOp τ sig (Elt F)) :=
  [ StableHlo.TRef.ternary (.of main_while0b_v12 : StableHlo.TRef sig ⟨S_, .i1⟩) (.of main_while0b_v20 : StableHlo.TRef sig ⟨S4, .f32⟩) (.of main_while0b_v78 : StableHlo.TRef sig ⟨S4, .f32⟩) (.of main_while0b_v79 : StableHlo.TRef sig ⟨S4, .f32⟩) (fun p a b => select (broadcastInDim S4 ![] bcast_S_S4 p) a b) ]
theorem trip10_sub : (trip10 : List (HloOp τ sig (Elt F))).Forall fun op => op.bufs ⊆ StableHlo.tcRefs τ sig :=
  StableHlo.ternary_bufs_sub ..
theorem trip10_fresh : (trip10 : List (HloOp τ sig (Elt F))).Forall fun op => op.fresh = ∅ :=
  StableHlo.forall_fresh_of_map rfl
/-- What `trip10` writes. -/
abbrev trip10_W : List (Ref sig .tc) := [main_while0b_v79]
theorem trip10_writes : (trip10 : List (HloOp τ sig (Elt F))).Forall fun op => op.writes ⊆ (trip10_W.map (Proc.devRef (τ := τ) .tc)).toFinset :=
  StableHlo.forall_writes_sub_of_map rfl

/-- The operations of one trip of the loop, part 11. -/
abbrev trip11 : List (HloOp τ sig (Elt F)) :=
  [ StableHlo.unary main_while0b_v26 main_while0b_v80 (broadcastInDim S1 ![] bcast_S_S1 : (⟨S_, .f32⟩ : BufTy).Contents (Elt F) → (⟨S1, .f32⟩ : BufTy).Contents (Elt F)),
    StableHlo.binary main_while0b_v79 main_while0b_v80 main_while0b_v81 ((fun a b => concatenate S5 0 [⟨S4, a⟩, ⟨S1, b⟩] concatenates_S4_S1_S5_d0) : (⟨S4, .f32⟩ : BufTy).Contents (Elt F) → (⟨S1, .f32⟩ : BufTy).Contents (Elt F) → (⟨S5, .f32⟩ : BufTy).Contents (Elt F)) ]
theorem trip11_sub : (trip11 : List (HloOp τ sig (Elt F))).Forall fun op => op.bufs ⊆ StableHlo.tcRefs τ sig :=
  ⟨StableHlo.unary_bufs_sub .., StableHlo.binary_bufs_sub ..⟩
theorem trip11_fresh : (trip11 : List (HloOp τ sig (Elt F))).Forall fun op => op.fresh = ∅ :=
  StableHlo.forall_fresh_of_map rfl
/-- What `trip11` writes. -/
abbrev trip11_W : List (Ref sig .tc) := [main_while0b_v80, main_while0b_v81]
theorem trip11_writes : (trip11 : List (HloOp τ sig (Elt F))).Forall fun op => op.writes ⊆ (trip11_W.map (Proc.devRef (τ := τ) .tc)).toFinset :=
  StableHlo.forall_writes_sub_of_map rfl

/-- The operations of one trip of the loop, part 12. -/
abbrev trip12 : List (HloOp τ sig (Elt F)) :=
  [ StableHlo.TRef.unary (.of main_while0b_v81 : StableHlo.TRef sig ⟨S5, .f32⟩) (.of main_while0b_call6_v0 : StableHlo.TRef sig ⟨S1x5, .f32⟩) (broadcastInDim S1x5 ![1] bcast_S5_S1x5_1),
    StableHlo.TRef.nullary (.of main_while0b_call6_c : StableHlo.TRef sig ⟨S_, .i32⟩) (constantI S_ 32 0#32),
    StableHlo.TRef.binaryIndexed (.of main_v5_5 : StableHlo.TRef sig ⟨S100x5, .f32⟩) (.of main_while0b_call6_v0 : StableHlo.TRef sig ⟨S1x5, .f32⟩) ![(.of main_v5_3 : StableHlo.TRef sig ⟨S_, .i32⟩), (.of main_while0b_call6_c : StableHlo.TRef sig ⟨S_, .i32⟩)] (.of main_while0b_v82 : StableHlo.TRef sig ⟨S100x5, .f32⟩) (fun x u i => Host.dynamicUpdateSlice x u (fun k => (i k (Shape.Idx.first h_S_)).toInt) updateFits_S100x5_S1x5) ]
theorem trip12_sub : (trip12 : List (HloOp τ sig (Elt F))).Forall fun op => op.bufs ⊆ StableHlo.tcRefs τ sig :=
  ⟨StableHlo.unary_bufs_sub .., StableHlo.nullary_bufs_sub .., StableHlo.binaryIndexed_bufs_sub ..⟩
theorem trip12_fresh : (trip12 : List (HloOp τ sig (Elt F))).Forall fun op => op.fresh = ∅ :=
  StableHlo.forall_fresh_of_map rfl
/-- What `trip12` writes. -/
abbrev trip12_W : List (Ref sig .tc) := [main_while0b_call6_v0, main_while0b_call6_c, main_while0b_v82]
theorem trip12_writes : (trip12 : List (HloOp τ sig (Elt F))).Forall fun op => op.writes ⊆ (trip12_W.map (Proc.devRef (τ := τ) .tc)).toFinset :=
  StableHlo.forall_writes_sub_of_map rfl

/-- The operations of one trip of the loop, part 13. -/
abbrev trip13 : List (HloOp τ sig (Elt F)) :=
  [ StableHlo.nullary main_while0b_c_25 (constantI S_ 32 1#32),
    StableHlo.binary main_v5_3 main_while0b_c_25 main_while0b_v83 (addi : (⟨S_, .i32⟩ : BufTy).Contents (Elt F) → (⟨S_, .i32⟩ : BufTy).Contents (Elt F) → (⟨S_, .i32⟩ : BufTy).Contents (Elt F)),
    StableHlo.unary main_while0b_v83 main_v5_3 id,
    StableHlo.unary main_while0b_v77 main_v5_4 id,
    StableHlo.unary main_while0b_v82 main_v5_5 id ]
theorem trip13_sub : (trip13 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
theorem trip13_fresh : (trip13 : List (HloOp τ sig (Elt F))).Forall fun op => op.fresh = ∅ :=
  StableHlo.forall_fresh_of_map rfl
/-- What `trip13` writes. -/
abbrev trip13_W : List (Ref sig .tc) := [main_while0b_c_25, main_while0b_v83, main_v5_3, main_v5_4, main_v5_5]
theorem trip13_writes : (trip13 : List (HloOp τ sig (Elt F))).Forall fun op => op.writes ⊆ (trip13_W.map (Proc.devRef (τ := τ) .tc)).toFinset :=
  StableHlo.forall_writes_sub_of_map rfl

theorem main_chain (c : Dev nD) : main (F := F) c = (Pipeline.chain
  [StableHlo.seq entry0, StableHlo.seq entry1, StableHlo.seq entry2, HostLoop.enter 0] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons]
  chain_rfl

theorem body_chain : main_while0_body (F := F) = (Pipeline.chain
  [StableHlo.seq trip0, StableHlo.seq trip1, StableHlo.seq trip2, StableHlo.seq trip3, StableHlo.seq trip4, StableHlo.seq trip5, StableHlo.seq trip6, StableHlo.seq trip7, StableHlo.seq trip8, StableHlo.seq trip9, StableHlo.seq trip10, StableHlo.seq trip11, StableHlo.seq trip12, StableHlo.seq trip13] : Prog (TpuEff nD τ sig (Elt F) (HostLoop.Sig (Pipeline.Sig Λ₀ (Fin 0) fun p => (pcfgs (F := F) p).Adm) 1) .tc) PUnit) := by
  rewrite [Pipeline.chain_cons, StableHlo.chain_seq_cons, Pipeline.chain_cons, StableHlo.chain_seq_cons, StableHlo.chain_seq_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons]
  chain_rfl

/-- The operations of the loop's condition. -/
abbrev condOps : List (HloOp τ sig (Elt F)) :=
  [ StableHlo.nullary main_while0c_c_7 (constantI S_ 32 100#32),
    StableHlo.binary main_v5_3 main_while0c_c_7 main_while0c_v6 (cmpi .slt : (⟨S_, .i32⟩ : BufTy).Contents (Elt F) → (⟨S_, .i32⟩ : BufTy).Contents (Elt F) → (⟨S_, .i1⟩ : BufTy).Contents (Elt F)) ]
abbrev condOps_W : List (Ref sig .tc) := [main_while0c_c_7, main_while0c_v6]
theorem condOps_writes : (condOps : List (HloOp τ sig (Elt F))).Forall fun op => op.writes ⊆ (condOps_W.map (Proc.devRef (τ := τ) .tc)).toFinset :=
  StableHlo.forall_writes_sub_of_map rfl

abbrev entryL : List (List (HloOp τ sig (Elt F))) := [entry0, entry1, entry2]
abbrev tripL : List (List (HloOp τ sig (Elt F))) := [trip0, trip1, trip2, trip3, trip4, trip5, trip6, trip7, trip8, trip9, trip10, trip11, trip12, trip13]

theorem entryL_plain : Plain (entryL (F := F)) := .cons entry0_sub (hf := List.forall_iff_forall_mem.mp entry0_fresh) (.cons entry1_sub (hf := List.forall_iff_forall_mem.mp entry1_fresh) (.cons entry2_sub (hf := List.forall_iff_forall_mem.mp entry2_fresh) (.nil)))
theorem tripL_plain : Plain (tripL (F := F)) := .cons trip0_sub (hf := List.forall_iff_forall_mem.mp trip0_fresh) (.cons trip1_sub (hf := List.forall_iff_forall_mem.mp trip1_fresh) (.cons trip2_sub (hf := List.forall_iff_forall_mem.mp trip2_fresh) (.cons trip3_sub (hf := List.forall_iff_forall_mem.mp trip3_fresh) (.cons trip4_sub (hf := List.forall_iff_forall_mem.mp trip4_fresh) (.cons trip5_sub (hf := List.forall_iff_forall_mem.mp trip5_fresh) (.cons trip6_sub (hf := List.forall_iff_forall_mem.mp trip6_fresh) (.cons trip7_sub (hf := List.forall_iff_forall_mem.mp trip7_fresh) (.cons trip8_sub (hf := List.forall_iff_forall_mem.mp trip8_fresh) (.cons trip9_sub (hf := List.forall_iff_forall_mem.mp trip9_fresh) (.cons trip10_sub (hf := List.forall_iff_forall_mem.mp trip10_fresh) (.cons trip11_sub (hf := List.forall_iff_forall_mem.mp trip11_fresh) (.cons trip12_sub (hf := List.forall_iff_forall_mem.mp trip12_fresh) (.cons trip13_sub (hf := List.forall_iff_forall_mem.mp trip13_fresh) (.nil))))))))))))))

variable (m : (ℓ : Loc nD τ sig) → Buf (Elt F) ℓ) (ρ : Dev nD → PrngReg)

/-- Every buffer before the `k`-th run of the condition. -/
abbrev atK (k : ℕ) (c : Dev nD) : Valuation τ sig (Elt F) := atTrip condOps tripL (entryContents entryL m) k c

/-- A buffer that neither the condition nor any stretch of a trip writes. -/
theorem trip_keep (X : Valuation τ sig (Elt F)) (r : Ref sig .tc)
    (h0 : r ∉ condOps_W)
    (h1 : r ∉ trip0_W)
    (h2 : r ∉ trip1_W)
    (h3 : r ∉ trip2_W)
    (h4 : r ∉ trip3_W)
    (h5 : r ∉ trip4_W)
    (h6 : r ∉ trip5_W)
    (h7 : r ∉ trip6_W)
    (h8 : r ∉ trip7_W)
    (h9 : r ∉ trip8_W)
    (h10 : r ∉ trip9_W)
    (h11 : r ∉ trip10_W)
    (h12 : r ∉ trip11_W)
    (h13 : r ∉ trip12_W)
    (h14 : r ∉ trip13_W) :
    afterL tripL (after condOps X) (Proc.devRef .tc r) = X (Proc.devRef .tc r) := by
  simp only [afterL_cons, afterL_nil]
  rw [after_of_writes_sub trip13 _ trip13_writes h14, after_of_writes_sub trip12 _ trip12_writes h13, after_of_writes_sub trip11 _ trip11_writes h12, after_of_writes_sub trip10 _ trip10_writes h11, after_of_writes_sub trip9 _ trip9_writes h10, after_of_writes_sub trip8 _ trip8_writes h9, after_of_writes_sub trip7 _ trip7_writes h8, after_of_writes_sub trip6 _ trip6_writes h7, after_of_writes_sub trip5 _ trip5_writes h6, after_of_writes_sub trip4 _ trip4_writes h5, after_of_writes_sub trip3 _ trip3_writes h4, after_of_writes_sub trip2 _ trip2_writes h3, after_of_writes_sub trip1 _ trip1_writes h2, after_of_writes_sub trip0 _ trip0_writes h1,
    after_of_writes_sub condOps _ condOps_writes h0]

set_option maxRecDepth 100000 in
theorem ctr_step (X : Valuation τ sig (Elt F)) :
    after trip13 X (Proc.devRef .tc main_v5_3) = addi (X (Proc.devRef .tc main_v5_3)) (constantI S_ 32 1#32) := by
  after_results
  rfl

theorem ctr_entry (c : Dev nD) : entryContents entryL m c (Proc.devRef .tc main_v5_3) = fun _ => (0#32 : BitVec 32) := by
  simp only [entryContents, afterL_cons, afterL_nil]
  after_reads_simp
  rfl

theorem ctr_trip (X : Valuation τ sig (Elt F)) : afterL tripL (after condOps X) (Proc.devRef .tc main_v5_3)
    = addi (X (Proc.devRef .tc main_v5_3)) (constantI S_ 32 1#32) := by
  simp only [afterL_cons, afterL_nil]
  rw [ctr_step, after_of_writes_sub trip12 _ trip12_writes (by decide +kernel), after_of_writes_sub trip11 _ trip11_writes (by decide +kernel), after_of_writes_sub trip10 _ trip10_writes (by decide +kernel), after_of_writes_sub trip9 _ trip9_writes (by decide +kernel), after_of_writes_sub trip8 _ trip8_writes (by decide +kernel), after_of_writes_sub trip7 _ trip7_writes (by decide +kernel), after_of_writes_sub trip6 _ trip6_writes (by decide +kernel), after_of_writes_sub trip5 _ trip5_writes (by decide +kernel), after_of_writes_sub trip4 _ trip4_writes (by decide +kernel), after_of_writes_sub trip3 _ trip3_writes (by decide +kernel), after_of_writes_sub trip2 _ trip2_writes (by decide +kernel), after_of_writes_sub trip1 _ trip1_writes (by decide +kernel), after_of_writes_sub trip0 _ trip0_writes (by decide +kernel),
    after_of_writes_sub condOps _ condOps_writes (by decide +kernel)]

/-- Before the `k`-th run of the condition the counter is `k`. -/
theorem atK_ctr (c : Dev nD) : ∀ k, atK m k c (Proc.devRef .tc main_v5_3) = fun _ => Scf.iv 0#32 1#32 k
  | 0 => by rw [show atK m 0 c = entryContents entryL m c from rfl, ctr_entry, Scf.iv_zero]
  | k + 1 => by
    rw [show atK m (k + 1) c = afterL tripL (after condOps (atK m k c)) from rfl, ctr_trip, atK_ctr c k, Scf.iv_succ]
    rfl

set_option backward.isDefEq.respectTransparency.types false in
/-- The condition holds exactly before the first hundred trips. -/
theorem cond_spec : CondSpec (pcfgs (F := F)) defs₀ loops (main_while0_cond (F := F)) condOps tripL (entryContents entryL m) 100 := by
  intro k hk c bd
  have hk0 := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v5_3 HostLoop.idx0)
        (HloOp.result _ (atK m k c) main_while0c_c_7 HostLoop.idx0) = 1#1) (k < 100)
    rw [nullary_result_ne _ _ _ _ (by decide), nullary_result, hk0]
    exact Scf.cmpi_slt_iv_ub_iff (lb := 0#32) (ub := 100#32) (st := 1#32) (by decide) (show k ≤ Scf.trips 0#32 100#32 1#32 from hk)
  isplitl [Hb]; · iexact Hb
  rw [after_cons, after_cons, after_nil]; iexact Hh

set_option maxRecDepth 100000 in
/-- Every execution of the reference ends with every buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps entryL tripL [] 100 m c (Proc.devRef .tc b)) :=
  run_loop (pcfgs (F := F)) defs₀ loops main 0 main_while0_cond main_while0_body rfl entryL tripL [] condOps entryL_plain tripL_plain .nil
    (fun c => by rw [main_chain]; rfl) (by rw [body_chain]; rfl) 100 m ρ (cond_spec m)

theorem atK_arg0 (c : Dev nD) : ∀ k, atK m k c (Proc.devRef .tc main_arg0) = m ((c.tc : Thread nD τ).loc main_arg0)
  | 0 => by
    rw [show atK m 0 c = entryContents entryL m c from rfl]
    simp only [entryContents, afterL_cons, afterL_nil]
    rw [after_of_writes_sub entry2 _ entry2_writes (by decide +kernel), after_of_writes_sub entry1 _ entry1_writes (by decide +kernel), after_of_writes_sub entry0 _ entry0_writes (by decide +kernel)]
  | k + 1 => by
    rw [show atK m (k + 1) c = afterL tripL (after condOps (atK m k c)) from rfl, trip_keep _ _ (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel), atK_arg0 c k]

theorem atK_arg1 (c : Dev nD) : ∀ k, atK m k c (Proc.devRef .tc main_arg1) = m ((c.tc : Thread nD τ).loc main_arg1)
  | 0 => by
    rw [show atK m 0 c = entryContents entryL m c from rfl]
    simp only [entryContents, afterL_cons, afterL_nil]
    rw [after_of_writes_sub entry2 _ entry2_writes (by decide +kernel), after_of_writes_sub entry1 _ entry1_writes (by decide +kernel), after_of_writes_sub entry0 _ entry0_writes (by decide +kernel)]
  | k + 1 => by
    rw [show atK m (k + 1) c = afterL tripL (after condOps (atK m k c)) from rfl, trip_keep _ _ (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel), atK_arg1 c k]

theorem final_eq (c : Dev nD) (r : Ref sig .tc) (h : r ∉ condOps_W) :
    finalContents condOps entryL tripL [] 100 m c (Proc.devRef .tc r) = atK m 100 c (Proc.devRef .tc r) := by
  rw [show finalContents condOps entryL tripL [] 100 m c = after condOps (atK m 100 c) from rfl]
  exact after_of_writes_sub condOps _ condOps_writes h

/-- Every execution of the reference ends with its result at the fold, its arguments as they were and no semaphore
    counted. -/
theorem run : θ_run (defs (F := F)) (onTc (τ := τ) (main (F := F))) ⟨m, fun _ => 0, ρ⟩
    (fun r => (∀ c : Dev nD,
        r.2.mem ((c.tc : Thread nD τ).loc main_v5_5) = atK m 100 c (Proc.devRef .tc main_v5_5)
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) := by
  refine (θ_run defs _ _).mono (fun r hr => ?_) (run_fold m ρ)
  refine ⟨fun c => ⟨?_, ?_, ?_⟩, sem_eq_zero_of_no_sems rfl r.2⟩
  · rw [hr c main_v5_5 rfl, final_eq m c _ (by decide +kernel)]
  · rw [hr c main_arg0 rfl, final_eq m c _ (by decide +kernel), atK_arg0]
  · rw [hr c main_arg1 rfl, final_eq m c _ (by decide +kernel), atK_arg1]

end Cert.Proof.Ref

end
-- ==== Proof.RefTrip.lean ====
module

public import proofs.«01_k».proof.Proof.RefRun

@[expose] public section

set_option maxRecDepth 100000

/-! What one trip of the reference's loop computes. -/

noncomputable section

namespace Cert.Proof.Ref

open Cert.ReferenceIdeal Cert.ReferenceIdeal.Gen
open Idealize.ShloMosaic Idealize.ShloMosaic.TcCoe Idealize.ShloMosaic.Tactic
open Idealize.ShloMosaic.StableHlo

variable {F : FTy → Type} [FloatOps F]

/-- The number of the first largest score. -/
def argm (s : FVec F S20000 .f32) : IVec S_ 32 :=
  fun j => (Host.argReduce reducer_argmax_f32_i32 s (iotaInDim S20000 32 0) (constant S_ .f32 0xFF800000#32) (constantI S_ 32 0#32) reducesTo_S20000_S_d0 h_S_ j).2

/-- A number counted from the end where it is negative. -/
def wrap (i : IVec S_ 32) : IVec S_ 32 := select (cmpi .slt i (constantI S_ 32 0#32)) (addi i (constantI S_ 32 20000#32)) i
def first4 : IVec S_ 32 := select (cmpi .slt (constantI S_ 32 0#32) (constantI S_ 32 0#32)) (addi (constantI S_ 32 0#32) (constantI S_ 32 4#32)) (constantI S_ 32 0#32)

def scoreAt (s : FVec F S20000 .f32) (i : IVec S_ 32) : FVec F S_ .f32 :=
  shapeCast S_ (Host.dynamicSlice S1 s (fun k => ((![wrap i] : Fin 1 → IVec S_ 32) k (Shape.Idx.first h_S_)).toInt) sliceFits_S20000_S1) shapeCasts_S1_S_
def boxAt (b : FVec F S20000x4 .f32) (i : IVec S_ 32) : FVec F S4 .f32 :=
  shapeCast S4 (Host.dynamicSlice S1x4 b (fun k => ((![wrap i, first4] : Fin 2 → IVec S_ 32) k (Shape.Idx.first h_S_)).toInt) sliceFits_S20000x4_S1x4) shapeCasts_S1x4_S4
def validAt (s : FVec F S20000 .f32) (i : IVec S_ 32) : IVec S_ 1 := cmpf .ogt (scoreAt s i) (constant S_ .f32 0xCDEE6B28#32)

def cornerAt (w : FVec F S4 .f32) (k : ℕ) (h : S4.Slices (![k] : Fin 1 → ℕ) S1) : FVec F S_ .f32 := shapeCast S_ (extractStridedSlice S1 ![k] w h) shapeCasts_S1_S_
/-- The area of one box. -/
def area1 (w : FVec F S4 .f32) : FVec F S_ .f32 :=
  mulf (subf (cornerAt w 2 slices_S4_S1_2) (cornerAt w 0 slices_S4_S1_0)) (subf (cornerAt w 3 slices_S4_S1_3) (cornerAt w 1 slices_S4_S1_1))

def corners (b : FVec F S20000x4 .f32) (k : ℕ) (h : S20000x4.Slices (![0, k] : Fin 2 → ℕ) S20000x1) : FVec F S20000 .f32 :=
  shapeCast S20000 (extractStridedSlice S20000x1 ![0, k] b h) shapeCasts_S20000x1_S20000
/-- The area of every box. -/
def areas (b : FVec F S20000x4 .f32) : FVec F S20000 .f32 :=
  mulf (subf (corners b 2 slices_S20000x4_S20000x1_0_2) (corners b 0 slices_S20000x4_S20000x1_0_0))
    (subf (corners b 3 slices_S20000x4_S20000x1_0_3) (corners b 1 slices_S20000x4_S20000x1_0_1))

/-- The sides of the common part of a box and each of all. -/
def sides (b : FVec F S20000x4 .f32) (w : FVec F S4 .f32) : FVec F S20000x2 .f32 :=
  subf (minimumf (broadcastInDim S20000x2 ![0, 1] bcast_S1x2_S20000x2_0_1 (broadcastInDim S1x2 ![1] bcast_S2_S1x2_1 (extractStridedSlice S2 ![2] w slices_S4_S2_2)))
      (extractStridedSlice S20000x2 ![0, 2] b slices_S20000x4_S20000x2_0_2))
    (maximumf (broadcastInDim S20000x2 ![0, 1] bcast_S1x2_S20000x2_0_1 (broadcastInDim S1x2 ![1] bcast_S2_S1x2_1 (extractStridedSlice S2 ![0] w slices_S4_S2_0)))
      (extractStridedSlice S20000x2 ![0, 0] b slices_S20000x4_S20000x2_0_0))
def clipped (c : FVec F S_ .f32) (d : FVec F S20000x2 .f32) : FVec F S20000x2 .f32 := maximumf (broadcastInDim S20000x2 ![] bcast_S_S20000x2 c) d

/-- The common part of a box and each of all. -/
def inter (d : FVec F S20000x2 .f32) : FVec F S20000 .f32 :=
  mulf (shapeCast S20000 (extractStridedSlice S20000x1 ![0, 0] d slices_S20000x2_S20000x1_0_0) shapeCasts_S20000x1_S20000)
    (shapeCast S20000 (extractStridedSlice S20000x1 ![0, 1] d slices_S20000x2_S20000x1_0_1) shapeCasts_S20000x1_S20000)
def overlap (d : FVec F S20000x2 .f32) (a : FVec F S_ .f32) (A : FVec F S20000 .f32) : IVec S20000 1 :=
  cmpf .ogt (Host.divf (inter d) (addf (subf (addf (broadcastInDim S20000 ![] bcast_S_S20000 a) A) (inter d))
    (broadcastInDim S20000 ![] bcast_S_S20000 (constant S_ .f32 0x3089705F#32)))) (broadcastInDim S20000 ![] bcast_S_S20000 (constant S_ .f32 0x3F000000#32))
def isIt (n : IVec S20000 32) (i : IVec S_ 32) : IVec S20000 1 := cmpi .eq n (broadcastInDim S20000 ![] bcast_S_S20000 i)

/-- The scores after a step that chose the box numbered `i`. -/
def newS (b : FVec F S20000x4 .f32) (s : FVec F S20000 .f32) (n : IVec S20000 32) (i : IVec S_ 32) : FVec F S20000 .f32 :=
  select (ori (overlap (clipped (constant S_ .f32 0x00000000#32) (sides b (boxAt b i))) (area1 (boxAt b i)) (areas b)) (isIt n i))
    (broadcastInDim S20000 ![] bcast_S_S20000 (constant S_ .f32 0xCE6E6B28#32)) s

/-- The detection of a step. -/
def detRow (b : FVec F S20000x4 .f32) (raw s : FVec F S20000 .f32) (i : IVec S_ 32) : FVec F S5 .f32 :=
  concatenate S5 0 [⟨S4, select (broadcastInDim S4 ![] bcast_S_S4 (validAt s i)) (boxAt b i) (broadcastInDim S4 ![] bcast_S_S4 (constant S_ .f32 0x00000000#32))⟩,
    ⟨S1, broadcastInDim S1 ![] bcast_S_S1 (select (validAt s i) (scoreAt raw i) (constant S_ .f32 0x00000000#32))⟩] concatenates_S4_S1_S5_d0
def putRow (D : FVec F S100x5 .f32) (d : FVec F S5 .f32) (k : IVec S_ 32) : FVec F S100x5 .f32 :=
  Host.dynamicUpdateSlice D (broadcastInDim S1x5 ![1] bcast_S5_S1x5_1 d)
    (fun a => ((![k, constantI S_ 32 0#32] : Fin 2 → IVec S_ 32) a (Shape.Idx.first h_S_)).toInt) updateFits_S100x5_S1x5

variable (X : Valuation τ sig (Elt F))

theorem trip0_v6 : after trip0 X (Proc.devRef .tc main_while0b_v6) = argm (X (Proc.devRef .tc main_v5_4)) := by
  after_results
  rfl

theorem trip1_v12 : after trip1 X (Proc.devRef .tc main_while0b_v12) = validAt (X (Proc.devRef .tc main_v5_4)) (X (Proc.devRef .tc main_while0b_v6)) := by
  after_reads_simp
  unfold validAt scoreAt
  refine congrArg (fun z => cmpf .ogt z _) ?_
  refine congrArg (fun f => shapeCast S_ (Host.dynamicSlice S1 (X (Proc.devRef .tc main_v5_4)) f sliceFits_S20000_S1) shapeCasts_S1_S_) (funext fun k => ?_)
  match k with
  | 0 =>
    refine congrArg (fun z : IVec S_ 32 => (z (Shape.Idx.first h_S_)).toInt) (a₁ := upto trip1 X 5 (Proc.devRef .tc main_while0b_v9)) ?_
    after_reads_simp
    rfl

theorem trip1_v20 : after trip1 X (Proc.devRef .tc main_while0b_v20) = boxAt (X (Proc.devRef .tc main_v5_0)) (X (Proc.devRef .tc main_while0b_v6)) := by
  after_reads_simp
  unfold boxAt
  refine congrArg (fun f => shapeCast S4 (Host.dynamicSlice S1x4 (X (Proc.devRef .tc main_v5_0)) f sliceFits_S20000x4_S1x4) shapeCasts_S1x4_S4) (funext fun k => ?_)
  match k with
  | 0 =>
    refine congrArg (fun z : IVec S_ 32 => (z (Shape.Idx.first h_S_)).toInt) (a₁ := upto trip1 X 22 (Proc.devRef .tc main_while0b_v15)) ?_
    after_reads_simp
    rfl
  | 1 =>
    refine congrArg (fun z : IVec S_ 32 => (z (Shape.Idx.first h_S_)).toInt) (a₁ := upto trip1 X 22 (Proc.devRef .tc main_while0b_v18)) ?_
    after_reads_simp
    rfl

theorem trip1_v25 : after trip1 X (Proc.devRef .tc main_while0b_v25) = scoreAt (X (Proc.devRef .tc main_v5_1)) (X (Proc.devRef .tc main_while0b_v6)) := by
  after_reads_simp
  unfold scoreAt
  refine congrArg (fun f => shapeCast S_ (Host.dynamicSlice S1 (X (Proc.devRef .tc main_v5_1)) f sliceFits_S20000_S1) shapeCasts_S1_S_) (funext fun k => ?_)
  match k with
  | 0 =>
    refine congrArg (fun z : IVec S_ 32 => (z (Shape.Idx.first h_S_)).toInt) (a₁ := upto trip1 X 29 (Proc.devRef .tc main_while0b_v23)) ?_
    after_reads_simp
    rfl

theorem trip1_cst_19 : after trip1 X (Proc.devRef .tc main_while0b_cst_19) = constant S_ .f32 0x00000000#32 := by
  after_reads_simp

theorem trip2_v26 : after trip2 X (Proc.devRef .tc main_while0b_v26) = select (X (Proc.devRef .tc main_while0b_v12)) (X (Proc.devRef .tc main_while0b_v25)) (X (Proc.devRef .tc main_while0b_cst_19)) := by
  after_reads_simp
  rfl

theorem trip3_v37 : after trip3 X (Proc.devRef .tc main_while0b_v37) = area1 (X (Proc.devRef .tc main_while0b_v20)) := by
  after_reads_simp
  rfl

theorem trip4_v48 : after trip4 X (Proc.devRef .tc main_while0b_v48) = areas (X (Proc.devRef .tc main_v5_0)) := by
  after_reads_simp
  rfl

theorem trip5_v59 : after trip5 X (Proc.devRef .tc main_while0b_v59) = sides (X (Proc.devRef .tc main_v5_0)) (X (Proc.devRef .tc main_while0b_v20)) := by
  after_reads_simp
  rfl

theorem trip5_cst_20 : after trip5 X (Proc.devRef .tc main_while0b_cst_20) = constant S_ .f32 0x00000000#32 := by
  after_reads_simp

theorem trip6_v60 : after trip6 X (Proc.devRef .tc main_while0b_v60) = clipped (X (Proc.devRef .tc main_while0b_cst_20)) (X (Proc.devRef .tc main_while0b_v59)) := by
  after_reads_simp
  rfl

theorem trip7_v76 : after trip7 X (Proc.devRef .tc main_while0b_v76) = ori (overlap (X (Proc.devRef .tc main_while0b_v60)) (X (Proc.devRef .tc main_while0b_v37)) (X (Proc.devRef .tc main_while0b_v48))) (isIt (X (Proc.devRef .tc main_v5_2)) (X (Proc.devRef .tc main_while0b_v6))) := by
  after_reads_simp
  rfl

theorem trip7_cst_23 : after trip7 X (Proc.devRef .tc main_while0b_cst_23) = constant S_ .f32 0xCE6E6B28#32 := by
  after_reads_simp

theorem trip8_v77 : after trip8 X (Proc.devRef .tc main_while0b_v77) = select (X (Proc.devRef .tc main_while0b_v76)) (broadcastInDim S20000 ![] bcast_S_S20000 (X (Proc.devRef .tc main_while0b_cst_23))) (X (Proc.devRef .tc main_v5_4)) := by
  after_reads_simp
  rfl

theorem trip9_v78 : after trip9 X (Proc.devRef .tc main_while0b_v78) = broadcastInDim S4 ![] bcast_S_S4 (constant S_ .f32 0x00000000#32) := by
  after_reads_simp

theorem trip10_v79 : after trip10 X (Proc.devRef .tc main_while0b_v79) = select (broadcastInDim S4 ![] bcast_S_S4 (X (Proc.devRef .tc main_while0b_v12))) (X (Proc.devRef .tc main_while0b_v20)) (X (Proc.devRef .tc main_while0b_v78)) := by
  after_reads_simp
  rfl

theorem trip11_v81 : after trip11 X (Proc.devRef .tc main_while0b_v81) = concatenate S5 0 [⟨S4, X (Proc.devRef .tc main_while0b_v79)⟩, ⟨S1, broadcastInDim S1 ![] bcast_S_S1 (X (Proc.devRef .tc main_while0b_v26))⟩] concatenates_S4_S1_S5_d0 := by
  after_reads_simp
  rfl

theorem trip12_v82 : after trip12 X (Proc.devRef .tc main_while0b_v82) = putRow (X (Proc.devRef .tc main_v5_5)) (X (Proc.devRef .tc main_while0b_v81)) (X (Proc.devRef .tc main_v5_3)) := by
  after_reads_simp
  unfold putRow
  refine congrArg (fun f => Host.dynamicUpdateSlice (X (Proc.devRef .tc main_v5_5)) (broadcastInDim S1x5 ![1] bcast_S5_S1x5_1 (X (Proc.devRef .tc main_while0b_v81)))
    f updateFits_S100x5_S1x5) (funext fun k => ?_)
  match k with
  | 0 =>
    refine congrArg (fun z : IVec S_ 32 => (z (Shape.Idx.first h_S_)).toInt) (a₁ := upto trip12 X 2 (Proc.devRef .tc main_v5_3)) ?_
    after_reads_simp
    rfl
  | 1 =>
    refine congrArg (fun z : IVec S_ 32 => (z (Shape.Idx.first h_S_)).toInt) (a₁ := upto trip12 X 2 (Proc.devRef .tc main_while0b_call6_c)) ?_
    after_reads_simp
    rfl

theorem trip13_v5_4 : after trip13 X (Proc.devRef .tc main_v5_4) = X (Proc.devRef .tc main_while0b_v77) := by
  after_reads_simp
  rfl

theorem trip13_v5_5 : after trip13 X (Proc.devRef .tc main_v5_5) = X (Proc.devRef .tc main_while0b_v82) := by
  after_reads_simp
  rfl

/-- The state of the loop, at the buffers that carry it. -/
structure At (X : Valuation τ sig (Elt F)) (b : FVec F S20000x4 .f32) (raw s : FVec F S20000 .f32) (n : IVec S20000 32) (k : IVec S_ 32) (D : FVec F S100x5 .f32) : Prop where
  boxes : X (Proc.devRef .tc main_v5_0) = b
  raw : X (Proc.devRef .tc main_v5_1) = raw
  numbers : X (Proc.devRef .tc main_v5_2) = n
  count : X (Proc.devRef .tc main_v5_3) = k
  scores : X (Proc.devRef .tc main_v5_4) = s
  rows : X (Proc.devRef .tc main_v5_5) = D

theorem At.trip {b : FVec F S20000x4 .f32} {raw s : FVec F S20000 .f32} {n : IVec S20000 32} {k : IVec S_ 32} {D : FVec F S100x5 .f32} {X : Valuation τ sig (Elt F)} (h : At X b raw s n k D) :
    At (afterL tripL (after condOps X)) b raw (newS b s n (argm s)) n (addi k (constantI S_ 32 1#32)) (putRow D (detRow b raw s (argm s)) k) := by
  have g : ∀ r, r ∉ condOps_W → after condOps X (Proc.devRef .tc r) = X (Proc.devRef .tc r) := fun r hr => after_of_writes_sub condOps _ condOps_writes hr
  have a_v5_0 := (g main_v5_0 (by decide +kernel)).trans h.boxes
  have a_v5_1 := (g main_v5_1 (by decide +kernel)).trans h.raw
  have a_v5_2 := (g main_v5_2 (by decide +kernel)).trans h.numbers
  have a_v5_3 := (g main_v5_3 (by decide +kernel)).trans h.count
  have a_v5_4 := (g main_v5_4 (by decide +kernel)).trans h.scores
  have a_v5_5 := (g main_v5_5 (by decide +kernel)).trans h.rows
  generalize after condOps X = Y0 at *
  simp only [afterL_cons, afterL_nil]
  have b0_while0b_v6 : after trip0 Y0 (Proc.devRef .tc main_while0b_v6) = argm s := by
    rw [trip0_v6, a_v5_4]
  have b0_v5_0 := (after_of_writes_sub trip0 Y0 trip0_writes (by decide +kernel : main_v5_0 ∉ trip0_W)).trans a_v5_0
  have b0_v5_1 := (after_of_writes_sub trip0 Y0 trip0_writes (by decide +kernel : main_v5_1 ∉ trip0_W)).trans a_v5_1
  have b0_v5_2 := (after_of_writes_sub trip0 Y0 trip0_writes (by decide +kernel : main_v5_2 ∉ trip0_W)).trans a_v5_2
  have b0_v5_3 := (after_of_writes_sub trip0 Y0 trip0_writes (by decide +kernel : main_v5_3 ∉ trip0_W)).trans a_v5_3
  have b0_v5_4 := (after_of_writes_sub trip0 Y0 trip0_writes (by decide +kernel : main_v5_4 ∉ trip0_W)).trans a_v5_4
  have b0_v5_5 := (after_of_writes_sub trip0 Y0 trip0_writes (by decide +kernel : main_v5_5 ∉ trip0_W)).trans a_v5_5
  clear a_v5_0 a_v5_1 a_v5_2 a_v5_3 a_v5_4 a_v5_5
  generalize after trip0 Y0 = Y1 at *
  have b1_while0b_v12 : after trip1 Y1 (Proc.devRef .tc main_while0b_v12) = validAt s (argm s) := by
    rw [trip1_v12, b0_v5_4, b0_while0b_v6]
  have b1_while0b_v20 : after trip1 Y1 (Proc.devRef .tc main_while0b_v20) = boxAt b (argm s) := by
    rw [trip1_v20, b0_v5_0, b0_while0b_v6]
  have b1_while0b_v25 : after trip1 Y1 (Proc.devRef .tc main_while0b_v25) = scoreAt raw (argm s) := by
    rw [trip1_v25, b0_v5_1, b0_while0b_v6]
  have b1_while0b_cst_19 : after trip1 Y1 (Proc.devRef .tc main_while0b_cst_19) = constant S_ .f32 0x00000000#32 := by
    rw [trip1_cst_19]
  have b1_while0b_v6 := (after_of_writes_sub trip1 Y1 trip1_writes (by decide +kernel : main_while0b_v6 ∉ trip1_W)).trans b0_while0b_v6
  have b1_v5_0 := (after_of_writes_sub trip1 Y1 trip1_writes (by decide +kernel : main_v5_0 ∉ trip1_W)).trans b0_v5_0
  have b1_v5_1 := (after_of_writes_sub trip1 Y1 trip1_writes (by decide +kernel : main_v5_1 ∉ trip1_W)).trans b0_v5_1
  have b1_v5_2 := (after_of_writes_sub trip1 Y1 trip1_writes (by decide +kernel : main_v5_2 ∉ trip1_W)).trans b0_v5_2
  have b1_v5_3 := (after_of_writes_sub trip1 Y1 trip1_writes (by decide +kernel : main_v5_3 ∉ trip1_W)).trans b0_v5_3
  have b1_v5_4 := (after_of_writes_sub trip1 Y1 trip1_writes (by decide +kernel : main_v5_4 ∉ trip1_W)).trans b0_v5_4
  have b1_v5_5 := (after_of_writes_sub trip1 Y1 trip1_writes (by decide +kernel : main_v5_5 ∉ trip1_W)).trans b0_v5_5
  clear b0_while0b_v6 b0_v5_0 b0_v5_1 b0_v5_2 b0_v5_3 b0_v5_4 b0_v5_5
  generalize after trip1 Y1 = Y2 at *
  have b2_while0b_v26 : after trip2 Y2 (Proc.devRef .tc main_while0b_v26) = select (validAt s (argm s)) (scoreAt raw (argm s)) (constant S_ .f32 0x00000000#32) := by
    rw [trip2_v26, b1_while0b_v12, b1_while0b_v25, b1_while0b_cst_19]
  have b2_while0b_v12 := (after_of_writes_sub trip2 Y2 trip2_writes (by decide +kernel : main_while0b_v12 ∉ trip2_W)).trans b1_while0b_v12
  have b2_while0b_v20 := (after_of_writes_sub trip2 Y2 trip2_writes (by decide +kernel : main_while0b_v20 ∉ trip2_W)).trans b1_while0b_v20
  have b2_while0b_v6 := (after_of_writes_sub trip2 Y2 trip2_writes (by decide +kernel : main_while0b_v6 ∉ trip2_W)).trans b1_while0b_v6
  have b2_v5_0 := (after_of_writes_sub trip2 Y2 trip2_writes (by decide +kernel : main_v5_0 ∉ trip2_W)).trans b1_v5_0
  have b2_v5_1 := (after_of_writes_sub trip2 Y2 trip2_writes (by decide +kernel : main_v5_1 ∉ trip2_W)).trans b1_v5_1
  have b2_v5_2 := (after_of_writes_sub trip2 Y2 trip2_writes (by decide +kernel : main_v5_2 ∉ trip2_W)).trans b1_v5_2
  have b2_v5_3 := (after_of_writes_sub trip2 Y2 trip2_writes (by decide +kernel : main_v5_3 ∉ trip2_W)).trans b1_v5_3
  have b2_v5_4 := (after_of_writes_sub trip2 Y2 trip2_writes (by decide +kernel : main_v5_4 ∉ trip2_W)).trans b1_v5_4
  have b2_v5_5 := (after_of_writes_sub trip2 Y2 trip2_writes (by decide +kernel : main_v5_5 ∉ trip2_W)).trans b1_v5_5
  clear b1_while0b_v12 b1_while0b_v20 b1_while0b_v25 b1_while0b_cst_19 b1_while0b_v6 b1_v5_0 b1_v5_1 b1_v5_2 b1_v5_3 b1_v5_4 b1_v5_5
  generalize after trip2 Y2 = Y3 at *
  have b3_while0b_v37 : after trip3 Y3 (Proc.devRef .tc main_while0b_v37) = area1 (boxAt b (argm s)) := by
    rw [trip3_v37, b2_while0b_v20]
  have b3_while0b_v26 := (after_of_writes_sub trip3 Y3 trip3_writes (by decide +kernel : main_while0b_v26 ∉ trip3_W)).trans b2_while0b_v26
  have b3_while0b_v12 := (after_of_writes_sub trip3 Y3 trip3_writes (by decide +kernel : main_while0b_v12 ∉ trip3_W)).trans b2_while0b_v12
  have b3_while0b_v20 := (after_of_writes_sub trip3 Y3 trip3_writes (by decide +kernel : main_while0b_v20 ∉ trip3_W)).trans b2_while0b_v20
  have b3_while0b_v6 := (after_of_writes_sub trip3 Y3 trip3_writes (by decide +kernel : main_while0b_v6 ∉ trip3_W)).trans b2_while0b_v6
  have b3_v5_0 := (after_of_writes_sub trip3 Y3 trip3_writes (by decide +kernel : main_v5_0 ∉ trip3_W)).trans b2_v5_0
  have b3_v5_1 := (after_of_writes_sub trip3 Y3 trip3_writes (by decide +kernel : main_v5_1 ∉ trip3_W)).trans b2_v5_1
  have b3_v5_2 := (after_of_writes_sub trip3 Y3 trip3_writes (by decide +kernel : main_v5_2 ∉ trip3_W)).trans b2_v5_2
  have b3_v5_3 := (after_of_writes_sub trip3 Y3 trip3_writes (by decide +kernel : main_v5_3 ∉ trip3_W)).trans b2_v5_3
  have b3_v5_4 := (after_of_writes_sub trip3 Y3 trip3_writes (by decide +kernel : main_v5_4 ∉ trip3_W)).trans b2_v5_4
  have b3_v5_5 := (after_of_writes_sub trip3 Y3 trip3_writes (by decide +kernel : main_v5_5 ∉ trip3_W)).trans b2_v5_5
  clear b2_while0b_v26 b2_while0b_v12 b2_while0b_v20 b2_while0b_v6 b2_v5_0 b2_v5_1 b2_v5_2 b2_v5_3 b2_v5_4 b2_v5_5
  generalize after trip3 Y3 = Y4 at *
  have b4_while0b_v48 : after trip4 Y4 (Proc.devRef .tc main_while0b_v48) = areas b := by
    rw [trip4_v48, b3_v5_0]
  have b4_while0b_v37 := (after_of_writes_sub trip4 Y4 trip4_writes (by decide +kernel : main_while0b_v37 ∉ trip4_W)).trans b3_while0b_v37
  have b4_while0b_v26 := (after_of_writes_sub trip4 Y4 trip4_writes (by decide +kernel : main_while0b_v26 ∉ trip4_W)).trans b3_while0b_v26
  have b4_while0b_v12 := (after_of_writes_sub trip4 Y4 trip4_writes (by decide +kernel : main_while0b_v12 ∉ trip4_W)).trans b3_while0b_v12
  have b4_while0b_v20 := (after_of_writes_sub trip4 Y4 trip4_writes (by decide +kernel : main_while0b_v20 ∉ trip4_W)).trans b3_while0b_v20
  have b4_while0b_v6 := (after_of_writes_sub trip4 Y4 trip4_writes (by decide +kernel : main_while0b_v6 ∉ trip4_W)).trans b3_while0b_v6
  have b4_v5_0 := (after_of_writes_sub trip4 Y4 trip4_writes (by decide +kernel : main_v5_0 ∉ trip4_W)).trans b3_v5_0
  have b4_v5_1 := (after_of_writes_sub trip4 Y4 trip4_writes (by decide +kernel : main_v5_1 ∉ trip4_W)).trans b3_v5_1
  have b4_v5_2 := (after_of_writes_sub trip4 Y4 trip4_writes (by decide +kernel : main_v5_2 ∉ trip4_W)).trans b3_v5_2
  have b4_v5_3 := (after_of_writes_sub trip4 Y4 trip4_writes (by decide +kernel : main_v5_3 ∉ trip4_W)).trans b3_v5_3
  have b4_v5_4 := (after_of_writes_sub trip4 Y4 trip4_writes (by decide +kernel : main_v5_4 ∉ trip4_W)).trans b3_v5_4
  have b4_v5_5 := (after_of_writes_sub trip4 Y4 trip4_writes (by decide +kernel : main_v5_5 ∉ trip4_W)).trans b3_v5_5
  clear b3_while0b_v37 b3_while0b_v26 b3_while0b_v12 b3_while0b_v20 b3_while0b_v6 b3_v5_0 b3_v5_1 b3_v5_2 b3_v5_3 b3_v5_4 b3_v5_5
  generalize after trip4 Y4 = Y5 at *
  have b5_while0b_v59 : after trip5 Y5 (Proc.devRef .tc main_while0b_v59) = sides b (boxAt b (argm s)) := by
    rw [trip5_v59, b4_v5_0, b4_while0b_v20]
  have b5_while0b_cst_20 : after trip5 Y5 (Proc.devRef .tc main_while0b_cst_20) = constant S_ .f32 0x00000000#32 := by
    rw [trip5_cst_20]
  have b5_while0b_v48 := (after_of_writes_sub trip5 Y5 trip5_writes (by decide +kernel : main_while0b_v48 ∉ trip5_W)).trans b4_while0b_v48
  have b5_while0b_v37 := (after_of_writes_sub trip5 Y5 trip5_writes (by decide +kernel : main_while0b_v37 ∉ trip5_W)).trans b4_while0b_v37
  have b5_while0b_v26 := (after_of_writes_sub trip5 Y5 trip5_writes (by decide +kernel : main_while0b_v26 ∉ trip5_W)).trans b4_while0b_v26
  have b5_while0b_v12 := (after_of_writes_sub trip5 Y5 trip5_writes (by decide +kernel : main_while0b_v12 ∉ trip5_W)).trans b4_while0b_v12
  have b5_while0b_v20 := (after_of_writes_sub trip5 Y5 trip5_writes (by decide +kernel : main_while0b_v20 ∉ trip5_W)).trans b4_while0b_v20
  have b5_while0b_v6 := (after_of_writes_sub trip5 Y5 trip5_writes (by decide +kernel : main_while0b_v6 ∉ trip5_W)).trans b4_while0b_v6
  have b5_v5_0 := (after_of_writes_sub trip5 Y5 trip5_writes (by decide +kernel : main_v5_0 ∉ trip5_W)).trans b4_v5_0
  have b5_v5_1 := (after_of_writes_sub trip5 Y5 trip5_writes (by decide +kernel : main_v5_1 ∉ trip5_W)).trans b4_v5_1
  have b5_v5_2 := (after_of_writes_sub trip5 Y5 trip5_writes (by decide +kernel : main_v5_2 ∉ trip5_W)).trans b4_v5_2
  have b5_v5_3 := (after_of_writes_sub trip5 Y5 trip5_writes (by decide +kernel : main_v5_3 ∉ trip5_W)).trans b4_v5_3
  have b5_v5_4 := (after_of_writes_sub trip5 Y5 trip5_writes (by decide +kernel : main_v5_4 ∉ trip5_W)).trans b4_v5_4
  have b5_v5_5 := (after_of_writes_sub trip5 Y5 trip5_writes (by decide +kernel : main_v5_5 ∉ trip5_W)).trans b4_v5_5
  clear b4_while0b_v48 b4_while0b_v37 b4_while0b_v26 b4_while0b_v12 b4_while0b_v20 b4_while0b_v6 b4_v5_0 b4_v5_1 b4_v5_2 b4_v5_3 b4_v5_4 b4_v5_5
  generalize after trip5 Y5 = Y6 at *
  have b6_while0b_v60 : after trip6 Y6 (Proc.devRef .tc main_while0b_v60) = clipped (constant S_ .f32 0x00000000#32) (sides b (boxAt b (argm s))) := by
    rw [trip6_v60, b5_while0b_cst_20, b5_while0b_v59]
  have b6_while0b_v48 := (after_of_writes_sub trip6 Y6 trip6_writes (by decide +kernel : main_while0b_v48 ∉ trip6_W)).trans b5_while0b_v48
  have b6_while0b_v37 := (after_of_writes_sub trip6 Y6 trip6_writes (by decide +kernel : main_while0b_v37 ∉ trip6_W)).trans b5_while0b_v37
  have b6_while0b_v26 := (after_of_writes_sub trip6 Y6 trip6_writes (by decide +kernel : main_while0b_v26 ∉ trip6_W)).trans b5_while0b_v26
  have b6_while0b_v12 := (after_of_writes_sub trip6 Y6 trip6_writes (by decide +kernel : main_while0b_v12 ∉ trip6_W)).trans b5_while0b_v12
  have b6_while0b_v20 := (after_of_writes_sub trip6 Y6 trip6_writes (by decide +kernel : main_while0b_v20 ∉ trip6_W)).trans b5_while0b_v20
  have b6_while0b_v6 := (after_of_writes_sub trip6 Y6 trip6_writes (by decide +kernel : main_while0b_v6 ∉ trip6_W)).trans b5_while0b_v6
  have b6_v5_0 := (after_of_writes_sub trip6 Y6 trip6_writes (by decide +kernel : main_v5_0 ∉ trip6_W)).trans b5_v5_0
  have b6_v5_1 := (after_of_writes_sub trip6 Y6 trip6_writes (by decide +kernel : main_v5_1 ∉ trip6_W)).trans b5_v5_1
  have b6_v5_2 := (after_of_writes_sub trip6 Y6 trip6_writes (by decide +kernel : main_v5_2 ∉ trip6_W)).trans b5_v5_2
  have b6_v5_3 := (after_of_writes_sub trip6 Y6 trip6_writes (by decide +kernel : main_v5_3 ∉ trip6_W)).trans b5_v5_3
  have b6_v5_4 := (after_of_writes_sub trip6 Y6 trip6_writes (by decide +kernel : main_v5_4 ∉ trip6_W)).trans b5_v5_4
  have b6_v5_5 := (after_of_writes_sub trip6 Y6 trip6_writes (by decide +kernel : main_v5_5 ∉ trip6_W)).trans b5_v5_5
  clear b5_while0b_v59 b5_while0b_cst_20 b5_while0b_v48 b5_while0b_v37 b5_while0b_v26 b5_while0b_v12 b5_while0b_v20 b5_while0b_v6 b5_v5_0 b5_v5_1 b5_v5_2 b5_v5_3 b5_v5_4 b5_v5_5
  generalize after trip6 Y6 = Y7 at *
  have b7_while0b_v76 : after trip7 Y7 (Proc.devRef .tc main_while0b_v76) = ori (overlap (clipped (constant S_ .f32 0x00000000#32) (sides b (boxAt b (argm s)))) (area1 (boxAt b (argm s))) (areas b)) (isIt n (argm s)) := by
    rw [trip7_v76, b6_while0b_v60, b6_while0b_v37, b6_while0b_v48, b6_v5_2, b6_while0b_v6]
  have b7_while0b_cst_23 : after trip7 Y7 (Proc.devRef .tc main_while0b_cst_23) = constant S_ .f32 0xCE6E6B28#32 := by
    rw [trip7_cst_23]
  have b7_while0b_v26 := (after_of_writes_sub trip7 Y7 trip7_writes (by decide +kernel : main_while0b_v26 ∉ trip7_W)).trans b6_while0b_v26
  have b7_while0b_v12 := (after_of_writes_sub trip7 Y7 trip7_writes (by decide +kernel : main_while0b_v12 ∉ trip7_W)).trans b6_while0b_v12
  have b7_while0b_v20 := (after_of_writes_sub trip7 Y7 trip7_writes (by decide +kernel : main_while0b_v20 ∉ trip7_W)).trans b6_while0b_v20
  have b7_v5_0 := (after_of_writes_sub trip7 Y7 trip7_writes (by decide +kernel : main_v5_0 ∉ trip7_W)).trans b6_v5_0
  have b7_v5_1 := (after_of_writes_sub trip7 Y7 trip7_writes (by decide +kernel : main_v5_1 ∉ trip7_W)).trans b6_v5_1
  have b7_v5_2 := (after_of_writes_sub trip7 Y7 trip7_writes (by decide +kernel : main_v5_2 ∉ trip7_W)).trans b6_v5_2
  have b7_v5_3 := (after_of_writes_sub trip7 Y7 trip7_writes (by decide +kernel : main_v5_3 ∉ trip7_W)).trans b6_v5_3
  have b7_v5_4 := (after_of_writes_sub trip7 Y7 trip7_writes (by decide +kernel : main_v5_4 ∉ trip7_W)).trans b6_v5_4
  have b7_v5_5 := (after_of_writes_sub trip7 Y7 trip7_writes (by decide +kernel : main_v5_5 ∉ trip7_W)).trans b6_v5_5
  clear b6_while0b_v60 b6_while0b_v48 b6_while0b_v37 b6_while0b_v26 b6_while0b_v12 b6_while0b_v20 b6_while0b_v6 b6_v5_0 b6_v5_1 b6_v5_2 b6_v5_3 b6_v5_4 b6_v5_5
  generalize after trip7 Y7 = Y8 at *
  have b8_while0b_v77 : after trip8 Y8 (Proc.devRef .tc main_while0b_v77) = newS b s n (argm s) := by
    rw [trip8_v77, b7_while0b_v76, b7_while0b_cst_23, b7_v5_4]; rfl
  have b8_while0b_v26 := (after_of_writes_sub trip8 Y8 trip8_writes (by decide +kernel : main_while0b_v26 ∉ trip8_W)).trans b7_while0b_v26
  have b8_while0b_v12 := (after_of_writes_sub trip8 Y8 trip8_writes (by decide +kernel : main_while0b_v12 ∉ trip8_W)).trans b7_while0b_v12
  have b8_while0b_v20 := (after_of_writes_sub trip8 Y8 trip8_writes (by decide +kernel : main_while0b_v20 ∉ trip8_W)).trans b7_while0b_v20
  have b8_v5_0 := (after_of_writes_sub trip8 Y8 trip8_writes (by decide +kernel : main_v5_0 ∉ trip8_W)).trans b7_v5_0
  have b8_v5_1 := (after_of_writes_sub trip8 Y8 trip8_writes (by decide +kernel : main_v5_1 ∉ trip8_W)).trans b7_v5_1
  have b8_v5_2 := (after_of_writes_sub trip8 Y8 trip8_writes (by decide +kernel : main_v5_2 ∉ trip8_W)).trans b7_v5_2
  have b8_v5_3 := (after_of_writes_sub trip8 Y8 trip8_writes (by decide +kernel : main_v5_3 ∉ trip8_W)).trans b7_v5_3
  have b8_v5_5 := (after_of_writes_sub trip8 Y8 trip8_writes (by decide +kernel : main_v5_5 ∉ trip8_W)).trans b7_v5_5
  clear b7_while0b_v76 b7_while0b_cst_23 b7_while0b_v26 b7_while0b_v12 b7_while0b_v20 b7_v5_0 b7_v5_1 b7_v5_2 b7_v5_3 b7_v5_4 b7_v5_5
  generalize after trip8 Y8 = Y9 at *
  have b9_while0b_v78 : after trip9 Y9 (Proc.devRef .tc main_while0b_v78) = broadcastInDim S4 ![] bcast_S_S4 (constant S_ .f32 0x00000000#32) := by
    rw [trip9_v78]
  have b9_while0b_v77 := (after_of_writes_sub trip9 Y9 trip9_writes (by decide +kernel : main_while0b_v77 ∉ trip9_W)).trans b8_while0b_v77
  have b9_while0b_v26 := (after_of_writes_sub trip9 Y9 trip9_writes (by decide +kernel : main_while0b_v26 ∉ trip9_W)).trans b8_while0b_v26
  have b9_while0b_v12 := (after_of_writes_sub trip9 Y9 trip9_writes (by decide +kernel : main_while0b_v12 ∉ trip9_W)).trans b8_while0b_v12
  have b9_while0b_v20 := (after_of_writes_sub trip9 Y9 trip9_writes (by decide +kernel : main_while0b_v20 ∉ trip9_W)).trans b8_while0b_v20
  have b9_v5_0 := (after_of_writes_sub trip9 Y9 trip9_writes (by decide +kernel : main_v5_0 ∉ trip9_W)).trans b8_v5_0
  have b9_v5_1 := (after_of_writes_sub trip9 Y9 trip9_writes (by decide +kernel : main_v5_1 ∉ trip9_W)).trans b8_v5_1
  have b9_v5_2 := (after_of_writes_sub trip9 Y9 trip9_writes (by decide +kernel : main_v5_2 ∉ trip9_W)).trans b8_v5_2
  have b9_v5_3 := (after_of_writes_sub trip9 Y9 trip9_writes (by decide +kernel : main_v5_3 ∉ trip9_W)).trans b8_v5_3
  have b9_v5_5 := (after_of_writes_sub trip9 Y9 trip9_writes (by decide +kernel : main_v5_5 ∉ trip9_W)).trans b8_v5_5
  clear b8_while0b_v77 b8_while0b_v26 b8_while0b_v12 b8_while0b_v20 b8_v5_0 b8_v5_1 b8_v5_2 b8_v5_3 b8_v5_5
  generalize after trip9 Y9 = Y10 at *
  have b10_while0b_v79 : after trip10 Y10 (Proc.devRef .tc main_while0b_v79) = select (broadcastInDim S4 ![] bcast_S_S4 (validAt s (argm s))) (boxAt b (argm s)) (broadcastInDim S4 ![] bcast_S_S4 (constant S_ .f32 0x00000000#32)) := by
    rw [trip10_v79, b9_while0b_v12, b9_while0b_v20, b9_while0b_v78]
  have b10_while0b_v77 := (after_of_writes_sub trip10 Y10 trip10_writes (by decide +kernel : main_while0b_v77 ∉ trip10_W)).trans b9_while0b_v77
  have b10_while0b_v26 := (after_of_writes_sub trip10 Y10 trip10_writes (by decide +kernel : main_while0b_v26 ∉ trip10_W)).trans b9_while0b_v26
  have b10_v5_0 := (after_of_writes_sub trip10 Y10 trip10_writes (by decide +kernel : main_v5_0 ∉ trip10_W)).trans b9_v5_0
  have b10_v5_1 := (after_of_writes_sub trip10 Y10 trip10_writes (by decide +kernel : main_v5_1 ∉ trip10_W)).trans b9_v5_1
  have b10_v5_2 := (after_of_writes_sub trip10 Y10 trip10_writes (by decide +kernel : main_v5_2 ∉ trip10_W)).trans b9_v5_2
  have b10_v5_3 := (after_of_writes_sub trip10 Y10 trip10_writes (by decide +kernel : main_v5_3 ∉ trip10_W)).trans b9_v5_3
  have b10_v5_5 := (after_of_writes_sub trip10 Y10 trip10_writes (by decide +kernel : main_v5_5 ∉ trip10_W)).trans b9_v5_5
  clear b9_while0b_v78 b9_while0b_v77 b9_while0b_v26 b9_while0b_v12 b9_while0b_v20 b9_v5_0 b9_v5_1 b9_v5_2 b9_v5_3 b9_v5_5
  generalize after trip10 Y10 = Y11 at *
  have b11_while0b_v81 : after trip11 Y11 (Proc.devRef .tc main_while0b_v81) = detRow b raw s (argm s) := by
    rw [trip11_v81, b10_while0b_v79, b10_while0b_v26]; rfl
  have b11_while0b_v77 := (after_of_writes_sub trip11 Y11 trip11_writes (by decide +kernel : main_while0b_v77 ∉ trip11_W)).trans b10_while0b_v77
  have b11_v5_0 := (after_of_writes_sub trip11 Y11 trip11_writes (by decide +kernel : main_v5_0 ∉ trip11_W)).trans b10_v5_0
  have b11_v5_1 := (after_of_writes_sub trip11 Y11 trip11_writes (by decide +kernel : main_v5_1 ∉ trip11_W)).trans b10_v5_1
  have b11_v5_2 := (after_of_writes_sub trip11 Y11 trip11_writes (by decide +kernel : main_v5_2 ∉ trip11_W)).trans b10_v5_2
  have b11_v5_3 := (after_of_writes_sub trip11 Y11 trip11_writes (by decide +kernel : main_v5_3 ∉ trip11_W)).trans b10_v5_3
  have b11_v5_5 := (after_of_writes_sub trip11 Y11 trip11_writes (by decide +kernel : main_v5_5 ∉ trip11_W)).trans b10_v5_5
  clear b10_while0b_v79 b10_while0b_v77 b10_while0b_v26 b10_v5_0 b10_v5_1 b10_v5_2 b10_v5_3 b10_v5_5
  generalize after trip11 Y11 = Y12 at *
  have b12_while0b_v82 : after trip12 Y12 (Proc.devRef .tc main_while0b_v82) = putRow D (detRow b raw s (argm s)) k := by
    rw [trip12_v82, b11_v5_5, b11_while0b_v81, b11_v5_3]
  have b12_while0b_v77 := (after_of_writes_sub trip12 Y12 trip12_writes (by decide +kernel : main_while0b_v77 ∉ trip12_W)).trans b11_while0b_v77
  have b12_v5_0 := (after_of_writes_sub trip12 Y12 trip12_writes (by decide +kernel : main_v5_0 ∉ trip12_W)).trans b11_v5_0
  have b12_v5_1 := (after_of_writes_sub trip12 Y12 trip12_writes (by decide +kernel : main_v5_1 ∉ trip12_W)).trans b11_v5_1
  have b12_v5_2 := (after_of_writes_sub trip12 Y12 trip12_writes (by decide +kernel : main_v5_2 ∉ trip12_W)).trans b11_v5_2
  have b12_v5_3 := (after_of_writes_sub trip12 Y12 trip12_writes (by decide +kernel : main_v5_3 ∉ trip12_W)).trans b11_v5_3
  clear b11_while0b_v81 b11_while0b_v77 b11_v5_0 b11_v5_1 b11_v5_2 b11_v5_3 b11_v5_5
  generalize after trip12 Y12 = Y13 at *
  have b13_v5_4 : after trip13 Y13 (Proc.devRef .tc main_v5_4) = newS b s n (argm s) := by
    rw [trip13_v5_4, b12_while0b_v77]
  have b13_v5_5 : after trip13 Y13 (Proc.devRef .tc main_v5_5) = putRow D (detRow b raw s (argm s)) k := by
    rw [trip13_v5_5, b12_while0b_v82]
  have b13_v5_3 : after trip13 Y13 (Proc.devRef .tc main_v5_3) = addi k (constantI S_ 32 1#32) := by
    rw [ctr_step, b12_v5_3]
  have b13_v5_0 := (after_of_writes_sub trip13 Y13 trip13_writes (by decide +kernel : main_v5_0 ∉ trip13_W)).trans b12_v5_0
  have b13_v5_1 := (after_of_writes_sub trip13 Y13 trip13_writes (by decide +kernel : main_v5_1 ∉ trip13_W)).trans b12_v5_1
  have b13_v5_2 := (after_of_writes_sub trip13 Y13 trip13_writes (by decide +kernel : main_v5_2 ∉ trip13_W)).trans b12_v5_2
  exact ⟨b13_v5_0, b13_v5_1, b13_v5_2, b13_v5_3, b13_v5_4, b13_v5_5⟩

/-- The scores the loop starts from. -/
def startS (raw : FVec F S20000 .f32) : FVec F S20000 .f32 :=
  select (cmpf .ogt raw (broadcastInDim S20000 ![] bcast_S_S20000 (constant S_ .f32 0x3D4CCCCD#32))) raw
    (broadcastInDim S20000 ![] bcast_S_S20000 (constant S_ .f32 0xCE6E6B28#32))

/-- The scores before step `k`. -/
def scoresR (b : FVec F S20000x4 .f32) (raw : FVec F S20000 .f32) : ℕ → FVec F S20000 .f32
  | 0 => startS raw
  | k + 1 => newS b (scoresR b raw k) (iotaInDim S20000 32 0) (argm (scoresR b raw k))

/-- The detections before step `k`. -/
def rowsR (b : FVec F S20000x4 .f32) (raw : FVec F S20000 .f32) : ℕ → FVec F S100x5 .f32
  | 0 => broadcastInDim S100x5 ![] bcast_S_S100x5 (constant S_ .f32 0x00000000#32)
  | k + 1 => putRow (rowsR b raw k) (detRow b raw (scoresR b raw k) (argm (scoresR b raw k))) (fun _ => Scf.iv 0#32 1#32 k)

theorem entry_at (m : (ℓ : Loc nD τ sig) → Buf (Elt F) ℓ) (c : Dev nD) : At (entryContents entryL m c) (m ((c.tc : Thread nD τ).loc main_arg0)) (m ((c.tc : Thread nD τ).loc main_arg1))
    (startS (m ((c.tc : Thread nD τ).loc main_arg1))) (iotaInDim S20000 32 0) (fun _ => 0#32) (broadcastInDim S100x5 ![] bcast_S_S100x5 (constant S_ .f32 0x00000000#32)) := by
  simp only [entryContents, afterL_cons, afterL_nil]
  constructor
  all_goals after_reads_simp
  all_goals rfl

theorem atK_at (m : (ℓ : Loc nD τ sig) → Buf (Elt F) ℓ) (c : Dev nD) : ∀ k, At (atK m k c) (m ((c.tc : Thread nD τ).loc main_arg0)) (m ((c.tc : Thread nD τ).loc main_arg1))
    (scoresR (m ((c.tc : Thread nD τ).loc main_arg0)) (m ((c.tc : Thread nD τ).loc main_arg1)) k) (iotaInDim S20000 32 0) (fun _ => Scf.iv 0#32 1#32 k)
    (rowsR (m ((c.tc : Thread nD τ).loc main_arg0)) (m ((c.tc : Thread nD τ).loc main_arg1)) k)
  | 0 => by
    rw [Scf.iv_zero]
    exact entry_at m c
  | k + 1 => by
    have h := (atK_at m c k).trip
    exact ⟨h.boxes, h.raw, h.numbers, h.count.trans (by rw [Scf.iv_succ]; rfl), h.scores, h.rows⟩

end Cert.Proof.Ref

end
-- ==== Proof.Pred.lean ====
module

public import proofs.«01_k».proof.Proof.RefTrip
public import proofs.«01_k».proof.Proof.Gen.Pre_no_tie
public import Idealize.ShloMosaic.Lib.ReduceAll
public import Idealize.ShloMosaic.Lib.Pointwise

@[expose] public section

set_option maxRecDepth 16384

/-! What the precondition says of the reference's steps. -/

noncomputable section

namespace Cert.Proof.Ref

open Cert.ReferenceIdeal Cert.ReferenceIdeal.Gen
open Idealize.ShloMosaic Idealize.ShloMosaic.TcCoe
open Idealize.ShloMosaic.ValueIdx (eq_zero_of_ne_one)

/-- Whether every other score is below the chosen one's. -/
def alone (s : FVec Ideal S20000 .f32) : IVec S_ 1 :=
  Host.reduce IntOp.andi (ori (cmpf .olt s (broadcastInDim S20000 ![] bcast_S_S20000 (scoreAt s (argm s))))
    (noti (cmpi .ne (iotaInDim S20000 32 0) (broadcastInDim S20000 ![] bcast_S_S20000 (argm s))))) (constantI S_ 1 1#1) reducesTo_S20000_S_d0 h_S_

theorem noti_ne (a b : IVec S20000 32) : noti (cmpi .ne a b) = cmpi .eq a b := by
  funext j
  rw [noti_apply]
  show ~~~(IntOp.cmpi .ne (a j) (b j)) = IntOp.cmpi .eq (a j) (b j)
  unfold IntOp.cmpi
  simp only [bne]
  cases (a j == b j) <;> rfl

theorem argmax_eq (s : FVec Ideal S20000 .f32) : Cert.Pre_no_tie.fn_argmax (F := Ideal) s = argm s := rfl

theorem step_fst (b : FVec Ideal S20000x4 .f32) (s : FVec Ideal S20000 .f32) (ok : IVec S_ 1) :
    (Cert.Pre_no_tie.fn_step (F := Ideal) b s ok).1 = newS b s (iotaInDim S20000 32 0) (argm s) := by
  have h : isIt (iotaInDim S20000 32 0) (argm s) = noti (cmpi .ne (iotaInDim S20000 32 0) (broadcastInDim S20000 ![] bcast_S_S20000 (argm s))) :=
    (noti_ne _ _).symm
  unfold newS
  rw [h]
  rfl

theorem step_snd (b : FVec Ideal S20000x4 .f32) (s : FVec Ideal S20000 .f32) (ok : IVec S_ 1) :
    (Cert.Pre_no_tie.fn_step (F := Ideal) b s ok).2 = andi ok (alone s) := rfl

/-- One step of the precondition's search. -/
def stepP (b : FVec Ideal S20000x4 .f32) (p : FVec Ideal S20000 .f32 × IVec S_ 1) : FVec Ideal S20000 .f32 × IVec S_ 1 :=
  Cert.Pre_no_tie.fn_step (F := Ideal) b p.1 p.2

theorem ten_eq (b : FVec Ideal S20000x4 .f32) (p : FVec Ideal S20000 .f32 × IVec S_ 1) :
    Cert.Pre_no_tie.fn_ten_steps (F := Ideal) b p.1 p.2 = (stepP b)^[10] p := rfl

theorem hundred_eq (b : FVec Ideal S20000x4 .f32) (p : FVec Ideal S20000 .f32 × IVec S_ 1) :
    Cert.Pre_no_tie.fn_hundred_steps (F := Ideal) b p.1 p.2 = (stepP b)^[100] p := by
  rw [show 100 = 10 * 10 from rfl, Function.iterate_mul]
  unfold Cert.Pre_no_tie.fn_hundred_steps
  simp only [ten_eq]
  rfl

theorem iter_fst (b : FVec Ideal S20000x4 .f32) (raw : FVec Ideal S20000 .f32) (o : IVec S_ 1) : ∀ k, ((stepP b)^[k] (startS raw, o)).1 = scoresR b raw k
  | 0 => rfl
  | k + 1 => by
    rw [Function.iterate_succ_apply']
    show (Cert.Pre_no_tie.fn_step (F := Ideal) b ((stepP b)^[k] (startS raw, o)).1 _).1 = _
    rw [step_fst, iter_fst b raw o k]
    rfl

theorem andi_one (a b : IVec S_ 1) (j : S_.Idx) (h : andi a b j = 1#1) : a j = 1#1 ∧ b j = 1#1 := IntOp.andi_eq_one.1 h

theorem iter_snd (b : FVec Ideal S20000x4 .f32) (raw : FVec Ideal S20000 .f32) (o : IVec S_ 1) (j : S_.Idx) : ∀ n, ((stepP b)^[n] (startS raw, o)).2 j = 1#1 →
    ∀ k < n, alone (scoresR b raw k) j = 1#1
  | 0, _, k, hk => absurd hk (Nat.not_lt_zero k)
  | n + 1, h, k, hk => by
    rw [Function.iterate_succ_apply'] at h
    have h' : (Cert.Pre_no_tie.fn_step (F := Ideal) b ((stepP b)^[n] (startS raw, o)).1 ((stepP b)^[n] (startS raw, o)).2).2 j = 1#1 := h
    rw [step_snd, iter_fst] at h'
    obtain ⟨h1, h2⟩ := andi_one _ _ j h'
    rcases Nat.lt_succ_iff_lt_or_eq.mp hk with hlt | rfl
    · exact iter_snd b raw o j n h1 k hlt
    · exact h2

/-- Whether every corner is finite. -/
def finiteBoxes (b : FVec Ideal S20000x4 .f32) : IVec S20000x4 1 :=
  cmpf .olt (Host.absf b) (broadcastInDim S20000x4 ![] Cert.Pre_no_tie.Facts.bcast_S_S20000x4 (constant S_ .f32 0x7F800000#32))
def finiteScores (raw : FVec Ideal S20000 .f32) : IVec S20000 1 :=
  cmpf .olt raw (broadcastInDim S20000 ![] bcast_S_S20000 (constant S_ .f32 0x7F800000#32))
/-- Whether every box has a width, a height and an area that counts. -/
def properBoxes (b : FVec Ideal S20000x4 .f32) : IVec S20000 1 :=
  andi (andi (cmpf .olt (corners b 0 slices_S20000x4_S20000x1_0_0) (corners b 2 slices_S20000x4_S20000x1_0_2))
    (cmpf .olt (corners b 1 slices_S20000x4_S20000x1_0_1) (corners b 3 slices_S20000x4_S20000x1_0_3)))
    (cmpf .ogt (areas b) (broadcastInDim S20000 ![] bcast_S_S20000 (constant S_ .f32 0x3089705F#32)))

theorem fn_split (b : FVec Ideal S20000x4 .f32) (raw : FVec Ideal S20000 .f32) : ∃ e : IVec S_ 1,
    Cert.Pre_no_tie.fn (F := Ideal) b raw =
      andi (andi (andi (andi (Host.reduce IntOp.andi (finiteBoxes b) (constantI S_ 1 1#1) Cert.Pre_no_tie.Facts.reducesTo_S20000x4_S_d0_1 h_S_)
          (Host.reduce IntOp.andi (finiteScores raw) (constantI S_ 1 1#1) reducesTo_S20000_S_d0 h_S_))
          (Host.reduce IntOp.andi (properBoxes b) (constantI S_ 1 1#1) reducesTo_S20000_S_d0 h_S_))
        ((stepP b)^[100] (startS raw, constantI S_ 1 1#1)).2) e :=
  ⟨_, by rw [← hundred_eq]; rfl⟩

instance : Subsingleton S_.Idx := ⟨fun a b => funext fun k => k.elim0⟩

/-- The precondition, taken apart. -/
theorem parts (b : FVec Ideal S20000x4 .f32) (raw : FVec Ideal S20000 .f32) (h : Cert.Pre_no_tie.fn (F := Ideal) b raw = fun _ => 1#1) :
    (∀ i, finiteBoxes b i = 1#1) ∧ (∀ i, finiteScores raw i = 1#1) ∧ (∀ i, properBoxes b i = 1#1) ∧
      ∀ k < 100, ∀ i, ori (cmpf .olt (scoresR b raw k) (broadcastInDim S20000 ![] bcast_S_S20000 (scoreAt (scoresR b raw k) (argm (scoresR b raw k)))))
        (isIt (iotaInDim S20000 32 0) (argm (scoresR b raw k))) i = 1#1 := by
  obtain ⟨e, he⟩ := fn_split b raw
  let j : S_.Idx := Shape.Idx.first h_S_
  have h1 := congrFun (he.symm.trans h) j
  obtain ⟨h1, -⟩ := andi_one _ _ j h1
  obtain ⟨h1, hs⟩ := andi_one _ _ j h1
  obtain ⟨h1, hp⟩ := andi_one _ _ j h1
  obtain ⟨hb, hr⟩ := andi_one _ _ j h1
  refine ⟨fun i => Host.reduce_andi_all _ _ _ _ j hb i, fun i => Host.reduce_andi_all _ _ _ _ j hr i, fun i => Host.reduce_andi_all _ _ _ _ j hp i, fun k hk i => ?_⟩
  have ha := iter_snd b raw _ j 100 hs k hk
  unfold alone at ha
  rw [noti_ne] at ha
  exact Host.reduce_andi_all _ _ _ _ j ha i

end Cert.Proof.Ref

end
-- ==== Proof.Reads.lean ====
module

public import proofs.«01_k».proof.Proof.Spec
public import Idealize.ShloMosaic.Lib.Pointwise
public import Idealize.ShloMosaic.Lib.ValueIdx

@[expose] public section

set_option maxRecDepth 16384

noncomputable section

/-! What the kernel's vector operations are at one entry, over the extended reals. -/

namespace Cert.Proof.BodyIdeal

open Cert.KernelIdeal Cert.KernelIdeal.Gen
open Idealize.ShloMosaic Idealize.ShloMosaic.TcCoe
open Idealize.ShloMosaic.ValueIdx (eq_zero_of_ne_one)

theorem ofBits_bot : Ideal.ofBits .f32 0xFF800000#32 = ⊥ := by
  simp [Ideal.ofBits, Ideal.ieee]

theorem select_true {α : Type} {b : BitVec 1} (h : b = 1#1) (x y : α) : Scalar.select b x y = x := by subst h; rfl
theorem select_false {α : Type} {b : BitVec 1} (h : ¬ b = 1#1) (x y : α) : Scalar.select b x y = y := by
  rw [eq_zero_of_ne_one h]; rfl
theorem select_ite {α : Type} (b : BitVec 1) (x y : α) : Scalar.select b x y = if b = 1#1 then x else y := by
  split
  · exact select_true ‹_› x y
  · exact select_false ‹_› x y

theorem ofBool_one (b : Bool) : BitVec.ofBool b = 1#1 ↔ b = true := by cases b <;> decide
theorem cmp_ogt (x y : EReal) : FloatOps.cmpf (F := Ideal) (φ := .f32) .ogt x y = 1#1 ↔ y < x := by
  show Ideal.cmp .ogt x y = 1#1 ↔ _
  simp [Ideal.cmp, ofBool_one]
theorem cmp_oeq (x y : EReal) : FloatOps.cmpf (F := Ideal) (φ := .f32) .oeq x y = 1#1 ↔ x = y := by
  show Ideal.cmp .oeq x y = 1#1 ↔ _
  simp [Ideal.cmp, ofBool_one]
theorem cmp_olt (x y : EReal) : FloatOps.cmpf (F := Ideal) (φ := .f32) .olt x y = 1#1 ↔ x < y := by
  show Ideal.cmp .olt x y = 1#1 ↔ _
  simp [Ideal.cmp, ofBool_one]
theorem cmp_ole (x y : EReal) : FloatOps.cmpf (F := Ideal) (φ := .f32) .ole x y = 1#1 ↔ x ≤ y := by
  show Ideal.cmp .ole x y = 1#1 ↔ _
  simp [Ideal.cmp, ofBool_one]
theorem or_one (a b : BitVec 1) : IntOp.ori a b = 1#1 ↔ a = 1#1 ∨ b = 1#1 := by
  unfold IntOp.ori; revert a b; decide
theorem and_one (a b : BitVec 1) : IntOp.andi a b = 1#1 ↔ a = 1#1 ∧ b = 1#1 := by
  unfold IntOp.andi; revert a b; decide
theorem cmpi_eq_one {w : ℕ} (a b : BitVec w) : IntOp.cmpi .eq a b = 1#1 ↔ a = b := by
  simp [IntOp.cmpi, ofBool_one]

/-! ## The extraction -/

theorem colMax_sup (s : Grid Ideal) (l : Fin 128) :
    colMax s (ix2 0 l) = (Finset.univ : Finset (Fin 160)).sup fun r => s (ix2 r l) := by
  unfold colMax
  pointwise
  rw [ofBits_bot]
  rfl

theorem colMax_ge (s : Grid Ideal) (r : Fin 160) (l : Fin 128) : s (ix2 r l) ≤ colMax s (ix2 0 l) := by
  rw [colMax_sup]; exact Finset.le_sup (f := fun r => s (ix2 r l)) (Finset.mem_univ r)

theorem colMax_mem (s : Grid Ideal) (l : Fin 128) : ∃ r, s (ix2 r l) = colMax s (ix2 0 l) := by
  rw [colMax_sup]
  obtain ⟨r, -, h⟩ := Finset.exists_mem_eq_sup Finset.univ ⟨0, Finset.mem_univ _⟩ fun r : Fin 160 => s (ix2 r l)
  exact ⟨r, h.symm⟩

theorem ofNat_inj {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

theorem fold_min {ι : Type} (A : Finset ι) (f : ι → BitVec 32) (acc : BitVec 32) :
    (A.fold IntOp.minsi acc f = acc ∨ ∃ i ∈ A, A.fold IntOp.minsi acc f = f i)
      ∧ (∀ i ∈ A, (A.fold IntOp.minsi acc f).toInt ≤ (f i).toInt) := by
  classical
  induction A using Finset.induction_on with
  | empty => simp
  | insert a A ha ih =>
    rw [Finset.fold_insert ha]
    obtain ⟨h1, h2⟩ := ih
    generalize A.fold IntOp.minsi acc f = z at *
    have hz : IntOp.minsi (f a) z = f a ∧ (f a).toInt ≤ z.toInt ∨ IntOp.minsi (f a) z = z ∧ z.toInt ≤ (f a).toInt := by
      unfold IntOp.minsi
      simp only [BitVec.sle, BitVec.slt, decide_eq_true_eq]
      split <;> [left; right] <;> constructor <;> first | rfl | omega
    rcases hz with ⟨e, hl⟩ | ⟨e, hl⟩ <;> rw [e]
    · refine ⟨Or.inr ⟨a, Finset.mem_insert_self .., rfl⟩, fun i hi => ?_⟩
      rcases Finset.mem_insert.mp hi with rfl | hi
      · exact le_rfl
      · exact hl.trans (h2 i hi)
    · refine ⟨h1.imp id fun ⟨i, hi, e⟩ => ⟨i, Finset.mem_insert_of_mem hi, e⟩, fun i hi => ?_⟩
      rcases Finset.mem_insert.mp hi with rfl | hi
      · exact hl
      · exact h2 i hi

theorem rowIx_apply (r : Fin 160) (l : Fin 128) : rowIx (ix2 r l) = BitVec.ofNat 32 r.val := by
  unfold rowIx
  pointwise

theorem toInt_ofNat_small {n : ℕ} (h : n ≤ 160) : (BitVec.ofNat 32 n).toInt = n := by
  rw [BitVec.toInt_eq_toNat_of_lt (by rw [BitVec.toNat_ofNat]; omega), BitVec.toNat_ofNat, Nat.mod_eq_of_lt (by omega)]

theorem firstRow_mem (s : Grid Ideal) (l : Fin 128) :
    ∃ r : Fin 160, firstRow s (ix2 0 l) = BitVec.ofNat 32 r.val ∧ s (ix2 r l) = colMax s (ix2 0 l) := by
  unfold firstRow
  pointwise
  generalize hf : (fun x : Fin 160 => if s (ix2 x l) = colMax s (ix2 0 l) then rowIx (ix2 x l) else 160#32) = f
  obtain ⟨q, hq⟩ := colMax_mem s l
  obtain ⟨h1, h2⟩ := fold_min Finset.univ f 2147483647#32
  have h3 := h2 q (Finset.mem_univ q)
  have hfq : f q = BitVec.ofNat 32 q.val := by rw [← hf]; simp only [hq, if_true, rowIx_apply]
  rw [hfq, toInt_ofNat_small (by omega)] at h3
  rcases h1 with h1 | ⟨i, -, h1⟩
  · rw [h1] at h3
    have := q.isLt
    have : (2147483647#32 : BitVec 32).toInt = 2147483647 := by decide
    omega
  · rw [h1] at h3 ⊢
    by_cases hi : s (ix2 i l) = colMax s (ix2 0 l)
    · exact ⟨i, by rw [← hf]; simp only [hi, if_true, rowIx_apply], hi⟩
    · have : f i = 160#32 := by rw [← hf]; simp only [hi, if_false]
      rw [this, show (160#32 : BitVec 32).toInt = 160 by decide] at h3
      have := q.isLt
      omega

theorem zero_eq : (zero : Ideal .f32) = 0 := by
  show Ideal.ofBits .f32 0x00000000#32 = 0
  simp [Ideal.ofBits, Ideal.ieee]

theorem pick_apply (h : IVec S1x128 32) (x : Grid Ideal) (l : Fin 128) (q : Fin 160) (hq : h (ix2 0 l) = BitVec.ofNat 32 q.val) :
    pick (hotAt h) x (ix2 0 l) = x (ix2 q l) := by
  unfold pick hotAt
  pointwise
  rw [Finset.sum_eq_single q]
  · rw [rowIx_apply, hq, select_true ((cmpi_eq_one _ _).mpr rfl)]
  · intro b _ hb
    rw [rowIx_apply, hq, select_false, zero_eq]
    rw [cmpi_eq_one]
    intro e
    exact hb (Fin.ext (ofNat_inj (by omega) (by omega) e))
  · exact fun h => absurd (Finset.mem_univ q) h

theorem drop_apply (s : Grid Ideal) (r : Fin 160) (l : Fin 128) :
    drop s (ix2 r l) = if firstRow s (ix2 0 l) = BitVec.ofNat 32 r.val then neg else s (ix2 r l) := by
  unfold drop hotAt
  pointwise
  rw [rowIx_apply, select_ite]
  exact if_congr ((cmpi_eq_one _ _).trans eq_comm) rfl rfl

theorem stack_apply (f : ℕ → Lanes Ideal) (k : Fin 8) (l : Fin 128) : stack f (ix2 k l) = f k.val (ix2 0 l) := by
  unfold stack
  fin_cases k
  all_goals pointwise

theorem rest_ge (s : Grid Ideal) (r : Fin 160) (l : Fin 128) : level s 8 (ix2 r l) ≤ rest s (ix2 0 0) := by
  refine (colMax_ge _ r l).trans ?_
  unfold rest
  pointwise
  exact (Finset.le_fold_max _).mpr (Or.inr ⟨l, Finset.mem_univ l, le_rfl⟩)

/-! ## The choice between candidates -/

theorem betterF_spec {s : Shape} (va ra vb rb : FVec Ideal s .f32) (i : s.Idx) :
    (betterF va ra vb rb i = 1#1 → vb i ≤ va i) ∧ (¬ betterF va ra vb rb i = 1#1 → va i ≤ vb i) := by
  have h : betterF va ra vb rb i = 1#1 ↔ vb i < va i ∨ va i = vb i ∧ ra i < rb i := by
    show IntOp.ori (FloatOps.cmpf .ogt (va i) (vb i)) (IntOp.andi (FloatOps.cmpf .oeq (va i) (vb i)) (FloatOps.cmpf .olt (ra i) (rb i))) = 1#1 ↔ _
    rw [or_one, and_one, cmp_ogt, cmp_oeq, cmp_olt]
  rw [h]
  exact ⟨fun h => h.elim le_of_lt fun h => h.1.ge, fun h => not_lt.mp fun h' => h (Or.inl h')⟩

theorem betterI_spec {s : Shape} (va : FVec Ideal s .f32) (ra : IVec s 32) (vb : FVec Ideal s .f32) (rb : IVec s 32) (i : s.Idx) :
    (betterI va ra vb rb i = 1#1 → vb i ≤ va i) ∧ (¬ betterI va ra vb rb i = 1#1 → va i ≤ vb i) := by
  have h : betterI va ra vb rb i = 1#1 ↔ vb i < va i ∨ va i = vb i ∧ IntOp.cmpi .slt (ra i) (rb i) = 1#1 := by
    show IntOp.ori (FloatOps.cmpf .ogt (va i) (vb i)) (IntOp.andi (FloatOps.cmpf .oeq (va i) (vb i)) (IntOp.cmpi .slt (ra i) (rb i))) = 1#1 ↔ _
    rw [or_one, and_one, cmp_ogt, cmp_oeq]
  rw [h]
  exact ⟨fun h => h.elim le_of_lt fun h => h.1.ge, fun h => not_lt.mp fun h' => h (Or.inl h')⟩

theorem lo4_apply {α : Type} (u : S8x128.Idx → α) (i : Fin 4) (l : Fin 128) : lo4 u (ix2 i l) = u (ix2 (⟨i.val, by omega⟩ : Fin 8) l) := by
  unfold lo4; pointwise
theorem hi4_apply {α : Type} (u : S8x128.Idx → α) (i : Fin 4) (l : Fin 128) : hi4 u (ix2 i l) = u (ix2 (⟨4 + i.val, by omega⟩ : Fin 8) l) := by
  unfold hi4; pointwise
theorem lo2_apply {α : Type} (u : S4x128.Idx → α) (i : Fin 2) (l : Fin 128) : lo2 u (ix2 i l) = u (ix2 (⟨i.val, by omega⟩ : Fin 4) l) := by
  unfold lo2; pointwise
theorem hi2_apply {α : Type} (u : S4x128.Idx → α) (i : Fin 2) (l : Fin 128) : hi2 u (ix2 i l) = u (ix2 (⟨2 + i.val, by omega⟩ : Fin 4) l) := by
  unfold hi2; pointwise
theorem lo1_apply {α : Type} (u : S2x128.Idx → α) (l : Fin 128) : lo1 u (ix2 0 l) = u (ix2 (0 : Fin 2) l) := by
  unfold lo1; pointwise
theorem hi1_apply {α : Type} (u : S2x128.Idx → α) (l : Fin 128) : hi1 u (ix2 0 l) = u (ix2 (1 : Fin 2) l) := by
  unfold hi1; pointwise

theorem win4_mem (v r : Pool Ideal) (i : Fin 4) (l : Fin 128) :
    ∃ k : Fin 8, (∀ u, win4 v r u (ix2 i l) = u (ix2 k l)) ∧ v (ix2 (⟨i.val, by omega⟩ : Fin 8) l) ≤ v (ix2 k l)
      ∧ v (ix2 (⟨4 + i.val, by omega⟩ : Fin 8) l) ≤ v (ix2 k l) := by
  have h := betterF_spec (lo4 v) (lo4 r) (hi4 v) (hi4 r) (ix2 i l)
  simp only [lo4_apply, hi4_apply] at h
  have hw : ∀ u, win4 v r u (ix2 i l) = Scalar.select (bit4 v r (ix2 i l)) (lo4 u (ix2 i l)) (hi4 u (ix2 i l)) := fun _ => rfl
  by_cases hb : bit4 v r (ix2 i l) = 1#1
  · exact ⟨_, fun u => by rw [hw, select_true hb, lo4_apply], le_rfl, h.1 hb⟩
  · exact ⟨_, fun u => by rw [hw, select_false hb, hi4_apply], h.2 hb, le_rfl⟩

theorem win2_mem (v r : Pool Ideal) (i : Fin 2) (l : Fin 128) :
    ∃ k : Fin 8, (∀ u, win2 v r u (ix2 i l) = u (ix2 k l)) ∧ ∀ k' : Fin 8, k'.val % 2 = i.val → v (ix2 k' l) ≤ v (ix2 k l) := by
  obtain ⟨a, ha, ha1, ha2⟩ := win4_mem v r ⟨i.val, by omega⟩ l
  obtain ⟨b, hb, hb1, hb2⟩ := win4_mem v r ⟨2 + i.val, by omega⟩ l
  have h := betterF_spec (lo2 (win4 v r v)) (lo2 (win4 v r r)) (hi2 (win4 v r v)) (hi2 (win4 v r r)) (ix2 i l)
  simp only [lo2_apply, hi2_apply, ha, hb] at h
  have hw : ∀ u, win2 v r u (ix2 i l) = Scalar.select (bit2 v r (ix2 i l)) (lo2 (win4 v r u) (ix2 i l)) (hi2 (win4 v r u) (ix2 i l)) := fun _ => rfl
  have hk : ∀ m : EReal, v (ix2 a l) ≤ m → v (ix2 b l) ≤ m → ∀ k' : Fin 8, k'.val % 2 = i.val → v (ix2 k' l) ≤ m := by
    intro m h1 h2 k' hk'
    have hc : k'.val = i.val ∨ k'.val = 4 + i.val ∨ k'.val = 2 + i.val ∨ k'.val = 4 + (2 + i.val) := by omega
    rcases hc with hc | hc | hc | hc
    · rw [show k' = ⟨i.val, by omega⟩ from Fin.ext hc]; exact ha1.trans h1
    · rw [show k' = ⟨4 + i.val, by omega⟩ from Fin.ext hc]; exact ha2.trans h1
    · rw [show k' = ⟨2 + i.val, by omega⟩ from Fin.ext hc]; exact hb1.trans h2
    · rw [show k' = ⟨4 + (2 + i.val), by omega⟩ from Fin.ext hc]; exact hb2.trans h2
  by_cases hbit : bit2 v r (ix2 i l) = 1#1
  · exact ⟨a, fun u => by rw [hw, select_true hbit, lo2_apply, ha], hk _ le_rfl (h.1 hbit)⟩
  · exact ⟨b, fun u => by rw [hw, select_false hbit, hi2_apply, hb], hk _ (h.2 hbit) le_rfl⟩

/-- In each lane one of the eight slots is chosen, the same for every entry, and no slot has a greater score. -/
theorem win1_mem (v r : Pool Ideal) (l : Fin 128) :
    ∃ k : Fin 8, (∀ u, win1 v r u (ix2 0 l) = u (ix2 k l)) ∧ ∀ k' : Fin 8, v (ix2 k' l) ≤ v (ix2 k l) := by
  obtain ⟨a, ha, ha'⟩ := win2_mem v r 0 l
  obtain ⟨b, hb, hb'⟩ := win2_mem v r 1 l
  have h := betterF_spec (lo1 (win2 v r v)) (lo1 (win2 v r r)) (hi1 (win2 v r v)) (hi1 (win2 v r r)) (ix2 0 l)
  simp only [lo1_apply, hi1_apply, ha, hb] at h
  have hw : ∀ u, win1 v r u (ix2 0 l) = Scalar.select (bit1 v r (ix2 0 l)) (lo1 (win2 v r u) (ix2 0 l)) (hi1 (win2 v r u) (ix2 0 l)) := fun _ => rfl
  have hk : ∀ m : EReal, v (ix2 a l) ≤ m → v (ix2 b l) ≤ m → ∀ k' : Fin 8, v (ix2 k' l) ≤ m := by
    intro m h1 h2 k'
    rcases Nat.mod_two_eq_zero_or_one k'.val with hc | hc
    · exact (ha' k' hc).trans h1
    · exact (hb' k' hc).trans h2
  by_cases hbit : bit1 v r (ix2 0 l) = 1#1
  · exact ⟨a, fun u => by rw [hw, select_true hbit, lo1_apply, ha], hk _ le_rfl (h.1 hbit)⟩
  · exact ⟨b, fun u => by rw [hw, select_false hbit, hi1_apply, hb], hk _ (h.2 hbit) le_rfl⟩

theorem laneIx_apply (l : Fin 128) : laneIx (ix2 0 l) = BitVec.ofNat 32 l.val := by
  unfold laneIx
  pointwise

theorem reduceIndex_eq (v : Lanes Ideal) (w : Fin 128) (hw : ∀ l, l ≠ w → v (ix2 0 l) < v (ix2 0 w)) (j : S1.Idx) :
    reduceIndex (F := Ideal) .argMax 1 S1 v reduces_S1x128_S1 j = BitVec.ofNat 32 w.val := by
  show Ideal.reduceIndex .argMax 1 reduces_S1x128_S1 v j = _
  unfold Ideal.reduceIndex
  have hd : ∀ i : S1x128.Idx, reduces_S1x128_S1.drop i = j := fun i =>
    funext fun b => Fin.ext (by
      have h1 := (reduces_S1x128_S1.drop i b).isLt
      have h2 := (j b).isLt
      have h3 : S1.size b = 1 := by
        match b with
        | ⟨0, _⟩ => rfl
      omega)
  have he : ((Finset.univ.filter fun i : S1x128.Idx => reduces_S1x128_S1.drop i = j).filter fun i =>
      ∀ i' ∈ Finset.univ.filter fun i : S1x128.Idx => reduces_S1x128_S1.drop i = j,
        ¬ (fun a b : EReal => if ArgKind.argMax = .argMax then b < a else a < b) (v i') (v i)) = {ix2 0 w} := by
    ext i
    simp only [Finset.mem_filter, Finset.mem_univ, true_and, hd, if_true, not_lt, Finset.mem_singleton, forall_const]
    have hi : ∃ l, i = ix2 0 l := ⟨i 1, by
      rw [eq_ix2 (n0 := 1) (n1 := 128) i]
      congr 1
      exact Subsingleton.elim (α := Fin 1) _ _⟩
    obtain ⟨l, rfl⟩ := hi
    constructor
    · intro h
      by_contra hne
      exact absurd (h (ix2 0 w)) (not_le.mpr (hw l fun e => hne (by rw [e])))
    · intro h i'
      obtain ⟨l', rfl⟩ : ∃ l, i' = ix2 0 l := ⟨i' 1, by
        rw [eq_ix2 (n0 := 1) (n1 := 128) i']
        congr 1
        exact Subsingleton.elim (α := Fin 1) _ _⟩
      rw [h]
      by_cases e : l' = w
      · rw [e]
      · exact (hw l' e).le
  simp only [] at he ⊢
  rw [he]
  rfl

theorem laneHot_apply (v : Lanes Ideal) (w : Fin 128) (hw : ∀ l, l ≠ w → v (ix2 0 l) < v (ix2 0 w)) (l : Fin 128) :
    laneHot v (ix2 0 l) = 1#1 ↔ l = w := by
  unfold laneHot
  pointwise
  rw [laneIx_apply, cmpi_eq_one, reduceIndex_eq v w hw]
  exact ⟨fun h => Fin.ext (ofNat_inj (by omega) (by omega) h), fun h => by rw [h]⟩

/-- The kernel's test whether a box suppresses another, the latter given with a third of its area. -/
def cov (bx1 by1 bx2 by2 X1 Y1 X2 Y2 A : EReal) : Prop :=
  A + ((bx2 - bx1) * (by2 - by1) * (third : Ideal .f32) + (eps3 : Ideal .f32))
    < max (min bx2 X2 - max bx1 X1) 0 * max (min by2 Y2 - max by1 Y1) 0

theorem covers_apply {n : ℕ} (hb : S1x128.Broadcasts ⟨2, ![n, 128]⟩) (x1 y1 x2 y2 : Lanes Ideal) (X1 Y1 X2 Y2 A : FVec Ideal ⟨2, ![n, 128]⟩ .f32)
    (r : Fin n) (l : Fin 128) :
    covers hb x1 y1 x2 y2 X1 Y1 X2 Y2 A (ix2 r l) = 1#1 ↔
      cov (x1 (ix2 0 l)) (y1 (ix2 0 l)) (x2 (ix2 0 l)) (y2 (ix2 0 l)) (X1 (ix2 r l)) (Y1 (ix2 r l)) (X2 (ix2 r l)) (Y2 (ix2 r l)) (A (ix2 r l)) := by
  unfold covers area cov
  pointwise
  rw [ofBool_one, decide_eq_true_iff, zero_eq]

theorem rowOf_apply (a b c d e : Lanes Ideal) (l : Fin 128) (h : (halfNeg : Ideal .f32) < e (ix2 0 l)) :
    rowOf a b c d e (ix2 0 l) = if l = 0 then a (ix2 0 l) else if l = 1 then b (ix2 0 l) else if l = 2 then c (ix2 0 l)
      else if l = 3 then d (ix2 0 l) else if l = 4 then e (ix2 0 l) else 0 := by
  unfold rowOf
  pointwise
  rw [if_pos h, laneIx_apply, zero_eq]
  have hs : ∀ (k : Fin 128) (x : EReal), Scalar.select (IntOp.cmpi .eq (BitVec.ofNat 32 l.val) (BitVec.ofNat 32 k.val)) x 0 = if l = k then x else 0 := by
    intro k x
    rw [select_ite]
    refine if_congr ((cmpi_eq_one _ _).trans ⟨fun h => Fin.ext (ofNat_inj (by omega) (by omega) h), fun h => by rw [h]⟩) rfl rfl
  rw [show (0#32 : BitVec 32) = BitVec.ofNat 32 (0 : Fin 128).val from rfl, show (1#32 : BitVec 32) = BitVec.ofNat 32 (1 : Fin 128).val from rfl,
    show (2#32 : BitVec 32) = BitVec.ofNat 32 (2 : Fin 128).val from rfl, show (3#32 : BitVec 32) = BitVec.ofNat 32 (3 : Fin 128).val from rfl,
    show (4#32 : BitVec 32) = BitVec.ofNat 32 (4 : Fin 128).val from rfl]
  erw [hs, hs, hs, hs, hs]
  by_cases h0 : l = 0
  · subst h0; simp
  by_cases h1 : l = 1
  · subst h1; simp
  by_cases h2 : l = 2
  · subst h2; simp
  by_cases h3 : l = 3
  · subst h3; simp
  by_cases h4 : l = 4
  · subst h4; simp
  simp [h0, h1, h2, h3, h4]

theorem sum_hot (h : IVec S1x128 1) (g : Fin 128 → EReal) (w : Fin 128) (hw : ∀ l, h (ix2 0 l) = 1#1 ↔ l = w) :
    ∑ k, Scalar.select (h (ix2 0 k)) (g k) (zero : Ideal .f32) = g w := by
  rw [Finset.sum_eq_single w]
  · rw [select_true ((hw w).mpr rfl)]
  · intro k _ hk
    rw [select_false (fun e => hk ((hw k).mp e)), zero_eq]
  · exact fun h => absurd (Finset.mem_univ w) h

theorem hot_sub (h : IVec S1x128 1) (g : Fin 128 → EReal) (w : Fin 128) (hw : ∀ l, h (ix2 0 l) = 1#1 ↔ l = w) (a : ℝ) (ha : g w = (a : EReal)) (k : Fin 128) :
    (Scalar.select (h (ix2 0 k)) (g k) (zero : Ideal .f32) : EReal) - Scalar.select (h (ix2 0 k)) (g k) (zero : Ideal .f32) = 0 := by
  by_cases e : k = w
  · rw [select_true ((hw k).mpr e), e, ha, ← EReal.coe_sub, sub_self, EReal.coe_zero]
  · rw [select_false (fun h' => e ((hw k).mp h')), zero_eq]
    exact sub_zero (0 : EReal)

theorem spread6_apply (h : IVec S1x128 1) (x : FVec Ideal S6x128 .f32) (w : Fin 128) (hw : ∀ l, h (ix2 0 l) = 1#1 ↔ l = w)
    (i : Fin 6) (l : Fin 128) (a : ℝ) (ha : x (ix2 i w) = (a : EReal)) : spread6 h x (ix2 i l) = (a : EReal) := by
  unfold spread6 mul18 hot6 coarse ones
  pointwise [dot_S18x128_S128x128_S18x128_1_0_0_1_n_n]
  have e : ∀ p, (⟨12 + i.val - 6 - 6, p⟩ : Fin 6) = i := fun p => Fin.ext (by show 12 + i.val - 6 - 6 = i.val; omega)
  simp only [show ¬ (12 + i.val < 6) by omega, show ¬ (12 + i.val - 6 < 6) by omega, dite_false, e]
  have hs := hot_sub h (fun k => x (ix2 i k)) w hw a ha
  have h0 := sum_hot h (fun k => x (ix2 i k)) w hw
  simp only [hs, h0, ha]
  simp

theorem spread5_apply (h : IVec S1x128 1) (x : FVec Ideal S5x128 .f32) (w : Fin 128) (hw : ∀ l, h (ix2 0 l) = 1#1 ↔ l = w)
    (i : Fin 5) (l : Fin 128) (a : ℝ) (ha : x (ix2 i w) = (a : EReal)) : spread5 h x (ix2 i l) = (a : EReal) := by
  unfold spread5 mul15 hot5 coarse ones
  pointwise [dot_S15x128_S128x128_S15x128_1_0_0_1_n_n]
  have e : ∀ p, (⟨10 + i.val - 5 - 5, p⟩ : Fin 5) = i := fun p => Fin.ext (by show 10 + i.val - 5 - 5 = i.val; omega)
  simp only [show ¬ (10 + i.val < 5) by omega, show ¬ (10 + i.val - 5 < 5) by omega, dite_false, e]
  have hs := hot_sub h (fun k => x (ix2 i k)) w hw a ha
  have h0 := sum_hot h (fun k => x (ix2 i k)) w hw
  simp only [hs, h0, ha]
  simp

/-! ## The best of the grid -/

/-- The candidate is a row of lane `l` of the grid, and at least as good as the rows of `R`. -/
def Holds {s : Shape} (c : Cand Ideal s) (v : Grid Ideal) (i : s.Idx) (l : Fin 128) (R : Fin 160 → Prop) : Prop :=
  ∃ q : Fin 160, c.r i = BitVec.ofNat 32 q.val ∧ c.v i = v (ix2 q l) ∧ ∀ r, R r → v (ix2 r l) ≤ c.v i

theorem Holds.take {s : Shape} {a b : Cand Ideal s} {v : Grid Ideal} {i : s.Idx} {l : Fin 128} {R R' : Fin 160 → Prop}
    (ha : Holds a v i l R) (hb : Holds b v i l R') : Holds (a.take b) v i l fun r => R r ∨ R' r := by
  have h := betterI_spec a.v a.r b.v b.r i
  obtain ⟨q, h1, h2, h3⟩ := ha
  obtain ⟨q', h1', h2', h3'⟩ := hb
  have hv : (a.take b).v i = Scalar.select (a.bit b i) (a.v i) (b.v i) := rfl
  have hr : (a.take b).r i = Scalar.select (a.bit b i) (a.r i) (b.r i) := rfl
  unfold Holds
  rw [hv, hr]
  by_cases hbit : a.bit b i = 1#1
  · rw [select_true hbit, select_true hbit]
    exact ⟨q, h1, h2, fun r hr => hr.elim (h3 r) fun hr => (h3' r hr).trans (h.1 hbit)⟩
  · rw [select_false hbit, select_false hbit]
    exact ⟨q', h1', h2', fun r hr => hr.elim (fun hr => (h3 r hr).trans (h.2 hbit)) (h3' r)⟩

theorem part0_holds (v : Grid Ideal) (i : Fin 8) (l : Fin 128) : Holds (part0 v) v (ix2 i l) l fun r => r.val = 0 + i.val := by
  refine ⟨⟨0 + i.val, by omega⟩, ?_, ?_, fun r hr => ?_⟩
  · unfold part0; pointwise [rowIx_apply]
  · unfold part0; pointwise
  · rw [show r = ⟨0 + i.val, by omega⟩ from Fin.ext hr]; unfold part0; pointwise; exact le_rfl
theorem part1_holds (v : Grid Ideal) (i : Fin 8) (l : Fin 128) : Holds (part1 v) v (ix2 i l) l fun r => r.val = 8 + i.val := by
  refine ⟨⟨8 + i.val, by omega⟩, ?_, ?_, fun r hr => ?_⟩
  · unfold part1; pointwise [rowIx_apply]
  · unfold part1; pointwise
  · rw [show r = ⟨8 + i.val, by omega⟩ from Fin.ext hr]; unfold part1; pointwise; exact le_rfl
theorem part2_holds (v : Grid Ideal) (i : Fin 8) (l : Fin 128) : Holds (part2 v) v (ix2 i l) l fun r => r.val = 16 + i.val := by
  refine ⟨⟨16 + i.val, by omega⟩, ?_, ?_, fun r hr => ?_⟩
  · unfold part2; pointwise [rowIx_apply]
  · unfold part2; pointwise
  · rw [show r = ⟨16 + i.val, by omega⟩ from Fin.ext hr]; unfold part2; pointwise; exact le_rfl
theorem part3_holds (v : Grid Ideal) (i : Fin 8) (l : Fin 128) : Holds (part3 v) v (ix2 i l) l fun r => r.val = 24 + i.val := by
  refine ⟨⟨24 + i.val, by omega⟩, ?_, ?_, fun r hr => ?_⟩
  · unfold part3; pointwise [rowIx_apply]
  · unfold part3; pointwise
  · rw [show r = ⟨24 + i.val, by omega⟩ from Fin.ext hr]; unfold part3; pointwise; exact le_rfl
theorem part4_holds (v : Grid Ideal) (i : Fin 8) (l : Fin 128) : Holds (part4 v) v (ix2 i l) l fun r => r.val = 32 + i.val := by
  refine ⟨⟨32 + i.val, by omega⟩, ?_, ?_, fun r hr => ?_⟩
  · unfold part4; pointwise [rowIx_apply]
  · unfold part4; pointwise
  · rw [show r = ⟨32 + i.val, by omega⟩ from Fin.ext hr]; unfold part4; pointwise; exact le_rfl
theorem part5_holds (v : Grid Ideal) (i : Fin 8) (l : Fin 128) : Holds (part5 v) v (ix2 i l) l fun r => r.val = 40 + i.val := by
  refine ⟨⟨40 + i.val, by omega⟩, ?_, ?_, fun r hr => ?_⟩
  · unfold part5; pointwise [rowIx_apply]
  · unfold part5; pointwise
  · rw [show r = ⟨40 + i.val, by omega⟩ from Fin.ext hr]; unfold part5; pointwise; exact le_rfl
theorem part6_holds (v : Grid Ideal) (i : Fin 8) (l : Fin 128) : Holds (part6 v) v (ix2 i l) l fun r => r.val = 48 + i.val := by
  refine ⟨⟨48 + i.val, by omega⟩, ?_, ?_, fun r hr => ?_⟩
  · unfold part6; pointwise [rowIx_apply]
  · unfold part6; pointwise
  · rw [show r = ⟨48 + i.val, by omega⟩ from Fin.ext hr]; unfold part6; pointwise; exact le_rfl
theorem part7_holds (v : Grid Ideal) (i : Fin 8) (l : Fin 128) : Holds (part7 v) v (ix2 i l) l fun r => r.val = 56 + i.val := by
  refine ⟨⟨56 + i.val, by omega⟩, ?_, ?_, fun r hr => ?_⟩
  · unfold part7; pointwise [rowIx_apply]
  · unfold part7; pointwise
  · rw [show r = ⟨56 + i.val, by omega⟩ from Fin.ext hr]; unfold part7; pointwise; exact le_rfl
theorem part8_holds (v : Grid Ideal) (i : Fin 8) (l : Fin 128) : Holds (part8 v) v (ix2 i l) l fun r => r.val = 64 + i.val := by
  refine ⟨⟨64 + i.val, by omega⟩, ?_, ?_, fun r hr => ?_⟩
  · unfold part8; pointwise [rowIx_apply]
  · unfold part8; pointwise
  · rw [show r = ⟨64 + i.val, by omega⟩ from Fin.ext hr]; unfold part8; pointwise; exact le_rfl
theorem part9_holds (v : Grid Ideal) (i : Fin 8) (l : Fin 128) : Holds (part9 v) v (ix2 i l) l fun r => r.val = 72 + i.val := by
  refine ⟨⟨72 + i.val, by omega⟩, ?_, ?_, fun r hr => ?_⟩
  · unfold part9; pointwise [rowIx_apply]
  · unfold part9; pointwise
  · rw [show r = ⟨72 + i.val, by omega⟩ from Fin.ext hr]; unfold part9; pointwise; exact le_rfl
theorem part10_holds (v : Grid Ideal) (i : Fin 8) (l : Fin 128) : Holds (part10 v) v (ix2 i l) l fun r => r.val = 80 + i.val := by
  refine ⟨⟨80 + i.val, by omega⟩, ?_, ?_, fun r hr => ?_⟩
  · unfold part10; pointwise [rowIx_apply]
  · unfold part10; pointwise
  · rw [show r = ⟨80 + i.val, by omega⟩ from Fin.ext hr]; unfold part10; pointwise; exact le_rfl
theorem part11_holds (v : Grid Ideal) (i : Fin 8) (l : Fin 128) : Holds (part11 v) v (ix2 i l) l fun r => r.val = 88 + i.val := by
  refine ⟨⟨88 + i.val, by omega⟩, ?_, ?_, fun r hr => ?_⟩
  · unfold part11; pointwise [rowIx_apply]
  · unfold part11; pointwise
  · rw [show r = ⟨88 + i.val, by omega⟩ from Fin.ext hr]; unfold part11; pointwise; exact le_rfl
theorem part12_holds (v : Grid Ideal) (i : Fin 8) (l : Fin 128) : Holds (part12 v) v (ix2 i l) l fun r => r.val = 96 + i.val := by
  refine ⟨⟨96 + i.val, by omega⟩, ?_, ?_, fun r hr => ?_⟩
  · unfold part12; pointwise [rowIx_apply]
  · unfold part12; pointwise
  · rw [show r = ⟨96 + i.val, by omega⟩ from Fin.ext hr]; unfold part12; pointwise; exact le_rfl
theorem part13_holds (v : Grid Ideal) (i : Fin 8) (l : Fin 128) : Holds (part13 v) v (ix2 i l) l fun r => r.val = 104 + i.val := by
  refine ⟨⟨104 + i.val, by omega⟩, ?_, ?_, fun r hr => ?_⟩
  · unfold part13; pointwise [rowIx_apply]
  · unfold part13; pointwise
  · rw [show r = ⟨104 + i.val, by omega⟩ from Fin.ext hr]; unfold part13; pointwise; exact le_rfl
theorem part14_holds (v : Grid Ideal) (i : Fin 8) (l : Fin 128) : Holds (part14 v) v (ix2 i l) l fun r => r.val = 112 + i.val := by
  refine ⟨⟨112 + i.val, by omega⟩, ?_, ?_, fun r hr => ?_⟩
  · unfold part14; pointwise [rowIx_apply]
  · unfold part14; pointwise
  · rw [show r = ⟨112 + i.val, by omega⟩ from Fin.ext hr]; unfold part14; pointwise; exact le_rfl
theorem part15_holds (v : Grid Ideal) (i : Fin 8) (l : Fin 128) : Holds (part15 v) v (ix2 i l) l fun r => r.val = 120 + i.val := by
  refine ⟨⟨120 + i.val, by omega⟩, ?_, ?_, fun r hr => ?_⟩
  · unfold part15; pointwise [rowIx_apply]
  · unfold part15; pointwise
  · rw [show r = ⟨120 + i.val, by omega⟩ from Fin.ext hr]; unfold part15; pointwise; exact le_rfl
theorem part16_holds (v : Grid Ideal) (i : Fin 8) (l : Fin 128) : Holds (part16 v) v (ix2 i l) l fun r => r.val = 128 + i.val := by
  refine ⟨⟨128 + i.val, by omega⟩, ?_, ?_, fun r hr => ?_⟩
  · unfold part16; pointwise [rowIx_apply]
  · unfold part16; pointwise
  · rw [show r = ⟨128 + i.val, by omega⟩ from Fin.ext hr]; unfold part16; pointwise; exact le_rfl
theorem part17_holds (v : Grid Ideal) (i : Fin 8) (l : Fin 128) : Holds (part17 v) v (ix2 i l) l fun r => r.val = 136 + i.val := by
  refine ⟨⟨136 + i.val, by omega⟩, ?_, ?_, fun r hr => ?_⟩
  · unfold part17; pointwise [rowIx_apply]
  · unfold part17; pointwise
  · rw [show r = ⟨136 + i.val, by omega⟩ from Fin.ext hr]; unfold part17; pointwise; exact le_rfl
theorem part18_holds (v : Grid Ideal) (i : Fin 8) (l : Fin 128) : Holds (part18 v) v (ix2 i l) l fun r => r.val = 144 + i.val := by
  refine ⟨⟨144 + i.val, by omega⟩, ?_, ?_, fun r hr => ?_⟩
  · unfold part18; pointwise [rowIx_apply]
  · unfold part18; pointwise
  · rw [show r = ⟨144 + i.val, by omega⟩ from Fin.ext hr]; unfold part18; pointwise; exact le_rfl
theorem part19_holds (v : Grid Ideal) (i : Fin 8) (l : Fin 128) : Holds (part19 v) v (ix2 i l) l fun r => r.val = 152 + i.val := by
  refine ⟨⟨152 + i.val, by omega⟩, ?_, ?_, fun r hr => ?_⟩
  · unfold part19; pointwise [rowIx_apply]
  · unfold part19; pointwise
  · rw [show r = ⟨152 + i.val, by omega⟩ from Fin.ext hr]; unfold part19; pointwise; exact le_rfl

end Cert.Proof.BodyIdeal

end
-- ==== Proof.Greedy.lean ====
module

public import proofs.«01_k».proof.Proof.Reads

@[expose] public section

set_option maxRecDepth 16384

noncomputable section

/-! Both loops of the kernel follow the greedy selection. -/

namespace Cert.Proof.BodyIdeal

open Cert.KernelIdeal Cert.KernelIdeal.Gen
open Idealize.ShloMosaic Idealize.ShloMosaic.TcCoe
open Idealize.ShloMosaic.ValueIdx (eq_zero_of_ne_one)

theorem best8_holds (v : Grid Ideal) (i : Fin 8) (l : Fin 128) : Holds (best8 v) v (ix2 i l) l fun r => r.val % 8 = i.val := by
  obtain ⟨q, h1, h2, h3⟩ := ((((((part0_holds v i l).take (part1_holds v i l)).take ((part2_holds v i l).take (part3_holds v i l))).take
    (((part4_holds v i l).take (part5_holds v i l)).take ((part6_holds v i l).take (part7_holds v i l)))).take
    ((((part8_holds v i l).take (part9_holds v i l)).take ((part10_holds v i l).take (part11_holds v i l))).take
    (((part12_holds v i l).take (part13_holds v i l)).take ((part14_holds v i l).take (part15_holds v i l))))).take
    (((part16_holds v i l).take (part17_holds v i l)).take ((part18_holds v i l).take (part19_holds v i l))))
  exact ⟨q, h1, h2, fun r hr => h3 r (by omega)⟩

theorem best4_holds (v : Grid Ideal) (i : Fin 4) (l : Fin 128) : Holds (best4 v) v (ix2 i l) l fun r => r.val % 4 = i.val := by
  have ha : Holds ⟨lo4 (best8 v).v, lo4 (best8 v).r⟩ v (ix2 i l) l fun r => r.val % 8 = i.val := by
    have := best8_holds v ⟨i.val, by omega⟩ l
    unfold Holds at this ⊢
    simpa only [lo4_apply] using this
  have hb : Holds ⟨hi4 (best8 v).v, hi4 (best8 v).r⟩ v (ix2 i l) l fun r => r.val % 8 = 4 + i.val := by
    have := best8_holds v ⟨4 + i.val, by omega⟩ l
    unfold Holds at this ⊢
    simpa only [hi4_apply] using this
  obtain ⟨q, h1, h2, h3⟩ := ha.take hb
  exact ⟨q, h1, h2, fun r hr => h3 r (by omega)⟩

theorem best2_holds (v : Grid Ideal) (i : Fin 2) (l : Fin 128) : Holds (best2 v) v (ix2 i l) l fun r => r.val % 2 = i.val := by
  have ha : Holds ⟨lo2 (best4 v).v, lo2 (best4 v).r⟩ v (ix2 i l) l fun r => r.val % 4 = i.val := by
    have := best4_holds v ⟨i.val, by omega⟩ l
    unfold Holds at this ⊢
    simpa only [lo2_apply] using this
  have hb : Holds ⟨hi2 (best4 v).v, hi2 (best4 v).r⟩ v (ix2 i l) l fun r => r.val % 4 = 2 + i.val := by
    have := best4_holds v ⟨2 + i.val, by omega⟩ l
    unfold Holds at this ⊢
    simpa only [hi2_apply] using this
  obtain ⟨q, h1, h2, h3⟩ := ha.take hb
  exact ⟨q, h1, h2, fun r hr => h3 r (by omega)⟩

theorem best1_holds (v : Grid Ideal) (l : Fin 128) : Holds (best1 v) v (ix2 0 l) l fun _ => True := by
  have ha : Holds ⟨lo1 (best2 v).v, lo1 (best2 v).r⟩ v (ix2 0 l) l fun r => r.val % 2 = (0 : Fin 2).val := by
    have := best2_holds v 0 l
    unfold Holds at this ⊢
    simpa only [lo1_apply] using this
  have hb : Holds ⟨hi1 (best2 v).v, hi1 (best2 v).r⟩ v (ix2 0 l) l fun r => r.val % 2 = (1 : Fin 2).val := by
    have := best2_holds v 1 l
    unfold Holds at this ⊢
    simpa only [hi1_apply] using this
  obtain ⟨q, h1, h2, h3⟩ := ha.take hb
  exact ⟨q, h1, h2, fun r _ => h3 r (by show r.val % 2 = 0 ∨ r.val % 2 = 1; omega)⟩

/-! ## The greedy selection on the grid -/

/-- A hundred steps of the selection on a grid: the scores before each step, the box chosen by each, its
    coordinates and its score. -/
structure Trace (x1 y1 x2 y2 s : Grid Ideal) (S : ℕ → Grid Ideal) (r : ℕ → Fin 160) (l : ℕ → Fin 128) (b1 b2 b3 b4 t : ℕ → ℝ) : Prop where
  init : S 0 = start s
  best : ∀ n < 100, ∀ r' l', ¬ (r' = r n ∧ l' = l n) → S n (ix2 r' l') < S n (ix2 (r n) (l n))
  score : ∀ n < 100, S n (ix2 (r n) (l n)) = (t n : EReal)
  big : ∀ n < 100, (halfNeg : Ideal .f32) < (t n : EReal)
  e1 : ∀ n < 100, x1 (ix2 (r n) (l n)) = (b1 n : EReal)
  e2 : ∀ n < 100, y1 (ix2 (r n) (l n)) = (b2 n : EReal)
  e3 : ∀ n < 100, x2 (ix2 (r n) (l n)) = (b3 n : EReal)
  e4 : ∀ n < 100, y2 (ix2 (r n) (l n)) = (b4 n : EReal)
  self : ∀ n < 100, cov (b1 n) (b2 n) (b3 n) (b4 n) (b1 n) (b2 n) (b3 n) (b4 n) (area x1 y1 x2 y2 (ix2 (r n) (l n)))
  out : ∀ n < 100, ∀ r' l', (r' = r n ∧ l' = l n) ∨ cov (b1 n) (b2 n) (b3 n) (b4 n) (x1 (ix2 r' l')) (y1 (ix2 r' l')) (x2 (ix2 r' l')) (y2 (ix2 r' l'))
    (area x1 y1 x2 y2 (ix2 r' l')) → S (n + 1) (ix2 r' l') = (neg : Ideal .f32)
  keep : ∀ n < 100, ∀ r' l', ¬ ((r' = r n ∧ l' = l n) ∨ cov (b1 n) (b2 n) (b3 n) (b4 n) (x1 (ix2 r' l')) (y1 (ix2 r' l')) (x2 (ix2 r' l')) (y2 (ix2 r' l'))
    (area x1 y1 x2 y2 (ix2 r' l'))) → S (n + 1) (ix2 r' l') = S n (ix2 r' l')

/-- The five numbers of a detection, in the first five lanes. -/
def five (a b c d e : ℝ) (l : Fin 128) : EReal :=
  if l = 0 then (a : EReal) else if l = 1 then (b : EReal) else if l = 2 then (c : EReal) else if l = 3 then (d : EReal) else if l = 4 then (e : EReal) else 0

theorem rowOf_five (a b c d e : Lanes Ideal) (a' b' c' d' e' : ℝ) (ha : ∀ l, a (ix2 0 l) = (a' : EReal)) (hb : ∀ l, b (ix2 0 l) = (b' : EReal))
    (hc : ∀ l, c (ix2 0 l) = (c' : EReal)) (hd : ∀ l, d (ix2 0 l) = (d' : EReal)) (he : ∀ l, e (ix2 0 l) = (e' : EReal))
    (h : (halfNeg : Ideal .f32) < (e' : EReal)) (l : Fin 128) : rowOf a b c d e (ix2 0 l) = five a' b' c' d' e' l := by
  rw [rowOf_apply a b c d e l (by rw [he]; exact h), ha, hb, hc, hd, he]
  rfl

theorem same_eq (x : Grid Ideal) : same x = x := shapeCast_id _ _

theorem area_apply {n : ℕ} (x1 y1 x2 y2 : FVec Ideal ⟨2, ![n, 128]⟩ .f32) (r : Fin n) (l : Fin 128) :
    area x1 y1 x2 y2 (ix2 r l) = (x2 (ix2 r l) - x1 (ix2 r l)) * (y2 (ix2 r l) - y1 (ix2 r l)) * (third : Ideal .f32) := by
  unfold area
  pointwise

/-! ## The slow loop -/

theorem slow_vals (x1 y1 x2 y2 v : Grid Ideal) (r : Fin 160) (l : Fin 128) (b1 b2 b3 b4 t : ℝ)
    (best : ∀ r' l', ¬ (r' = r ∧ l' = l) → v (ix2 r' l') < v (ix2 r l)) (score : v (ix2 r l) = (t : EReal))
    (e1 : x1 (ix2 r l) = (b1 : EReal)) (e2 : y1 (ix2 r l) = (b2 : EReal)) (e3 : x2 (ix2 r l) = (b3 : EReal)) (e4 : y2 (ix2 r l) = (b4 : EReal)) (k : Fin 128) :
    sx1 x1 y1 x2 y2 v (ix2 0 k) = (b1 : EReal) ∧ sy1 x1 y1 x2 y2 v (ix2 0 k) = (b2 : EReal) ∧ sx2 x1 y1 x2 y2 v (ix2 0 k) = (b3 : EReal)
      ∧ sy2 x1 y1 x2 y2 v (ix2 0 k) = (b4 : EReal) ∧ smx x1 y1 x2 y2 v (ix2 0 k) = (t : EReal) := by
  obtain ⟨q, h1, h2, h3⟩ := best1_holds v l
  have hq : q = r := by
    by_contra hne
    have := best q l fun h => hne h.1
    rw [← h2] at this
    exact absurd (h3 r trivial) (not_le.mpr this)
  subst hq
  have hot := laneHot_apply (best1 v).v l fun l' hl' => by
    obtain ⟨q', -, h2', -⟩ := best1_holds v l'
    rw [h2', h2]
    exact best q' l' fun h => hl' h.2
  unfold sx1 sy1 sx2 sy2 smx slow5
  refine ⟨?_, ?_, ?_, ?_, ?_⟩
  · pointwise
    refine spread5_apply _ _ l hot _ k b1 ?_
    pointwise
    rw [pick_apply _ _ _ q h1, e1]
  · pointwise
    refine spread5_apply _ _ l hot _ k b2 ?_
    pointwise
    rw [pick_apply _ _ _ q h1, e2]
  · pointwise
    refine spread5_apply _ _ l hot _ k b3 ?_
    pointwise
    rw [pick_apply _ _ _ q h1, e3]
  · pointwise
    refine spread5_apply _ _ l hot _ k b4 ?_
    pointwise
    rw [pick_apply _ _ _ q h1, e4]
  · pointwise
    refine spread5_apply _ _ l hot _ k t ?_
    pointwise
    rw [h2, score]

variable {x1 y1 x2 y2 s : Grid Ideal} {S : ℕ → Grid Ideal} {r : ℕ → Fin 160} {l : ℕ → Fin 128} {b1 b2 b3 b4 t : ℕ → ℝ}

theorem Trace.slow_row (T : Trace x1 y1 x2 y2 s S r l b1 b2 b3 b4 t) (n : ℕ) (hn : n < 100) (k : Fin 128) :
    slowRow x1 y1 x2 y2 (S n) (ix2 0 k) = five (b1 n) (b2 n) (b3 n) (b4 n) (t n) k := by
  have h := slow_vals x1 y1 x2 y2 (S n) (r n) (l n) (b1 n) (b2 n) (b3 n) (b4 n) (t n) (T.best n hn) (T.score n hn) (T.e1 n hn) (T.e2 n hn) (T.e3 n hn) (T.e4 n hn)
  exact rowOf_five _ _ _ _ _ _ _ _ _ _ (fun k => (h k).1) (fun k => (h k).2.1) (fun k => (h k).2.2.1) (fun k => (h k).2.2.2.1) (fun k => (h k).2.2.2.2) (T.big n hn) k

theorem Trace.slow_next (T : Trace x1 y1 x2 y2 s S r l b1 b2 b3 b4 t) (n : ℕ) (hn : n < 100) :
    slowNext x1 y1 x2 y2 (S n) = S (n + 1) := by
  have h := slow_vals x1 y1 x2 y2 (S n) (r n) (l n) (b1 n) (b2 n) (b3 n) (b4 n) (t n) (T.best n hn) (T.score n hn) (T.e1 n hn) (T.e2 n hn) (T.e3 n hn) (T.e4 n hn)
  funext i
  obtain ⟨r', l', rfl⟩ : ∃ r' l', i = ix2 r' l' := ⟨i 0, i 1, eq_ix2 i⟩
  have hc := covers_apply broadcasts_S1x128_S160x128 (sx1 x1 y1 x2 y2 (S n)) (sy1 x1 y1 x2 y2 (S n)) (sx2 x1 y1 x2 y2 (S n)) (sy2 x1 y1 x2 y2 (S n))
    x1 y1 x2 y2 (area x1 y1 x2 y2) r' l'
  rw [(h l').1, (h l').2.1, (h l').2.2.1, (h l').2.2.2.1] at hc
  show Scalar.select _ (neg : Ideal .f32) (S n (ix2 r' l')) = _
  by_cases hcov : cov (b1 n) (b2 n) (b3 n) (b4 n) (x1 (ix2 r' l')) (y1 (ix2 r' l')) (x2 (ix2 r' l')) (y2 (ix2 r' l')) (area x1 y1 x2 y2 (ix2 r' l'))
  · rw [select_true (hc.mpr hcov), T.out n hn r' l' (Or.inr hcov)]
  · rw [select_false (fun h => hcov (hc.mp h)), T.keep n hn r' l']
    rintro (⟨rfl, rfl⟩ | h')
    · refine hcov ?_
      rw [T.e1 n hn, T.e2 n hn, T.e3 n hn, T.e4 n hn]
      exact T.self n hn
    · exact hcov h'

theorem Trace.slow_iter (T : Trace x1 y1 x2 y2 s S r l b1 b2 b3 b4 t) : ∀ n ≤ 100, slowIter x1 y1 x2 y2 (start s) n = S n
  | 0, _ => T.init.symm
  | n + 1, hn => by
    show slowNext x1 y1 x2 y2 (slowIter x1 y1 x2 y2 (start s) n) = _
    rw [T.slow_iter n (by omega), T.slow_next n (by omega)]

/-! ## The fast loop -/

theorem fast_vals (B : Best Ideal) (v : Pool Ideal) (w : Fin 128) (k0 : Fin 8) (b1 b2 b3 b4 t ρ : ℝ) (h0 : v (ix2 k0 w) = (t : EReal))
    (hle : ∀ k l, v (ix2 k l) ≤ (t : EReal))
    (heq : ∀ k l, v (ix2 k l) = (t : EReal) → l = w ∧ B.r (ix2 k l) = (ρ : EReal) ∧ B.x1 (ix2 k l) = (b1 : EReal) ∧ B.y1 (ix2 k l) = (b2 : EReal)
      ∧ B.x2 (ix2 k l) = (b3 : EReal) ∧ B.y2 (ix2 k l) = (b4 : EReal)) :
    (∀ k, laneHot (win1 v B.r v) (ix2 0 k) = 1#1 ↔ k = w) ∧ ∀ k : Fin 128,
    fx1 B v (ix2 0 k) = (b1 : EReal) ∧ fy1 B v (ix2 0 k) = (b2 : EReal) ∧ fx2 B v (ix2 0 k) = (b3 : EReal)
      ∧ fy2 B v (ix2 0 k) = (b4 : EReal) ∧ fm B v (ix2 0 k) = (t : EReal) ∧ fr B v (ix2 0 k) = (ρ : EReal) := by
  obtain ⟨j, hj, hmax⟩ := win1_mem v B.r w
  have hjt : v (ix2 j w) = (t : EReal) := le_antisymm (hle j w) (h0 ▸ hmax k0)
  obtain ⟨-, a0, a1, a2, a3, a4⟩ := heq j w hjt
  have hot := laneHot_apply (win1 v B.r v) w fun l' hl' => by
    obtain ⟨j', hj', -⟩ := win1_mem v B.r l'
    rw [hj', hj, hjt]
    exact lt_of_le_of_ne (hle j' l') fun e => hl' (heq j' l' e).1
  refine ⟨hot, fun k => ?_⟩
  unfold fx1 fy1 fx2 fy2 fm fr fast6
  refine ⟨?_, ?_, ?_, ?_, ?_, ?_⟩
  · pointwise
    refine spread6_apply _ _ w hot _ k b1 ?_
    pointwise
    rw [hj, a1]
  · pointwise
    refine spread6_apply _ _ w hot _ k b2 ?_
    pointwise
    rw [hj, a2]
  · pointwise
    refine spread6_apply _ _ w hot _ k b3 ?_
    pointwise
    rw [hj, a3]
  · pointwise
    refine spread6_apply _ _ w hot _ k b4 ?_
    pointwise
    rw [hj, a4]
  · pointwise
    refine spread6_apply _ _ w hot _ k t ?_
    pointwise
    rw [hj, hjt]
  · pointwise
    refine spread6_apply _ _ w hot _ k ρ ?_
    pointwise
    rw [hj, a0]

theorem level_cases (s : Grid Ideal) (i : S160x128.Idx) : ∀ n, level s n i = (neg : Ideal .f32) ∨ level s n i = s i
  | 0 => Or.inr rfl
  | n + 1 => by
    obtain ⟨r, l, rfl⟩ : ∃ r l, i = ix2 r l := ⟨i 0, i 1, eq_ix2 i⟩
    show drop (level s n) (ix2 r l) = _ ∨ drop (level s n) (ix2 r l) = _
    rw [drop_apply]
    split
    · exact Or.inl rfl
    · exact level_cases s (ix2 r l) n

theorem level_kept (s : Grid Ideal) (r : Fin 160) (l : Fin 128) :
    ∀ n, level s n (ix2 r l) = s (ix2 r l) ∨ ∃ k < n, firstRow (level s k) (ix2 0 l) = BitVec.ofNat 32 r.val ∧ level s k (ix2 r l) = s (ix2 r l)
  | 0 => Or.inl rfl
  | n + 1 => by
    rcases level_kept s r l n with h | ⟨k, hk, h⟩
    · by_cases hr : firstRow (level s n) (ix2 0 l) = BitVec.ofNat 32 r.val
      · exact Or.inr ⟨n, by omega, hr, h⟩
      · refine Or.inl ?_
        show drop (level s n) (ix2 r l) = _
        rw [drop_apply, if_neg hr, h]
    · exact Or.inr ⟨k, by omega, h⟩

theorem neg_val : (neg : Ideal .f32) = ((-1000000000 : ℝ) : EReal) := by
  show Ideal.ofBits .f32 0xCE6E6B28#32 = _
  simp [Ideal.ofBits, Ideal.ieee, -EReal.coe_mul]
  norm_num

theorem halfNeg_val : (halfNeg : Ideal .f32) = ((-500000000 : ℝ) : EReal) := by
  show Ideal.ofBits .f32 0xCDEE6B28#32 = _
  simp [Ideal.ofBits, Ideal.ieee, -EReal.coe_mul]
  norm_num

theorem thresh_val : Ideal.ofBits .f32 0x3D4CCCCD#32 = ((13421773 / 268435456 : ℝ) : EReal) := by
  simp [Ideal.ofBits, Ideal.ieee, -EReal.coe_mul]
  norm_num

theorem neg_lt_half : (neg : Ideal .f32) < (halfNeg : Ideal .f32) := by
  rw [neg_val, halfNeg_val, EReal.coe_lt_coe_iff]
  norm_num

theorem start_apply (s : Grid Ideal) (i : S160x128.Idx) :
    start s i = if Ideal.ofBits .f32 0x3D4CCCCD#32 < s i then s i else (neg : Ideal .f32) := by
  unfold start
  rw [same_eq]
  show Scalar.select (FloatOps.cmpf (F := Ideal) (φ := .f32) .ogt (s i) (Ideal.ofBits .f32 0x3D4CCCCD#32)) (s i) neg = _
  rw [select_ite]
  exact if_congr (cmp_ogt _ _) rfl rfl

theorem start_ge (s : Grid Ideal) (i : S160x128.Idx) : (neg : Ideal .f32) ≤ start s i := by
  rw [start_apply]
  split
  · refine le_trans ?_ (le_of_lt ‹_›)
    rw [neg_val, thresh_val, EReal.coe_le_coe_iff]
    norm_num
  · exact le_rfl

/-- What the two state parts of the fast loop hold before step `n`, `q` being the row a slot was taken from. -/
structure Follows (S : Grid Ideal) (v : Pool Ideal) (c : EReal) (q : Fin 8 → Fin 128 → Fin 160) : Prop where
  sound : ∀ k l, v (ix2 k l) = (neg : Ideal .f32) ∨ v (ix2 k l) = S (ix2 (q k l) l)
  low : ∀ k l, (neg : Ideal .f32) ≤ v (ix2 k l)
  full : ∀ r l, c < S (ix2 r l) → ∃ k, q k l = r ∧ v (ix2 k l) = S (ix2 r l)

/-- How the eight best were filled. -/
structure Filled (x1 y1 x2 y2 : Grid Ideal) (B : Best Ideal) (q : Fin 8 → Fin 128 → Fin 160) : Prop where
  gr : ∀ k l, B.r (ix2 k l) = (((q k l).val : ℝ) : EReal)
  gx1 : ∀ k l, B.x1 (ix2 k l) = x1 (ix2 (q k l) l)
  gy1 : ∀ k l, B.y1 (ix2 k l) = y1 (ix2 (q k l) l)
  gx2 : ∀ k l, B.x2 (ix2 k l) = x2 (ix2 (q k l) l)
  gy2 : ∀ k l, B.y2 (ix2 k l) = y2 (ix2 (q k l) l)
  ga : ∀ k l, B.a (ix2 k l) = area x1 y1 x2 y2 (ix2 (q k l) l)
  gt : (neg : Ideal .f32) ≤ B.t (ix2 0 0)

theorem filled (x1 y1 x2 y2 s : Grid Ideal) :
    ∃ q, Filled x1 y1 x2 y2 (bestOf x1 y1 x2 y2 s) q ∧ Follows (start s) (poolS (start s)) ((bestOf x1 y1 x2 y2 s).t (ix2 0 0)) q := by
  choose q hq hm using fun (k : Fin 8) (l : Fin 128) => firstRow_mem (level (start s) k.val) l
  have hx : ∀ (x : Grid Ideal) k l, poolX (start s) (same x) (ix2 k l) = x (ix2 (q k l) l) := by
    intro x k l
    unfold poolX
    rw [stack_apply, pick_apply _ _ _ _ (hq k l), same_eq]
  have hp : ∀ k l, poolS (start s) (ix2 k l) = level (start s) k.val (ix2 (q k l) l) := by
    intro k l
    unfold poolS
    rw [stack_apply, hm]
  refine ⟨q, ⟨?_, hx x1, hx y1, hx x2, hx y2, ?_, ?_⟩, ?_, ?_, ?_⟩
  · intro k l
    show poolR (start s) (ix2 k l) = _
    unfold poolR
    rw [stack_apply]
    show (((firstRow (level (start s) k.val) (ix2 0 l)).toInt : ℝ) : EReal) = _
    rw [hq, toInt_ofNat_small (by omega)]
    simp
  · intro k l
    show area (s := S8x128) _ _ _ _ (ix2 k l) = _
    rw [area_apply, area_apply, hx, hx, hx, hx]
  · refine le_trans ?_ (rest_ge (start s) (0 : Fin 160) (0 : Fin 128))
    rcases level_cases (start s) (ix2 0 0) 8 with h | h
    · rw [h]
    · rw [h]; exact start_ge s _
  · intro k l
    rw [hp]
    exact level_cases _ _ _
  · intro k l
    rw [hp]
    rcases level_cases (start s) (ix2 (q k l) l) k.val with h | h
    · rw [h]
    · rw [h]; exact start_ge s _
  · intro r l hlt
    rcases level_kept (start s) r l 8 with h | ⟨k, hk, h, h'⟩
    · exact absurd (rest_ge (start s) r l) (not_le.mpr (h ▸ hlt))
    · have hqr : q ⟨k, hk⟩ l = r := Fin.ext (ofNat_inj (by omega) (by omega) ((hq ⟨k, hk⟩ l).symm.trans h))
      refine ⟨⟨k, hk⟩, hqr, ?_⟩
      unfold poolS
      rw [stack_apply, ← hm, hqr, h']

theorem fastBad_apply (B : Best Ideal) (v : Pool Ideal) :
    (fastBad B v (ix2 0 0) = 0 ∧ ¬ (fm B v (ix2 0 0) ≤ B.t (ix2 0 0) ∧ (halfNeg : Ideal .f32) < B.t (ix2 0 0))) ∨ fastBad B v (ix2 0 0) = 1 := by
  have h : fastBad B v (ix2 0 0) = (((BitVec.setWidth 32 (IntOp.andi (FloatOps.cmpf (F := Ideal) (φ := .f32) .ole (fm B v (ix2 0 0)) (B.t (ix2 0 0)))
      (FloatOps.cmpf (F := Ideal) (φ := .f32) .ogt (B.t (ix2 0 0)) halfNeg))).toInt : ℝ) : EReal) := by
    unfold fastBad
    pointwise
    rfl
  rw [h]
  by_cases hb : IntOp.andi (FloatOps.cmpf (F := Ideal) (φ := .f32) .ole (fm B v (ix2 0 0)) (B.t (ix2 0 0)))
      (FloatOps.cmpf (F := Ideal) (φ := .f32) .ogt (B.t (ix2 0 0)) halfNeg) = 1#1
  · refine Or.inr ?_
    rw [hb]
    norm_num
  · refine Or.inl ⟨?_, fun hh => hb ((and_one _ _).mpr ⟨(cmp_ole _ _).mpr hh.1, (cmp_ogt _ _).mpr hh.2⟩)⟩
    rw [eq_zero_of_ne_one hb]
    norm_num

theorem reduceIndex_lt (v : Lanes Ideal) (j : S1.Idx) :
    ∃ w : Fin 128, reduceIndex (F := Ideal) .argMax 1 S1 v reduces_S1x128_S1 j = BitVec.ofNat 32 w.val := by
  show ∃ w : Fin 128, Ideal.reduceIndex .argMax 1 reduces_S1x128_S1 v j = _
  unfold Ideal.reduceIndex
  simp only []
  rcases h : (Finset.image (fun i : S1x128.Idx => (i 1).val) _).min with _ | n
  · exact ⟨0, rfl⟩
  · obtain ⟨i, -, hi⟩ := Finset.mem_image.mp (Finset.mem_of_min h)
    exact ⟨i 1, by rw [hi]; rfl⟩

theorem laneHot_some (v : Lanes Ideal) : ∃ w, ∀ l, laneHot v (ix2 0 l) = 1#1 ↔ l = w := by
  unfold laneHot
  pointwise
  obtain ⟨w, hw⟩ := reduceIndex_lt v (ix1 0)
  refine ⟨w, fun l => ?_⟩
  rw [laneIx_apply, cmpi_eq_one, hw]
  exact ⟨fun h => Fin.ext (ofNat_inj (by omega) (by omega) h), fun h => by rw [h]⟩

theorem fm_le (B : Best Ideal) (v : Pool Ideal) (t : ℝ) (hle : ∀ k l, v (ix2 k l) ≤ (t : EReal)) (hge : ∀ k l, (neg : Ideal .f32) ≤ v (ix2 k l)) :
    fm B v (ix2 0 0) ≤ (t : EReal) := by
  obtain ⟨w, hw⟩ := laneHot_some (win1 v B.r v)
  obtain ⟨j, hj, -⟩ := win1_mem v B.r w
  obtain ⟨a, ha⟩ : ∃ a : ℝ, v (ix2 j w) = (a : EReal) := by
    have h1 := hle j w
    have h2 := hge j w
    rw [neg_val] at h2
    refine ⟨(v (ix2 j w)).toReal, (EReal.coe_toReal ?_ ?_).symm⟩
    · intro h; rw [h] at h1; exact absurd h1 (not_le.mpr (EReal.coe_lt_top t))
    · intro h; rw [h] at h2; exact absurd h2 (not_le.mpr (EReal.bot_lt_coe _))
  have : fm B v (ix2 0 0) = (a : EReal) := by
    unfold fm fast6
    pointwise
    refine spread6_apply _ _ w hw _ 0 a ?_
    pointwise
    rw [hj, ha]
  rw [this, ← ha]
  exact hle j w

open Classical in
theorem fast_step {x1 y1 x2 y2 S S' : Grid Ideal} {r : Fin 160} {l : Fin 128} {b1 b2 b3 b4 t : ℝ} {B : Best Ideal} {q : Fin 8 → Fin 128 → Fin 160} {v : Pool Ideal}
    (hB : Filled x1 y1 x2 y2 B q) (hv : Follows S v (B.t (ix2 0 0)) q)
    (best : ∀ r' l', ¬ (r' = r ∧ l' = l) → S (ix2 r' l') < S (ix2 r l)) (score : S (ix2 r l) = (t : EReal)) (big : (halfNeg : Ideal .f32) < (t : EReal))
    (e1 : x1 (ix2 r l) = (b1 : EReal)) (e2 : y1 (ix2 r l) = (b2 : EReal)) (e3 : x2 (ix2 r l) = (b3 : EReal)) (e4 : y2 (ix2 r l) = (b4 : EReal))
    (out : ∀ r' l', (r' = r ∧ l' = l) ∨ cov b1 b2 b3 b4 (x1 (ix2 r' l')) (y1 (ix2 r' l')) (x2 (ix2 r' l')) (y2 (ix2 r' l'))
      (area x1 y1 x2 y2 (ix2 r' l')) → S' (ix2 r' l') = (neg : Ideal .f32))
    (keep : ∀ r' l', ¬ ((r' = r ∧ l' = l) ∨ cov b1 b2 b3 b4 (x1 (ix2 r' l')) (y1 (ix2 r' l')) (x2 (ix2 r' l')) (y2 (ix2 r' l'))
      (area x1 y1 x2 y2 (ix2 r' l'))) → S' (ix2 r' l') = S (ix2 r' l'))
    (ok : fastBad B v (ix2 0 0) = 0) :
    (∀ k, fastRow B v (ix2 0 k) = five b1 b2 b3 b4 t k) ∧ Follows S' (fastNext B v) (B.t (ix2 0 0)) q := by
  have nt : (neg : Ideal .f32) < (t : EReal) := lt_trans neg_lt_half big
  have hle : ∀ k l', v (ix2 k l') ≤ (t : EReal) := by
    intro k l'
    rcases hv.sound k l' with h | h
    · rw [h]; exact nt.le
    · rw [h, ← score]
      by_cases hw : q k l' = r ∧ l' = l
      · rw [hw.1, hw.2]
      · exact (best _ _ hw).le
  have heq : ∀ k l', v (ix2 k l') = (t : EReal) → l' = l ∧ q k l' = r := by
    intro k l' h0
    rcases hv.sound k l' with h | h
    · exact absurd (h.symm.trans h0) nt.ne
    · by_contra hw
      have := best (q k l') l' fun hh => hw ⟨hh.2, hh.1⟩
      rw [← h, h0, score] at this
      exact lt_irrefl _ this
  have hgt : B.t (ix2 0 0) < (t : EReal) := by
    rcases fastBad_apply B v with h | h
    · by_contra hcon
      refine h.2 ⟨?_, lt_of_lt_of_le big (not_lt.mp hcon)⟩
      exact (fm_le B v t hle hv.low).trans (not_lt.mp hcon)
    · rw [ok] at h; exact absurd h (by norm_num)
  obtain ⟨k0, hq0, hv0⟩ := hv.full r l (by rw [score]; exact hgt)
  obtain ⟨hot, vals⟩ := fast_vals B v l k0 b1 b2 b3 b4 t (r.val : ℝ) (hv0.trans score) hle (by
    intro k l' h
    obtain ⟨hl, h'⟩ := heq k l' h
    rw [hl] at h' ⊢
    rw [hB.gr, hB.gx1, hB.gy1, hB.gx2, hB.gy2, h']
    exact ⟨rfl, rfl, e1, e2, e3, e4⟩)
  refine ⟨fun k => rowOf_five _ _ _ _ _ _ _ _ _ _ (fun k => (vals k).1) (fun k => (vals k).2.1) (fun k => (vals k).2.2.1) (fun k => (vals k).2.2.2.1)
    (fun k => (vals k).2.2.2.2.1) big k, ?_⟩
  have next : ∀ k l', fastNext B v (ix2 k l') = if (cov b1 b2 b3 b4 (x1 (ix2 (q k l') l')) (y1 (ix2 (q k l') l')) (x2 (ix2 (q k l') l')) (y2 (ix2 (q k l') l'))
      (area x1 y1 x2 y2 (ix2 (q k l') l')) ∨ ((l' = l ∧ v (ix2 k l') = (t : EReal)) ∧ q k l' = r)) then (neg : Ideal .f32) else v (ix2 k l') := by
    intro k l'
    have hc := covers_apply broadcasts_S1x128_S8x128 (fx1 B v) (fy1 B v) (fx2 B v) (fy2 B v) B.x1 B.y1 B.x2 B.y2 B.a k l'
    rw [(vals l').1, (vals l').2.1, (vals l').2.2.1, (vals l').2.2.2.1, hB.gx1, hB.gy1, hB.gx2, hB.gy2, hB.ga] at hc
    have hn : fastNext B v (ix2 k l') = Scalar.select (IntOp.ori (covers (s := S8x128) broadcasts_S1x128_S8x128 (fx1 B v) (fy1 B v) (fx2 B v) (fy2 B v) B.x1 B.y1 B.x2 B.y2 B.a (ix2 k l'))
        (IntOp.andi (IntOp.andi (laneHot (win1 v B.r v) (ix2 0 l')) (FloatOps.cmpf (F := Ideal) (φ := .f32) .oeq (v (ix2 k l')) (fm B v (ix2 0 l'))))
          (FloatOps.cmpf (F := Ideal) (φ := .f32) .oeq (B.r (ix2 k l')) (fr B v (ix2 0 l'))))) (neg : Ideal .f32) (v (ix2 k l')) := by
      unfold fastNext
      pointwise
    rw [hn, select_ite]
    refine if_congr ?_ rfl rfl
    rw [or_one, and_one, and_one, hc, hot, cmp_oeq, cmp_oeq, (vals l').2.2.2.2.1, (vals l').2.2.2.2.2, hB.gr]
    refine or_congr Iff.rfl (and_congr Iff.rfl ?_)
    rw [EReal.coe_eq_coe_iff, Nat.cast_inj, Fin.ext_iff]
  constructor
  · intro k l'
    rw [next]
    split
    · exact Or.inl rfl
    · rename_i hno
      rcases hv.sound k l' with h | h
      · exact Or.inl h
      · refine Or.inr ?_
        rw [keep, h]
        rintro (⟨hr, hl⟩ | hcov)
        · refine hno (Or.inr ⟨⟨hl, ?_⟩, hr⟩)
          rw [h, hr, hl, score]
        · exact hno (Or.inl hcov)
  · intro k l'
    rw [next]
    split
    · exact le_rfl
    · exact hv.low k l'
  · intro r' l' hlt
    have hno : ¬ ((r' = r ∧ l' = l) ∨ cov b1 b2 b3 b4 (x1 (ix2 r' l')) (y1 (ix2 r' l')) (x2 (ix2 r' l')) (y2 (ix2 r' l'))
      (area x1 y1 x2 y2 (ix2 r' l'))) := by
      intro h
      rw [out r' l' h] at hlt
      exact absurd hB.gt (not_le.mpr hlt)
    rw [keep r' l' hno] at hlt ⊢
    obtain ⟨k, hk, hvk⟩ := hv.full r' l' hlt
    refine ⟨k, hk, ?_⟩
    rw [next, if_neg, hvk]
    rw [hk]
    rintro (h | ⟨⟨h, -⟩, h'⟩)
    · exact hno (Or.inr h)
    · exact hno (Or.inl ⟨h', h⟩)

theorem poison_cases (B : Best Ideal) (v : Pool Ideal) :
    ∀ n, ((fastIter B v n).2 (ix2 0 0) = 0 ∧ ∀ j < n, fastBad B (fastIter B v j).1 (ix2 0 0) = 0) ∨ (fastIter B v n).2 (ix2 0 0) = 1
  | 0 => Or.inl ⟨by show zero = _; exact zero_eq, fun j hj => absurd hj (Nat.not_lt_zero j)⟩
  | n + 1 => by
    have hs : (fastIter B v (n + 1)).2 (ix2 0 0) = max ((fastIter B v n).2 (ix2 0 0)) (fastBad B (fastIter B v n).1 (ix2 0 0)) := rfl
    rw [hs]
    rcases poison_cases B v n with ⟨h, hj⟩ | h
    · rcases fastBad_apply B (fastIter B v n).1 with hb | hb
      · refine Or.inl ⟨by rw [h, hb.1, max_self], fun j hlt => ?_⟩
        rcases Nat.lt_succ_iff_lt_or_eq.mp hlt with hlt | rfl
        · exact hj j hlt
        · exact hb.1
      · refine Or.inr ?_
        rw [h, hb]; norm_num
    · refine Or.inr ?_
      rcases fastBad_apply B (fastIter B v n).1 with hb | hb
      · rw [h, hb.1]; norm_num
      · rw [h, hb]; norm_num

theorem poisoned_of (x1 y1 x2 y2 s : Grid Ideal) (h : (fastState x1 y1 x2 y2 s 100).2 (ix2 0 0) = 1) : poisoned x1 y1 x2 y2 s := by
  have he : extractAt ![0, 0] (fptosi 32 (fastState x1 y1 x2 y2 s 100).2) inpos_S1x1_p0_0 = Ideal.fptosi 32 ((fastState x1 y1 x2 y2 s 100).2 (ix2 0 0)) := by
    have : ∀ i : S1x1.Idx, i = ix2 0 0 := fun i => by
      rw [eq_ix2 (n0 := 1) (n1 := 1) i]
      congr 1 <;> exact Subsingleton.elim (α := Fin 1) _ _
    exact congrArg (fun i => Ideal.fptosi 32 ((fastState x1 y1 x2 y2 s 100).2 i)) (this _)
  have h1 : Ideal.fptosi 32 (1 : EReal) = 1#32 := by
    show BitVec.ofInt 32 (Ideal.toIntClamped _ _ ((1 : ℝ) : EReal)) = _
    have h1 : Ideal.toIntClamped (-(2 ^ (32 - 1) : ℕ)) ((2 ^ (32 - 1) : ℕ) - 1) ((1 : ℝ) : EReal)
        = max (-((2 ^ (32 - 1) : ℕ) : ℤ)) (min (((2 ^ (32 - 1) : ℕ) : ℤ) - 1) (if (0 : ℝ) ≤ 1 then ⌊(1 : ℝ)⌋ else ⌈(1 : ℝ)⌉)) := rfl
    rw [h1, if_pos (by norm_num), Int.floor_one]
    norm_num
  unfold poisoned
  rw [he, h, h1]
  decide

theorem Trace.fast (T : Trace x1 y1 x2 y2 s S r l b1 b2 b3 b4 t) (hok : ∀ j < 100, fastBad (bestOf x1 y1 x2 y2 s) (fastState x1 y1 x2 y2 s j).1 (ix2 0 0) = 0)
    (q : Fin 8 → Fin 128 → Fin 160) (hB : Filled x1 y1 x2 y2 (bestOf x1 y1 x2 y2 s) q)
    (h0 : Follows (start s) (poolS (start s)) ((bestOf x1 y1 x2 y2 s).t (ix2 0 0)) q) :
    ∀ n ≤ 100, Follows (S n) (fastState x1 y1 x2 y2 s n).1 ((bestOf x1 y1 x2 y2 s).t (ix2 0 0)) q
  | 0, _ => by rw [T.init]; exact h0
  | n + 1, hn => (fast_step hB (T.fast hok q hB h0 n (by omega)) (T.best n hn) (T.score n hn) (T.big n hn) (T.e1 n hn) (T.e2 n hn) (T.e3 n hn) (T.e4 n hn)
      (T.out n hn) (T.keep n hn) (hok n hn)).2

/-- Every row of the result is the detection the selection makes. -/
theorem Trace.result_eq (T : Trace x1 y1 x2 y2 s S r l b1 b2 b3 b4 t) (n : Fin 100) (k : Fin 128) :
    result x1 y1 x2 y2 s (ix2 n k) = five (b1 n) (b2 n) (b3 n) (b4 n) (t n) k := by
  show resultRow x1 y1 x2 y2 s n.val (ix2 0 k) = _
  unfold resultRow
  split
  · rw [same_eq, same_eq, same_eq, same_eq, T.slow_iter n (by omega), T.slow_row n n.isLt]
  · rename_i hp
    rcases poison_cases (bestOf x1 y1 x2 y2 s) (poolS (start s)) 100 with ⟨-, h⟩ | h
    · obtain ⟨q, hB, h0⟩ := filled x1 y1 x2 y2 s
      have hn := n.isLt
      exact (fast_step hB (T.fast h q hB h0 n (by omega)) (T.best n hn) (T.score n hn) (T.big n hn) (T.e1 n hn) (T.e2 n hn) (T.e3 n hn) (T.e4 n hn)
        (T.out n hn) (T.keep n hn) (h n hn)).1 k
    · exact absurd (poisoned_of x1 y1 x2 y2 s h) hp

end Cert.Proof.BodyIdeal

end
-- ==== Proof.RefRead.lean ====
module

public import proofs.«01_k».proof.Proof.Pred
public import proofs.«01_k».proof.Proof.Greedy

@[expose] public section

set_option maxRecDepth 16384

/-! The reference's steps at one entry, over the extended reals. -/

noncomputable section

namespace Cert.Proof.Ref

open Cert.ReferenceIdeal Cert.ReferenceIdeal.Gen
open Idealize.ShloMosaic Idealize.ShloMosaic.TcCoe
open Idealize.ShloMosaic.ValueIdx (eq_zero_of_ne_one)
open Cert.Proof.BodyIdeal (cmp_ogt cmp_olt or_one and_one cmpi_eq_one select_true select_false select_ite)

/-- The place a number stands for, moved inside the array. -/
def place (i : IVec S_ 32) : Fin 20000 :=
  ⟨Host.clampedStart S20000 S1 sliceFits_S20000_S1.1 (fun k => ((![wrap i] : Fin 1 → IVec S_ 32) k (Shape.Idx.first h_S_)).toInt) 0, by
    have h := Host.clampedStart_le sliceFits_S20000_S1.1 (fun k => ((![wrap i] : Fin 1 → IVec S_ 32) k (Shape.Idx.first h_S_)).toInt) 0 (by decide)
    exact h⟩

theorem scoreAt_apply (s : FVec Ideal S20000 .f32) (i : IVec S_ 32) (j : S_.Idx) : scoreAt s i j = s (ix1 (place i)) := by
  unfold scoreAt place
  pointwise

theorem boxAt_apply (b : FVec Ideal S20000x4 .f32) (i : IVec S_ 32) (k : Fin 4) : boxAt b i (ix1 k) = b (ix2 (place i) k) := by
  unfold boxAt place
  pointwise
  have h0 : Host.clampedStart S20000x4 S1x4 sliceFits_S20000x4_S1x4.1 (fun k => ((![wrap i, first4] : Fin 2 → IVec S_ 32) k (Shape.Idx.first h_S_)).toInt) 0 =
      Host.clampedStart S20000 S1 sliceFits_S20000_S1.1 (fun k => (wrap i (Shape.Idx.first h_S_)).toInt) 0 := rfl
  have h1 : Host.clampedStart S20000x4 S1x4 sliceFits_S20000x4_S1x4.1 (fun k => ((![wrap i, first4] : Fin 2 → IVec S_ 32) k (Shape.Idx.first h_S_)).toInt) 1 = 0 := rfl
  simp only [h0, h1, Nat.zero_add]

theorem corners_apply (b : FVec Ideal S20000x4 .f32) (k : ℕ) (hk : k < 4) (h) (j : Fin 20000) : corners b k h (ix1 j) = b (ix2 j ⟨k, hk⟩) := by
  unfold corners
  pointwise

theorem areas_apply (b : FVec Ideal S20000x4 .f32) (j : Fin 20000) : areas b (ix1 j) = (b (ix2 j 2) - b (ix2 j 0)) * (b (ix2 j 3) - b (ix2 j 1)) := by
  unfold areas corners
  pointwise

theorem area1_apply (w : FVec Ideal S4 .f32) (j : S_.Idx) : area1 w j = (w (ix1 2) - w (ix1 0)) * (w (ix1 3) - w (ix1 1)) := by
  unfold area1 cornerAt
  pointwise

theorem inter_apply (b : FVec Ideal S20000x4 .f32) (w : FVec Ideal S4 .f32) (j : Fin 20000) :
    inter (clipped (constant S_ .f32 0x00000000#32) (sides b w)) (ix1 j) =
      max 0 (min (w (ix1 2)) (b (ix2 j 2)) - max (w (ix1 0)) (b (ix2 j 0))) *
      max 0 (min (w (ix1 3)) (b (ix2 j 3)) - max (w (ix1 1)) (b (ix2 j 1))) := by
  unfold inter clipped sides
  pointwise

theorem overlap_apply (d : FVec Ideal S20000x2 .f32) (a : FVec Ideal S_ .f32) (A : FVec Ideal S20000 .f32) (j : Fin 20000) :
    overlap d a A (ix1 j) = 1#1 ↔ Ideal.ofBits .f32 0x3F000000#32 <
      Ideal.div (inter d (ix1 j)) (a ix0 + A (ix1 j) - inter d (ix1 j) + Ideal.ofBits .f32 0x3089705F#32) := by
  unfold overlap
  pointwise
  exact cmp_ogt _ _

theorem isIt_apply (i : IVec S_ 32) (j : Fin 20000) : isIt (iotaInDim S20000 32 0) i (ix1 j) = 1#1 ↔ BitVec.ofNat 32 j.val = i ix0 := by
  unfold isIt
  pointwise
  exact cmpi_eq_one _ _

theorem newS_apply (b : FVec Ideal S20000x4 .f32) (s : FVec Ideal S20000 .f32) (i : IVec S_ 32) (j : Fin 20000) :
    newS b s (iotaInDim S20000 32 0) i (ix1 j) =
      if overlap (clipped (constant S_ .f32 0x00000000#32) (sides b (boxAt b i))) (area1 (boxAt b i)) (areas b) (ix1 j) = 1#1 ∨
          BitVec.ofNat 32 j.val = i ix0 then Ideal.ofBits .f32 0xCE6E6B28#32 else s (ix1 j) := by
  unfold newS
  pointwise
  rw [select_ite]
  exact if_congr ((or_one _ _).trans (or_congr Iff.rfl (isIt_apply i j))) rfl rfl

theorem startS_apply (raw : FVec Ideal S20000 .f32) (j : Fin 20000) :
    startS raw (ix1 j) = if Ideal.ofBits .f32 0x3D4CCCCD#32 < raw (ix1 j) then raw (ix1 j) else Ideal.ofBits .f32 0xCE6E6B28#32 := by
  unfold startS
  pointwise

theorem validAt_apply (s : FVec Ideal S20000 .f32) (i : IVec S_ 32) (j : S_.Idx) :
    validAt s i j = 1#1 ↔ Ideal.ofBits .f32 0xCDEE6B28#32 < s (ix1 (place i)) := by
  rw [← scoreAt_apply s i j]
  unfold validAt
  pointwise
  exact cmp_ogt _ _

theorem detRow_apply (b : FVec Ideal S20000x4 .f32) (raw s : FVec Ideal S20000 .f32) (i : IVec S_ 32) (k : Fin 5)
    (hv : Ideal.ofBits .f32 0xCDEE6B28#32 < s (ix1 (place i))) :
    detRow b raw s i (ix1 k) = if h : k.val < 4 then b (ix2 (place i) ⟨k.val, h⟩) else raw (ix1 (place i)) := by
  have hv' := (validAt_apply s i ix0).mpr hv
  unfold detRow
  pointwise
  simp only [select_true hv', boxAt_apply, scoreAt_apply]

theorem putRow_apply (D : FVec Ideal S100x5 .f32) (d : FVec Ideal S5 .f32) (i : IVec S_ 32) (n : ℕ) (hn : n < 100) (hi : i (Shape.Idx.first h_S_) = BitVec.ofNat 32 n)
    (a : Fin 100) (l : Fin 5) : putRow D d i (ix2 a l) = if a.val = n then d (ix1 l) else D (ix2 a l) := by
  unfold putRow
  pointwise
  have h0 : Host.clampedStart S100x5 S1x5 updateFits_S100x5_S1x5.1 (fun a => ((![i, constantI S_ 32 0#32] : Fin 2 → IVec S_ 32) a (Shape.Idx.first h_S_)).toInt) 0 = n := by
    refine Host.clampedStart_of_le _ _ _ n ?_ (by show n + 1 ≤ 100; omega)
    show (i (Shape.Idx.first h_S_)).toInt = _
    rw [hi]
    exact Cert.Proof.BodyIdeal.toInt_ofNat_small (by omega)
  have h1 : Host.clampedStart S100x5 S1x5 updateFits_S100x5_S1x5.1 (fun a => ((![i, constantI S_ 32 0#32] : Fin 2 → IVec S_ 32) a (Shape.Idx.first h_S_)).toInt) 1 = 0 := rfl
  simp only [h0, h1, Nat.zero_le, Nat.sub_zero, and_true]
  by_cases h : a.val = n
  · rw [dif_pos (by omega), if_pos h]
  · rw [dif_neg (by omega), if_neg h]

end Cert.Proof.Ref

end
-- ==== Proof.Steps.lean ====
module

public import proofs.«01_k».proof.Proof.RefRead

@[expose] public section

set_option maxRecDepth 16384

/-! The comparison of areas that both programs make, over the reals. -/

noncomputable section

namespace Cert.Proof.Ref

open Idealize.ShloMosaic Idealize.ShloMosaic.TcCoe
open Cert.Proof.BodyIdeal (cov)

theorem half_val : Ideal.ofBits .f32 0x3F000000#32 = ((1 / 2 : ℝ) : EReal) := by
  simp [Ideal.ofBits, Ideal.ieee, -EReal.coe_mul]; norm_num
theorem small_val : Ideal.ofBits .f32 0x3089705F#32 = ((9007199 / 9007199254740992 : ℝ) : EReal) := by
  simp [Ideal.ofBits, Ideal.ieee, -EReal.coe_mul]; norm_num
theorem third_val : (Cert.Proof.BodyIdeal.third : Ideal .f32) = ((1 / 3 : ℝ) : EReal) :=
  IdealRules.named_const.ideal_named_scalar _ _ _ _ rfl
theorem eps3_val : (Cert.Proof.BodyIdeal.eps3 : Ideal .f32) = ((9007199 / 27021597764222976 : ℝ) : EReal) :=
  IdealRules.named_const.ideal_named_scalar _ _ _ _ rfl

theorem coe_max' (a b : ℝ) : max (a : EReal) (b : EReal) = ((max a b : ℝ) : EReal) := (EReal.coe_strictMono.monotone.map_max).symm
theorem coe_min' (a b : ℝ) : min (a : EReal) (b : EReal) = ((min a b : ℝ) : EReal) := (EReal.coe_strictMono.monotone.map_min).symm

/-- The length two intervals share. -/
def share (a b c d : ℝ) : ℝ := max 0 (min b d - max a c)

theorem share_nonneg (a b c d : ℝ) : 0 ≤ share a b c d := le_max_left _ _
theorem share_le (a b c d : ℝ) (h : a ≤ b) : share a b c d ≤ b - a := by
  unfold share
  refine max_le (by linarith) ?_
  have h1 := min_le_left b d
  have h2 := le_max_left a c
  linarith
theorem share_self (a b : ℝ) (h : a ≤ b) : share a b a b = b - a := by
  unfold share
  rw [min_self, max_self, max_eq_right (by linarith)]

theorem cov_real (w1 w2 w3 w4 x1 x2 x3 x4 : ℝ) :
    cov w1 w2 w3 w4 x1 x2 x3 x4 (((x3 : EReal) - x1) * (x4 - x2) * (Cert.Proof.BodyIdeal.third : Ideal .f32)) ↔
      (x3 - x1) * (x4 - x2) * (1 / 3) + ((w3 - w1) * (w4 - w2) * (1 / 3) + 9007199 / 27021597764222976) <
        share w1 w3 x1 x3 * share w2 w4 x2 x4 := by
  unfold cov
  rw [third_val, eps3_val, ← EReal.coe_zero]
  simp only [coe_max', coe_min', ← EReal.coe_sub, ← EReal.coe_mul, ← EReal.coe_add, EReal.coe_lt_coe_iff]
  unfold share
  rw [max_comm _ (0 : ℝ), max_comm _ (0 : ℝ)]

/-- Half of the union, against a third of both areas. -/
theorem overlap_iff (w1 w2 w3 w4 x1 x2 x3 x4 : ℝ) (hw : w1 ≤ w3) (hw' : w2 ≤ w4) (hx : x1 ≤ x3) (hx' : x2 ≤ x4) :
    Ideal.ofBits .f32 0x3F000000#32 < Ideal.div
        (max 0 (min (w3 : EReal) x3 - max (w1 : EReal) x1) * max 0 (min (w4 : EReal) x4 - max (w2 : EReal) x2))
        (((w3 : EReal) - w1) * (w4 - w2) + ((x3 : EReal) - x1) * (x4 - x2) -
          max 0 (min (w3 : EReal) x3 - max (w1 : EReal) x1) * max 0 (min (w4 : EReal) x4 - max (w2 : EReal) x2) + Ideal.ofBits .f32 0x3089705F#32) ↔
      cov w1 w2 w3 w4 x1 x2 x3 x4 (((x3 : EReal) - x1) * (x4 - x2) * (Cert.Proof.BodyIdeal.third : Ideal .f32)) := by
  rw [cov_real, half_val, small_val, ← EReal.coe_zero]
  simp only [coe_max', coe_min', ← EReal.coe_sub, ← EReal.coe_mul, ← EReal.coe_add]
  change _ < Ideal.div ((share w1 w3 x1 x3 * share w2 w4 x2 x4 : ℝ) : EReal)
    (((w3 - w1) * (w4 - w2) + (x3 - x1) * (x4 - x2) - share w1 w3 x1 x3 * share w2 w4 x2 x4 + 9007199 / 9007199254740992 : ℝ) : EReal) ↔ _
  have hI : share w1 w3 x1 x3 * share w2 w4 x2 x4 ≤ (w3 - w1) * (w4 - w2) :=
    mul_le_mul (share_le _ _ _ _ hw) (share_le _ _ _ _ hw') (share_nonneg _ _ _ _) (by linarith)
  have hX : 0 ≤ (x3 - x1) * (x4 - x2) := mul_nonneg (by linarith) (by linarith)
  generalize share w1 w3 x1 x3 * share w2 w4 x2 x4 = I at *
  generalize (w3 - w1) * (w4 - w2) = W at *
  generalize (x3 - x1) * (x4 - x2) = X at *
  have hd : 0 < W + X - I + 9007199 / 9007199254740992 := by linarith
  rw [Ideal.div_coe hd.ne', ← EReal.coe_mul, EReal.coe_lt_coe_iff, mul_one_div, lt_div_iff₀ hd]
  constructor <;> intro h <;> linarith

theorem cov_self (w1 w2 w3 w4 : ℝ) (hw : w1 ≤ w3) (hw' : w2 ≤ w4) (ha : 9007199 / 9007199254740992 < (w3 - w1) * (w4 - w2)) :
    cov w1 w2 w3 w4 w1 w2 w3 w4 (((w3 : EReal) - w1) * (w4 - w2) * (Cert.Proof.BodyIdeal.third : Ideal .f32)) := by
  rw [cov_real, share_self _ _ hw, share_self _ _ hw']
  linarith

end Cert.Proof.Ref

end
-- ==== Proof.Winner.lean ====
module

public import proofs.«01_k».proof.Proof.Steps

@[expose] public section

set_option maxRecDepth 16384

/-! The reference's search under the precondition. -/

noncomputable section

namespace Cert.Proof.Ref

open Cert.ReferenceIdeal Cert.ReferenceIdeal.Gen
open Idealize.ShloMosaic Idealize.ShloMosaic.TcCoe
open Idealize.ShloMosaic.ValueIdx (eq_zero_of_ne_one)
open Cert.Proof.BodyIdeal (cmp_ogt cmp_olt or_one and_one cmpi_eq_one select_true select_false select_ite cov neg_val halfNeg_val thresh_val neg halfNeg)

variable (b : FVec Ideal S20000x4 .f32) (raw : FVec Ideal S20000 .f32)

/-- The box chosen at step `k`. -/
def win (k : ℕ) : Fin 20000 := place (argm (scoresR b raw k))
/-- The score of box `j` before step `k`. -/
def sc (k : ℕ) (j : Fin 20000) : EReal := scoresR b raw k (ix1 j)
/-- A corner of a box as a real number. -/
def bx (j : Fin 20000) (k : Fin 4) : ℝ := (b (ix2 j k)).toReal

theorem inf_val : Ideal.ofBits .f32 0x7F800000#32 = ⊤ := by
  simp [Ideal.ofBits, Ideal.ieee]

variable (h : Cert.Pre_no_tie.fn (F := Ideal) b raw = fun _ => 1#1)
include h

theorem coe_bx (j : Fin 20000) (k : Fin 4) : b (ix2 j k) = (bx b j k : EReal) := by
  have h1 := (parts b raw h).1 (ix2 j k)
  unfold finiteBoxes at h1
  pointwise at h1
  rw [Cert.Proof.BodyIdeal.ofBool_one, decide_eq_true_iff, inf_val] at h1
  have h2 : max (b (ix2 j k)) (-(b (ix2 j k))) < ⊤ := h1
  obtain ⟨ht, hb⟩ := max_lt_iff.mp h2
  refine (EReal.coe_toReal ht.ne fun e => ?_).symm
  rw [e] at hb
  exact absurd hb (by simp)

theorem raw_lt (j : Fin 20000) : raw (ix1 j) < ⊤ := by
  have h1 := (parts b raw h).2.1 (ix1 j)
  unfold finiteScores at h1
  pointwise at h1
  rw [Cert.Proof.BodyIdeal.ofBool_one, decide_eq_true_iff, inf_val] at h1
  exact h1

theorem proper (j : Fin 20000) : bx b j 0 < bx b j 2 ∧ bx b j 1 < bx b j 3 ∧
    9007199 / 9007199254740992 < (bx b j 2 - bx b j 0) * (bx b j 3 - bx b j 1) := by
  have h1 := (parts b raw h).2.2.1 (ix1 j)
  unfold properBoxes at h1
  pointwise at h1
  rw [and_one, and_one, Cert.Proof.BodyIdeal.ofBool_one, decide_eq_true_iff, Cert.Proof.BodyIdeal.ofBool_one, decide_eq_true_iff,
    Cert.Proof.BodyIdeal.ofBool_one, decide_eq_true_iff, areas_apply, small_val, corners_apply b 0 (by omega), corners_apply b 1 (by omega),
    corners_apply b 2 (by omega), corners_apply b 3 (by omega)] at h1
  obtain ⟨⟨h1, h2⟩, h3⟩ := h1
  have e0 := coe_bx b raw h j 0
  have e1 := coe_bx b raw h j 1
  have e2 := coe_bx b raw h j 2
  have e3 := coe_bx b raw h j 3
  change b (ix2 j 0) < b (ix2 j 2) at h1
  change b (ix2 j 1) < b (ix2 j 3) at h2
  rw [e0, e2, EReal.coe_lt_coe_iff] at h1
  rw [e1, e3, EReal.coe_lt_coe_iff] at h2
  rw [e0, e1, e2, e3, ← EReal.coe_sub, ← EReal.coe_sub, ← EReal.coe_mul, EReal.coe_lt_coe_iff] at h3
  exact ⟨h1, h2, h3⟩

theorem alone_apply (k : ℕ) (hk : k < 100) (j : Fin 20000) : sc b raw k j < sc b raw k (win b raw k) ∨
    BitVec.ofNat 32 j.val = argm (scoresR b raw k) ix0 := by
  have h1 := (parts b raw h).2.2.2 k hk (ix1 j)
  pointwise at h1
  rw [or_one, Cert.Proof.BodyIdeal.ofBool_one, decide_eq_true_iff, scoreAt_apply, isIt_apply] at h1
  exact h1

theorem argm_eq (k : ℕ) (hk : k < 100) : argm (scoresR b raw k) ix0 = BitVec.ofNat 32 (win b raw k).val :=
  ((alone_apply b raw h k hk (win b raw k)).resolve_left (lt_irrefl _)).symm

theorem it_iff (k : ℕ) (hk : k < 100) (j : Fin 20000) : BitVec.ofNat 32 j.val = argm (scoresR b raw k) ix0 ↔ j = win b raw k := by
  rw [argm_eq b raw h k hk]
  refine ⟨fun e => Fin.ext (Cert.Proof.BodyIdeal.ofNat_inj (by omega) (by omega) e), fun e => by rw [e]⟩

/-- The chosen score is above every other. -/
theorem win_best (k : ℕ) (hk : k < 100) (j : Fin 20000) (hj : j ≠ win b raw k) : sc b raw k j < sc b raw k (win b raw k) :=
  (alone_apply b raw h k hk j).resolve_right fun e => hj ((it_iff b raw h k hk j).mp e)

open scoped Classical in
/-- One step, at one box. -/
theorem sc_succ (k : ℕ) (hk : k < 100) (j : Fin 20000) : sc b raw (k + 1) j =
    if j = win b raw k ∨ cov (bx b (win b raw k) 0) (bx b (win b raw k) 1) (bx b (win b raw k) 2) (bx b (win b raw k) 3) (bx b j 0) (bx b j 1) (bx b j 2) (bx b j 3)
        (((bx b j 2 : EReal) - bx b j 0) * (bx b j 3 - bx b j 1) * (Cert.Proof.BodyIdeal.third : Ideal .f32)) then (neg : Ideal .f32) else sc b raw k j := by
  have hw := proper b raw h (win b raw k)
  have hj := proper b raw h j
  refine (newS_apply b _ _ j).trans (if_congr (Or.comm.trans (or_congr (it_iff b raw h k hk j) ?_)) rfl rfl)
  rw [overlap_apply, inter_apply, area1_apply, areas_apply]
  simp only [boxAt_apply]
  change Ideal.ofBits .f32 0x3F000000#32 < Ideal.div (max 0 (min (b (ix2 (win b raw k) 2)) (b (ix2 j 2)) - max (b (ix2 (win b raw k) 0)) (b (ix2 j 0))) *
        max 0 (min (b (ix2 (win b raw k) 3)) (b (ix2 j 3)) - max (b (ix2 (win b raw k) 1)) (b (ix2 j 1))))
      ((b (ix2 (win b raw k) 2) - b (ix2 (win b raw k) 0)) * (b (ix2 (win b raw k) 3) - b (ix2 (win b raw k) 1)) +
        (b (ix2 j 2) - b (ix2 j 0)) * (b (ix2 j 3) - b (ix2 j 1)) -
        max 0 (min (b (ix2 (win b raw k) 2)) (b (ix2 j 2)) - max (b (ix2 (win b raw k) 0)) (b (ix2 j 0))) *
        max 0 (min (b (ix2 (win b raw k) 3)) (b (ix2 j 3)) - max (b (ix2 (win b raw k) 1)) (b (ix2 j 1))) + Ideal.ofBits .f32 0x3089705F#32) ↔ _
  simp only [coe_bx b raw h]
  exact overlap_iff _ _ _ _ _ _ _ _ hw.1.le hw.2.1.le hj.1.le hj.2.1.le

/-- A score is either struck out or as it was given. -/
theorem sc_cases : ∀ k ≤ 100, ∀ j, sc b raw k j = (neg : Ideal .f32) ∨ (sc b raw k j = raw (ix1 j) ∧ Ideal.ofBits .f32 0x3D4CCCCD#32 < raw (ix1 j))
  | 0, _, j => by
    have e := startS_apply raw j
    by_cases ht : Ideal.ofBits .f32 0x3D4CCCCD#32 < raw (ix1 j)
    · rw [if_pos ht] at e
      exact .inr ⟨e, ht⟩
    · rw [if_neg ht] at e
      exact .inl e
  | k + 1, hk, j => by
    rw [sc_succ b raw h k (by omega) j]
    split
    · exact .inl rfl
    · exact sc_cases k (by omega) j

omit h in
theorem neg_lt_thresh : (neg : Ideal .f32) < Ideal.ofBits .f32 0x3D4CCCCD#32 := by
  rw [neg_val, thresh_val, EReal.coe_lt_coe_iff]
  norm_num

theorem sc_ge (k : ℕ) (hk : k ≤ 100) (j : Fin 20000) : (neg : Ideal .f32) ≤ sc b raw k j := by
  rcases sc_cases b raw h k hk j with e | ⟨e, ht⟩
  · rw [e]
  · rw [e]
    exact (neg_lt_thresh.trans ht).le

/-- The chosen score was given so and passes the threshold. -/
theorem win_score (k : ℕ) (hk : k < 100) : sc b raw k (win b raw k) = raw (ix1 (win b raw k)) ∧ Ideal.ofBits .f32 0x3D4CCCCD#32 < raw (ix1 (win b raw k)) := by
  refine (sc_cases b raw h k hk.le (win b raw k)).resolve_left fun e => ?_
  obtain ⟨j, hj⟩ : ∃ j : Fin 20000, j ≠ win b raw k := by
    by_cases h0 : win b raw k = 0
    · exact ⟨1, by rw [h0]; decide⟩
    · exact ⟨0, Ne.symm h0⟩
  have h1 := win_best b raw h k hk j hj
  rw [e] at h1
  exact absurd (sc_ge b raw h k hk.le j) (not_le.mpr h1)

/-- The chosen score as a real number. -/
def top (k : ℕ) : ℝ := (raw (ix1 (win b raw k))).toReal

theorem coe_top (k : ℕ) (hk : k < 100) : raw (ix1 (win b raw k)) = (top b raw k : EReal) :=
  (EReal.coe_toReal (raw_lt b raw h _).ne fun e => by
    have h1 := (win_score b raw h k hk).2
    rw [e] at h1
    exact absurd h1 not_lt_bot).symm

theorem top_big (k : ℕ) (hk : k < 100) : (halfNeg : Ideal .f32) < (top b raw k : EReal) := by
  rw [← coe_top b raw h k hk]
  refine lt_trans ?_ (win_score b raw h k hk).2
  rw [halfNeg_val, thresh_val, EReal.coe_lt_coe_iff]
  norm_num

/-- The detections: the chosen boxes in turn, each with its score. -/
theorem rows_apply : ∀ n ≤ 100, ∀ (a : Fin 100) (l : Fin 5), a.val < n → rowsR b raw n (ix2 a l) =
    if hl : l.val < 4 then (bx b (win b raw a.val) ⟨l.val, hl⟩ : EReal) else (top b raw a.val : EReal)
  | 0, _, a, l, ha => absurd ha (Nat.not_lt_zero _)
  | n + 1, hn, a, l, ha => by
    refine (putRow_apply _ _ _ n (by omega) (by simp [Scf.iv]) a l).trans ?_
    by_cases e : a.val = n
    · rw [if_pos e, detRow_apply, e]
      · change (if hl : l.val < 4 then b (ix2 (win b raw n) ⟨l.val, hl⟩) else raw (ix1 (win b raw n))) = _
        simp only [coe_bx b raw h, coe_top b raw h n (by omega)]
      · change (halfNeg : Ideal .f32) < sc b raw n (win b raw n)
        rw [(win_score b raw h n (by omega)).1, coe_top b raw h n (by omega)]
        exact top_big b raw h n (by omega)
    · rw [if_neg e]
      exact rows_apply n (by omega) a l (by omega)

end Cert.Proof.Ref

end
-- ==== Proof.Inputs.lean ====
module

public import proofs.«01_k».proof.Proof.Run
public import Idealize.ShloMosaic.Lib.Pointwise
public import Idealize.ShloMosaic.Lib.ValueIdx
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import Idealize.ShloMosaic.Lib.Quiescent
public import Idealize.ShloMosaic.Lib.Claim

@[expose] public section

set_option maxRecDepth 16384

/-! The arrays the kernel's launch reads: the columns of the boxes and the scores, laid out in 160 rows and 128 lanes. -/

noncomputable section

namespace Cert.Proof.BodyIdeal

open Cert.KernelIdeal Cert.KernelIdeal.Gen
open Idealize.ShloMosaic Idealize.ShloMosaic.TcCoe Idealize.ShloMosaic.Tactic
open Idealize.ShloMosaic.ValueIdx (eq_zero_of_ne_one)

variable {F : FTy → Type} [FloatOps F] [Named F]
variable (m : (ℓ : Loc nD τ sig) → Buf (Elt F) ℓ)

/-- A vector of one number per box, filled up and laid out, the first boxes in the last lane. -/
def layout (x : FVec F S20000 .f32) (v : BitVec 32) : FVec F S160x128 .f32 :=
  Host.reverse [1] (transpose S160x128 [1, 0] (shapeCast S128x160 (pad S20480 ![0] ![480] ![0] x (constant S_ .f32 v) pads_S20000_S20480_04800 h_S_)
    shapeCasts_S20480_S128x160) transposes_S128x160_S160x128_1_0)

/-- One corner of every box. -/
def column (b : FVec F S20000x4 .f32) (k : ℕ) (h : S20000x4.Slices (![0, k] : Fin 2 → ℕ) S20000x1) : FVec F S20000 .f32 :=
  shapeCast S20000 (extractStridedSlice S20000x1 ![0, k] b h) shapeCasts_S20000x1_S20000

theorem V_main_v5 (c : Dev nD) : V m c main_v5 = layout (column (m ((c : Thread nD τ).loc main_arg0)) 0 slices_S20000x4_S20000x1_0_0) 0x00000000#32 := by
  show StableHlo.after (List.flatten [hostOps0, hostOps0_1, hostOps0_2, hostOps0_3, hostOps0_4, hostOps0_5, hostOps0_6, hostOps0_7, hostOps0_8, hostOps0_9, hostOps0_10]) _ (Proc.devRef .tc main_v5) = _
  after_reads_simp
  rfl
theorem V_main_v11 (c : Dev nD) : V m c main_v11 = layout (column (m ((c : Thread nD τ).loc main_arg0)) 1 slices_S20000x4_S20000x1_0_1) 0x00000000#32 := by
  show StableHlo.after (List.flatten [hostOps0, hostOps0_1, hostOps0_2, hostOps0_3, hostOps0_4, hostOps0_5, hostOps0_6, hostOps0_7, hostOps0_8, hostOps0_9, hostOps0_10]) _ (Proc.devRef .tc main_v11) = _
  after_reads_simp
  rfl
theorem V_main_v17 (c : Dev nD) : V m c main_v17 = layout (column (m ((c : Thread nD τ).loc main_arg0)) 2 slices_S20000x4_S20000x1_0_2) 0x00000000#32 := by
  show StableHlo.after (List.flatten [hostOps0, hostOps0_1, hostOps0_2, hostOps0_3, hostOps0_4, hostOps0_5, hostOps0_6, hostOps0_7, hostOps0_8, hostOps0_9, hostOps0_10]) _ (Proc.devRef .tc main_v17) = _
  after_reads_simp
  rfl
theorem V_main_v23 (c : Dev nD) : V m c main_v23 = layout (column (m ((c : Thread nD τ).loc main_arg0)) 3 slices_S20000x4_S20000x1_0_3) 0x00000000#32 := by
  show StableHlo.after (List.flatten [hostOps0, hostOps0_1, hostOps0_2, hostOps0_3, hostOps0_4, hostOps0_5, hostOps0_6, hostOps0_7, hostOps0_8, hostOps0_9, hostOps0_10]) _ (Proc.devRef .tc main_v23) = _
  after_reads_simp
  rfl
theorem V_main_v27 (c : Dev nD) : V m c main_v27 = layout (m ((c : Thread nD τ).loc main_arg1)) 0xBF800000#32 := by
  show StableHlo.after (List.flatten [hostOps0, hostOps0_1, hostOps0_2, hostOps0_3, hostOps0_4, hostOps0_5, hostOps0_6, hostOps0_7, hostOps0_8, hostOps0_9, hostOps0_10]) _ (Proc.devRef .tc main_v27) = _
  after_reads_simp
  rfl

theorem column_apply (b : FVec F S20000x4 .f32) (k : ℕ) (hk : k < 4) (h) (j : Fin 20000) : column b k h (ix1 j) = b (ix2 j ⟨k, hk⟩) := by
  unfold column
  pointwise

theorem reverse_apply (x : FVec F S160x128 .f32) (r : Fin 160) (l : Fin 128) : Host.reverse [1] x (ix2 r l) = x (ix2 r l.rev) := by
  unfold Host.reverse
  exact congrArg x (eq_ix2 (n0 := 160) (n1 := 128) _)

theorem layout_apply (x : FVec F S20000 .f32) (v : BitVec 32) (r : Fin 160) (l : Fin 128) : layout x v (ix2 r l) =
    if h : (127 - l.val) * 160 + r.val < 20000 then x (ix1 ⟨(127 - l.val) * 160 + r.val, h⟩) else FloatOps.ofBits .f32 v := by
  unfold layout
  rw [reverse_apply]
  pointwise
  have hl : l.rev.val = 127 - l.val := by rw [Fin.val_rev]; omega
  simp only [hl]

theorem read_0 (c : Dev nD) (f : Buf (Elt F) ((c : Thread nD τ).loc main_v5)) : (win0_0.blk t0_0).view.read (Elt F) f = f :=
  Memref.read_access_unit_zero (Elt F) main_v5
    (show (fun a => (win0_0.index t0_0) a * main_v5.ty.shape.size a) = fun _ => 0 from
      funext fun a => by fin_cases a <;> decide) (fun a => by fin_cases a <;> decide) f
theorem read_1 (c : Dev nD) (f : Buf (Elt F) ((c : Thread nD τ).loc main_v11)) : (win0_1.blk t0_0).view.read (Elt F) f = f :=
  Memref.read_access_unit_zero (Elt F) main_v11
    (show (fun a => (win0_1.index t0_0) a * main_v11.ty.shape.size a) = fun _ => 0 from
      funext fun a => by fin_cases a <;> decide) (fun a => by fin_cases a <;> decide) f
theorem read_2 (c : Dev nD) (f : Buf (Elt F) ((c : Thread nD τ).loc main_v17)) : (win0_2.blk t0_0).view.read (Elt F) f = f :=
  Memref.read_access_unit_zero (Elt F) main_v17
    (show (fun a => (win0_2.index t0_0) a * main_v17.ty.shape.size a) = fun _ => 0 from
      funext fun a => by fin_cases a <;> decide) (fun a => by fin_cases a <;> decide) f
theorem read_3 (c : Dev nD) (f : Buf (Elt F) ((c : Thread nD τ).loc main_v23)) : (win0_3.blk t0_0).view.read (Elt F) f = f :=
  Memref.read_access_unit_zero (Elt F) main_v23
    (show (fun a => (win0_3.index t0_0) a * main_v23.ty.shape.size a) = fun _ => 0 from
      funext fun a => by fin_cases a <;> decide) (fun a => by fin_cases a <;> decide) f
theorem read_4 (c : Dev nD) (f : Buf (Elt F) ((c : Thread nD τ).loc main_v27)) : (win0_4.blk t0_0).view.read (Elt F) f = f :=
  Memref.read_access_unit_zero (Elt F) main_v27
    (show (fun a => (win0_4.index t0_0) a * main_v27.ty.shape.size a) = fun _ => 0 from
      funext fun a => by fin_cases a <;> decide) (fun a => by fin_cases a <;> decide) f
theorem read_5 (c : Dev nD) (f : Buf (Elt F) ((c : Thread nD τ).loc main_v28)) : (win0_5.blk t0_0).view.read (Elt F) f = f :=
  Memref.read_access_unit_zero (Elt F) main_v28
    (show (fun a => (win0_5.index t0_0) a * main_v28.ty.shape.size a) = fun _ => 0 from
      funext fun a => by fin_cases a <;> decide) (fun a => by fin_cases a <;> decide) f
theorem iblk_0 (c : Dev nD) : iblk m c 0 t0_0 = V m c main_v5 := by
  show (win0_0.blk t0_0).view.read (Elt F) (V m c main_v5) = _
  exact read_0 c _
theorem iblk_1 (c : Dev nD) : iblk m c 1 t0_0 = V m c main_v11 := by
  show (win0_1.blk t0_0).view.read (Elt F) (V m c main_v11) = _
  exact read_1 c _
theorem iblk_2 (c : Dev nD) : iblk m c 2 t0_0 = V m c main_v17 := by
  show (win0_2.blk t0_0).view.read (Elt F) (V m c main_v17) = _
  exact read_2 c _
theorem iblk_3 (c : Dev nD) : iblk m c 3 t0_0 = V m c main_v23 := by
  show (win0_3.blk t0_0).view.read (Elt F) (V m c main_v23) = _
  exact read_3 c _
theorem iblk_4 (c : Dev nD) : iblk m c 4 t0_0 = V m c main_v27 := by
  show (win0_4.blk t0_0).view.read (Elt F) (V m c main_v27) = _
  exact read_4 c _

theorem arrAt_out (c : Dev nD) : (dats m 0 c).arrAt 5 cfg0.N = outBlock m c t0_0 := by
  have hw : ((cfg0.win 5).blk t0_0).view.read (Elt F) ((dats m 0 c).arrAt 5 cfg0.N) = (dats m 0 c).flushed 5 t0_0 := by
    rw [show cfg0.N = t0_0.val + 1 from rfl, (dats m 0 c).arrAt_succ (5 : Fin 6) t0_0, flush0_5, if_pos rfl]
    exact View.read_write_univ _ _
  have hf : (dats m 0 c).flushed 5 t0_0 = outBlock m c t0_0 := by
    show (cfg0.win 5).cut _ ((dats m 0 c).after 5 t0_0) = _
    rw [after0_5]
    exact funext fun _ => rfl
  exact (read_5 c _).symm.trans (hw.trans hf)

/-- The result: the first five lanes of the launch's. -/
theorem out_eq (c : Dev nD) : Pipeline.afterTail₀ cfgs (dats m) 0 (V0 m) [hostOps1] c main_v29 =
    extractStridedSlice S100x5 ![0, 0] (outBlock m c t0_0) slices_S100x128_S100x5_0_0 := by
  unfold Pipeline.afterTail₀
  show StableHlo.after hostOps1 _ (Proc.devRef .tc main_v29) = _
  after_reads_simp
  refine congrArg (fun x : FVec F S100x128 .f32 => extractStridedSlice S100x5 ![0, 0] x slices_S100x128_S100x5_0_0) ?_
  exact (Pipeline.withArrays_arr spec0 (by decide) c _ _ 5).trans (arrAt_out m c)

end Cert.Proof.BodyIdeal

end
-- ==== Proof.Value.lean ====
module

public import proofs.«01_k».proof.Defs
public import proofs.«01_k».proof.Proof.Gen.KernelIdeal
public import proofs.«01_k».proof.Proof.Winner
public import proofs.«01_k».proof.Proof.Inputs

@[expose] public section

set_option maxRecDepth 16384

/-! The kernel's result is the reference's: the kernel's grid, read box by box, follows the reference's search. -/

noncomputable section

namespace Cert.Proof.Value

open Idealize.ShloMosaic Idealize.ShloMosaic.TcCoe Idealize.SL.Sem
open Cert.KernelIdeal Cert.KernelIdeal.Gen
open Cert.Proof.BodyIdeal
open Cert.Proof.Ref (sc bx win top coe_bx coe_top)

variable (b : FVec Ideal S20000x4 .f32) (raw : FVec Ideal S20000 .f32)

/-- The number of the box at an entry of the grid. -/
def num (r : Fin 160) (l : Fin 128) : ℕ := (127 - l.val) * 160 + r.val
/-- The row of a box. -/
def rowN (j : Fin 20000) : Fin 160 := ⟨j.val % 160, Nat.mod_lt _ (by omega)⟩
/-- The lane of a box. -/
def laneN (j : Fin 20000) : Fin 128 := ⟨127 - j.val / 160, by omega⟩

theorem num_at (j : Fin 20000) : num (rowN j) (laneN j) = j.val := by
  unfold num rowN laneN
  have := j.isLt
  dsimp only
  omega

theorem at_num (j : Fin 20000) (r : Fin 160) (l : Fin 128) (h : num r l = j.val) : r = rowN j ∧ l = laneN j := by
  unfold num at h
  have := j.isLt
  have := r.isLt
  have := l.isLt
  refine ⟨Fin.ext ?_, Fin.ext ?_⟩
  · show r.val = j.val % 160
    omega
  · show l.val = 127 - j.val / 160
    omega

/-- The reference's scores before step `k`, laid out on the grid. -/
def grid (k : ℕ) : Grid Ideal := fun y =>
  if h : num (y 0) (y 1) < 20000 then sc b raw k ⟨num (y 0) (y 1), h⟩ else (neg : Ideal .f32)

theorem grid_in (k : ℕ) (r : Fin 160) (l : Fin 128) (h : num r l < 20000) : grid b raw k (ix2 r l) = sc b raw k ⟨num r l, h⟩ := dif_pos h
theorem grid_out (k : ℕ) (r : Fin 160) (l : Fin 128) (h : ¬ num r l < 20000) : grid b raw k (ix2 r l) = (neg : Ideal .f32) := dif_neg h
theorem grid_at (k : ℕ) (j : Fin 20000) : grid b raw k (ix2 (rowN j) (laneN j)) = sc b raw k j := by
  have e := num_at j
  rw [grid_in b raw k _ _ (by rw [e]; exact j.isLt)]
  exact congrArg (sc b raw k) (Fin.ext e)

/-- One corner of the boxes on the grid. -/
abbrev corner (k : ℕ) (h : S20000x4.Slices (![0, k] : Fin 2 → ℕ) S20000x1) : Grid Ideal := layout (column b k h) 0x00000000#32

theorem minus_one : FloatOps.ofBits (F := Ideal) .f32 0xBF800000#32 = ((-1 : ℝ) : EReal) := by
  show Ideal.ofBits .f32 0xBF800000#32 = _
  simp [Ideal.ofBits, Ideal.ieee, -EReal.coe_mul]; norm_num

variable (h : Cert.Pre_no_tie.fn (F := Ideal) b raw = fun _ => 1#1)
include h

theorem corner_in (k : ℕ) (hk : k < 4) (hs) (r : Fin 160) (l : Fin 128) (hn : num r l < 20000) :
    corner b k hs (ix2 r l) = (bx b ⟨num r l, hn⟩ ⟨k, hk⟩ : EReal) := by
  rw [corner, layout_apply]
  refine (dif_pos hn).trans ?_
  rw [column_apply b k hk]
  exact coe_bx b raw h _ _

theorem corner_at (k : ℕ) (hk : k < 4) (hs) (j : Fin 20000) : corner b k hs (ix2 (rowN j) (laneN j)) = (bx b j ⟨k, hk⟩ : EReal) := by
  have e := num_at j
  rw [corner_in b raw h k hk hs _ _ (by rw [e]; exact j.isLt)]
  exact congrArg (fun i => (bx b i ⟨k, hk⟩ : EReal)) (Fin.ext e)

theorem trace : Trace (corner b 0 slices_S20000x4_S20000x1_0_0) (corner b 1 slices_S20000x4_S20000x1_0_1) (corner b 2 slices_S20000x4_S20000x1_0_2)
    (corner b 3 slices_S20000x4_S20000x1_0_3) (layout raw 0xBF800000#32) (grid b raw) (fun n => rowN (win b raw n)) (fun n => laneN (win b raw n))
    (fun n => bx b (win b raw n) 0) (fun n => bx b (win b raw n) 1) (fun n => bx b (win b raw n) 2) (fun n => bx b (win b raw n) 3) (top b raw) where
  init := by
    funext y
    obtain ⟨r, l, rfl⟩ : ∃ (r : Fin 160) (l : Fin 128), y = ix2 r l := ⟨y 0, y 1, eq_ix2 (n0 := 160) (n1 := 128) y⟩
    rw [start_apply, layout_apply]
    by_cases hn : (127 - l.val) * 160 + r.val < 20000
    · refine (grid_in b raw 0 r l hn).trans ((Ref.startS_apply raw _).trans ?_)
      rw [dif_pos hn]
      rfl
    · refine (grid_out b raw 0 r l hn).trans ?_
      rw [dif_neg hn, minus_one, thresh_val, if_neg]
      rw [EReal.coe_lt_coe_iff]
      norm_num
  best n hn r l hne := by
    rw [grid_at]
    by_cases hi : num r l < 20000
    · rw [grid_in b raw n r l hi]
      exact Ref.win_best b raw h n hn _ fun e => hne (at_num _ r l (congrArg Fin.val e))
    · rw [grid_out b raw n r l hi, (Ref.win_score b raw h n hn).1]
      exact Ref.neg_lt_thresh.trans (Ref.win_score b raw h n hn).2
  score n hn := by
    rw [grid_at, (Ref.win_score b raw h n hn).1]
    exact coe_top b raw h n hn
  big n hn := Ref.top_big b raw h n hn
  e1 n _ := corner_at b raw h 0 (by omega) _ _
  e2 n _ := corner_at b raw h 1 (by omega) _ _
  e3 n _ := corner_at b raw h 2 (by omega) _ _
  e4 n _ := corner_at b raw h 3 (by omega) _ _
  self n _ := by
    have hp := Ref.proper b raw h (win b raw n)
    rw [area_apply, corner_at b raw h 0 (by omega), corner_at b raw h 1 (by omega), corner_at b raw h 2 (by omega), corner_at b raw h 3 (by omega)]
    exact Ref.cov_self _ _ _ _ hp.1.le hp.2.1.le hp.2.2
  out n hn r l ho := by
    by_cases hi : num r l < 20000
    · rw [grid_in b raw (n + 1) r l hi, Ref.sc_succ b raw h n hn, if_pos]
      refine ho.imp (fun e => Fin.ext ?_) fun e => ?_
      · show num r l = _
        rw [e.1, e.2, num_at]
      · rw [area_apply, corner_in b raw h 0 (by omega) _ _ _ hi, corner_in b raw h 1 (by omega) _ _ _ hi, corner_in b raw h 2 (by omega) _ _ _ hi,
          corner_in b raw h 3 (by omega) _ _ _ hi] at e
        exact e
    · exact grid_out b raw (n + 1) r l hi
  keep n hn r l hk := by
    by_cases hi : num r l < 20000
    · rw [grid_in b raw (n + 1) r l hi, grid_in b raw n r l hi, Ref.sc_succ b raw h n hn, if_neg]
      refine fun ho => hk (ho.imp (fun e => at_num _ r l (congrArg Fin.val e)) fun e => ?_)
      rw [area_apply, corner_in b raw h 0 (by omega) _ _ _ hi, corner_in b raw h 1 (by omega) _ _ _ hi, corner_in b raw h 2 (by omega) _ _ _ hi,
        corner_in b raw h 3 (by omega) _ _ _ hi]
      exact e
    · rw [grid_out b raw (n + 1) r l hi, grid_out b raw n r l hi]

/-- The first five lanes of the kernel's result are the reference's detections. -/
theorem rows_eq : extractStridedSlice S100x5 ![0, 0] (result (corner b 0 slices_S20000x4_S20000x1_0_0) (corner b 1 slices_S20000x4_S20000x1_0_1)
    (corner b 2 slices_S20000x4_S20000x1_0_2) (corner b 3 slices_S20000x4_S20000x1_0_3) (layout raw 0xBF800000#32)) slices_S100x128_S100x5_0_0 = Ref.rowsR b raw 100 := by
  funext y
  obtain ⟨n, k, rfl⟩ : ∃ (n : Fin 100) (k : Fin 5), y = ix2 n k := ⟨y 0, y 1, eq_ix2 (n0 := 100) (n1 := 5) y⟩
  refine Eq.trans ?_ (Ref.rows_apply b raw h 100 le_rfl n k n.isLt).symm
  pointwise
  refine ((trace b raw h).result_eq n _).trans ?_
  unfold five
  match k with
  | 0 => rfl
  | 1 => rfl
  | 2 => rfl
  | 3 => rfl
  | 4 => rfl

omit h in
theorem algebraic : Cert.algebraic_KernelIdeal_ReferenceIdeal := by
  intro m g m' g' hpre harg
  refine ⟨fun c => (Ref.rowsR (F := Ideal) (m ((c.tc : Thread nD τ).loc main_arg0)) (m ((c.tc : Thread nD τ).loc main_arg1)) 100 : FVec Ideal S100x5 .f32), ?_, ?_⟩
  · refine (θ_run _ _ _).mono ?_ (θ_run_and (run m g) (frame m g))
    rintro r ⟨hr, hf, -⟩ c
    refine ⟨?_, hf c⟩
    refine ((hr c).2 main_v29 (Pipeline.mem_restRefs_of main_v29 (by decide) (by decide))).trans ((out_eq m c).trans ?_)
    unfold outBlock
    rw [iblk_0, iblk_1, iblk_2, iblk_3, iblk_4, V_main_v5, V_main_v11, V_main_v17, V_main_v23, V_main_v27]
    exact rows_eq _ _ (hpre c)
  · refine (θ_run _ _ _).mono ?_ (Ref.run m' g')
    rintro r ⟨hr, -⟩ c
    refine ⟨?_, (hr c).2⟩
    rw [(hr c).1, (Ref.atK_at m' c 100).rows, (harg c).1, (harg c).2]

end Cert.Proof.Value

end
-- ==== Proof.lean ====
module

public import proofs.«01_k».proof.Defs
public import proofs.«01_k».proof.Proof.Run
public import proofs.«01_k».proof.Proof.KRun
public import proofs.«01_k».proof.Proof.RefRun
public import proofs.«01_k».proof.Proof.Gen.Kernel
public import proofs.«01_k».proof.Proof.Gen.KernelIdeal
public import proofs.«01_k».proof.Proof.Gen.ReferenceIdeal
public import proofs.«01_k».proof.Proof.Gen.Pre_no_tie
public import Idealize.ShloMosaic.Adequacy
public import Idealize.ShloMosaic.Init
public import proofs.«01_k».proof.Proof.Value

@[expose] public section

/-! The claims, put together: the frames of the three programs, the two named constants, and the value claim. -/

noncomputable section

namespace Cert.Proof

open Idealize.ShloMosaic Idealize.SL.Sem

theorem preserved : Cert.preserves_Kernel_KernelIdeal :=
  ⟨IdealRules.named_const.statement Cert.KernelIdeal.κ "third" .f32 0x3EAAAAAB#32 ((1 / 3 : ℝ) : EReal) rfl,
    IdealRules.named_const.statement Cert.KernelIdeal.κ "eps3" .f32 0x2FB7407F#32
      ((9007199 / 27021597764222976 : ℝ) : EReal) rfl⟩

theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
      ∧ r.2.sem = fun _ => 0) :=
  (θ_run _ _ _).mono (fun _ h => ⟨fun c => (h.1 c).2, h.2⟩) (Ref.run m g)

theorem claim : Cert.Claim :=
  ⟨Cert.Kernel.Gen.facts, Cert.KernelIdeal.Gen.facts, Cert.ReferenceIdeal.Gen.facts, Cert.Pre_no_tie.Gen.facts,
    fun m g _ => BodyKernel.frame m g, fun m g _ => BodyKernel.frame m g, fun m g _ => BodyIdeal.frame m g,
    fun m g _ => reference_frame m g, fun m g _ => reference_frame m g, preserved, Value.algebraic⟩

end Cert.Proof

end
